-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v48_0)) (v1 : (c : Dev Cert.Kernel7Ideal.nD) → Buf (Elt Ideal) ((c.tc : Thread Cert.Kernel7Ideal.nD Cert.Kernel7Ideal.τ).loc Cert.Kernel7Ideal.main_v48_1)) (v2 : (c : Dev Cert.Kernel7Ideal.nD) → Buf (Elt Ideal) ((c.tc : Thread Cert.Kernel7Ideal.nD Cert.Kernel7Ideal.τ).loc Cert.Kernel7Ideal.main_v48_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v48_0) = v0 c
          ∧ r.2.mem ((c.tc : Thread Cert.Kernel7Ideal.nD Cert.Kernel7Ideal.τ).loc Cert.Kernel7Ideal.main_v48_1) = v1 c
          ∧ r.2.mem ((c.tc : Thread Cert.Kernel7Ideal.nD Cert.Kernel7Ideal.τ).loc Cert.Kernel7Ideal.main_v48_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v100) = v0 c
          ∧ r.2.mem ((c.tc : Thread Cert.Reference7Ideal.nD Cert.Reference7Ideal.τ).loc Cert.Reference7Ideal.main_v102) = v1 c
          ∧ r.2.mem ((c.tc : Thread Cert.Reference7Ideal.nD Cert.Reference7Ideal.τ).loc Cert.Reference7Ideal.main_v104) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4x4096x16x192 : Shape := ⟨4, ![4, 4096, 16, 192]⟩
abbrev S4x4096x16x128 : Shape := ⟨4, ![4, 4096, 16, 128]⟩
abbrev S_ : Shape := ⟨0, ![]⟩

class Facts : Prop where
  bcast_S_S4x4096x16x192 : S_.BroadcastsInDim S4x4096x16x192 (![] : Fin 0 → Fin S4x4096x16x192.rank)
  reducesTo_S4x4096x16x192_S_d0_1_2_3 : S4x4096x16x192.ReducesTo [0, 1, 2, 3] S_
  h_S_ : 0 < S_.numel

variable [Facts]

def fn {F : FTy → Type} [FloatOps F] (main_arg0 : FVec F S4x4096x16x192 .f32) (main_arg1 : FVec F S4x4096x16x192 .f32) (main_arg2 : FVec F S4x4096x16x128 .f32) : IVec S_ 1 :=
  let main_v0 : FVec F S4x4096x16x192 .f32 := Host.absf main_arg0
  let main_cst : FVec F S_ .f32 := constant S_ .f32 0x7F800000#32
  let main_v1 : FVec F S4x4096x16x192 .f32 := broadcastInDim S4x4096x16x192 ![] bcast_S_S4x4096x16x192 main_cst
  let main_v2 : IVec S4x4096x16x192 1 := cmpf .olt main_v0 main_v1
  let main_c : IVec S_ 1 := constantI S_ 1 1#1
  let main_v3 : IVec S_ 1 := (fun x v => Host.reduce IntOp.andi x v reducesTo_S4x4096x16x192_S_d0_1_2_3 h_S_) main_v2 main_c
  let main_v4 : FVec F S4x4096x16x192 .f32 := Host.absf main_arg1
  let main_cst_0 : FVec F S_ .f32 := constant S_ .f32 0x7F800000#32
  let main_v5 : FVec F S4x4096x16x192 .f32 := broadcastInDim S4x4096x16x192 ![] bcast_S_S4x4096x16x192 main_cst_0
  let main_v6 : IVec S4x4096x16x192 1 := cmpf .olt main_v4 main_v5
  let main_c_1 : IVec S_ 1 := constantI S_ 1 1#1
  let main_v7 : IVec S_ 1 := (fun x v => Host.reduce IntOp.andi x v reducesTo_S4x4096x16x192_S_d0_1_2_3 h_S_) main_v6 main_c_1
  let main_v8 : IVec S_ 1 := andi main_v3 main_v7
  main_v8
-- ==== Kernel.lean ====
abbrev S4x4096x16x192 : Shape := ⟨4, ![4, 4096, 16, 192]⟩
abbrev S4x4096x16x128 : Shape := ⟨4, ![4, 4096, 16, 128]⟩
abbrev S_ : Shape := ⟨0, ![]⟩
abbrev S4x16x4096x64 : Shape := ⟨4, ![4, 16, 4096, 64]⟩
abbrev S4x16x4096x192 : Shape := ⟨4, ![4, 16, 4096, 192]⟩
abbrev S4x16x4096x256 : Shape := ⟨4, ![4, 16, 4096, 256]⟩
abbrev S4x16x4096x128 : Shape := ⟨4, ![4, 16, 4096, 128]⟩
abbrev S4x4096x2048 : Shape := ⟨3, ![4, 4096, 2048]⟩
abbrev S1x1x1024x256 : Shape := ⟨4, ![1, 1, 1024, 256]⟩
abbrev S1x1x4096x256 : Shape := ⟨4, ![1, 1, 4096, 256]⟩
abbrev S1x1024x128 : Shape := ⟨3, ![1, 1024, 128]⟩
abbrev S1024x1024 : Shape := ⟨2, ![1024, 1024]⟩
abbrev S1024x128 : Shape := ⟨2, ![1024, 128]⟩
abbrev S1024x256 : Shape := ⟨2, ![1024, 256]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1x1x256x256 : Shape := ⟨4, ![1, 1, 256, 256]⟩
abbrev S256x512 : Shape := ⟨2, ![256, 512]⟩
abbrev S1x1x512x256 : Shape := ⟨4, ![1, 1, 512, 256]⟩
abbrev S512x256 : Shape := ⟨2, ![512, 256]⟩
abbrev S256x768 : Shape := ⟨2, ![256, 768]⟩
abbrev S1x1x768x256 : Shape := ⟨4, ![1, 1, 768, 256]⟩
abbrev S768x256 : Shape := ⟨2, ![768, 256]⟩

abbrev nBuf : Space → Nat
  | .hbm => 26
  | .vmem => 12
  | .smem => 0
  | _ => 0

abbrev bufTy : (tb : Table) → Fin (tcTables nBuf tb) → BufTy
  | .hbm, ⟨0, _⟩ => ⟨S4x4096x16x192, .f32⟩
  | .hbm, ⟨1, _⟩ => ⟨S4x4096x16x192, .f32⟩
  | .hbm, ⟨2, _⟩ => ⟨S4x4096x16x128, .f32⟩
  | .hbm, ⟨3, _⟩ => ⟨S_, .bf16⟩
  | .hbm, ⟨4, _⟩ => ⟨S4x16x4096x64, .bf16⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x4096x16x192, .f32⟩
  | .hbm, ⟨13, _⟩ => ⟨S4x4096x16x192, .f32⟩
  | .hbm, ⟨14, _⟩ => ⟨S4x16x4096x192, .f32⟩
  | .hbm, ⟨15, _⟩ => ⟨S4x16x4096x192, .bf16⟩
  | .hbm, ⟨16, _⟩ => ⟨S4x16x4096x256, .bf16⟩
  | .hbm, ⟨17, _⟩ => ⟨S4x16x4096x192, .f32⟩
  | .hbm, ⟨18, _⟩ => ⟨S4x16x4096x192, .bf16⟩
  | .hbm, ⟨19, _⟩ => ⟨S4x16x4096x256, .bf16⟩
  | .hbm, ⟨20, _⟩ => ⟨S4x16x4096x128, .f32⟩
  | .hbm, ⟨21, _⟩ => ⟨S4x16x4096x128, .bf16⟩
  | .hbm, ⟨22, _⟩ => ⟨S_, .bf16⟩
  | .hbm, ⟨23, _⟩ => ⟨S4x16x4096x128, .bf16⟩
  | .hbm, ⟨24, _⟩ => ⟨S4x16x4096x256, .bf16⟩
  | .hbm, ⟨25, _⟩ => ⟨S4x4096x2048, .bf16⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x4096x256, .bf16⟩
  | .local _ .vmem, ⟨5, _⟩ => ⟨S1x1x4096x256, .bf16⟩
  | .local _ .vmem, ⟨6, _⟩ => ⟨S1x1024x128, .bf16⟩
  | .local _ .vmem, ⟨7, _⟩ => ⟨S1x1024x128, .bf16⟩
  | .local _ .vmem, ⟨8, _⟩ => ⟨S1024x1024, .f32⟩
  | .local _ .vmem, ⟨9, _⟩ => ⟨S1024x1024, .f32⟩
  | .local _ .vmem, ⟨10, _⟩ => ⟨S1024x128, .f32⟩
  | .local _ .vmem, ⟨11, _⟩ => ⟨S1024x256, .f32⟩
  | _, _ => ⟨S4x4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 4], ![false, false, false]⟩

def k0_mult1 : BitVec 32 :=
  let c0_i32 : BitVec 32 := 0#32
  c0_i32
@[reducible] def k0_t1_loop (i : grid0.Coords) : Scf.Loop 32 :=
  let c0_i32_20 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let c0_i32_15 : BitVec 32 := 0#32
  let v21 : BitVec 1 := Scalar.cmpi .slt arg2 c0_i32_15
  let v22 : BitVec 32 := Scalar.extui v21
  let v23 : BitVec 32 := Scalar.subi v20 v22
  let c2_i32 : BitVec 32 := 2#32
  let c0_i32_16 : BitVec 32 := 0#32
  let v24 : BitVec 1 := Scalar.cmpi .sgt c2_i32 c0_i32_16
  let v25 : BitVec 32 := Scalar.extui v24
  let c0_i32_17 : BitVec 32 := 0#32
  let v26 : BitVec 1 := Scalar.cmpi .slt c2_i32 c0_i32_17
  let v27 : BitVec 32 := Scalar.extui v26
  let v28 : BitVec 32 := Scalar.subi v25 v27
  let v29 : BitVec 1 := Scalar.cmpi .ne v23 v28
  let v30 : BitVec 32 := Scalar.remsi arg2 c2_i32
  let c0_i32_18 : BitVec 32 := 0#32
  let v31 : BitVec 1 := Scalar.cmpi .ne v30 c0_i32_18
  let v32 : BitVec 1 := Scalar.andi v29 v31
  let v18 : BitVec 32 := Scalar.divsi arg2 c2_i32
  let c1_i32 : BitVec 32 := 1#32
  let v33 : BitVec 32 := Scalar.subi v18 c1_i32
  let v34 : BitVec 32 := Scalar.select v32 v33 v18
  let v35 : BitVec 32 := Scalar.subi v34 c0_i32_20
  let c1_i32_21 : BitVec 32 := 1#32
  let v37 : BitVec 32 := Scalar.divsi v35 c1_i32_21
  let v38 : BitVec 32 := Scalar.muli v37 c1_i32_21
  let v39 : BitVec 32 := Scalar.addi c0_i32_20 v38
  let c1_i32_22 : BitVec 32 := 1#32
  ⟨c0_i32_20, v39, c1_i32_22⟩
def k0_mult2 (i : grid0.Coords) (k0_t1 : Fin (k0_t1_loop i).trips) : BitVec 32 :=
  let c2_i32_40 : BitVec 32 := 2#32
  let c0_i32_20 : BitVec 32 := 0#32
  let c1_i32_22 : BitVec 32 := 1#32
  let arg11 : BitVec 32 := Scf.iv c0_i32_20 c1_i32_22 k0_t1
  let v66 : BitVec 32 := Scalar.muli c2_i32_40 arg11
  let c1_i32_41 : BitVec 32 := 1#32
  let v67 : BitVec 32 := Scalar.addi v66 c1_i32_41
  let c1024_i32 : BitVec 32 := 1024#32
  let v68 : BitVec 32 := Scalar.muli v67 c1024_i32
  v68
def k0_off1 (i : grid0.Coords) (k0_t1 : Fin (k0_t1_loop i).trips) : Fin 4 → Nat :=
  let c0_46 : Index := 0#32
  let c0_47 : Index := 0#32
  let c2_i32_40 : BitVec 32 := 2#32
  let c0_i32_20 : BitVec 32 := 0#32
  let c1_i32_22 : BitVec 32 := 1#32
  let arg11 : BitVec 32 := Scf.iv c0_i32_20 c1_i32_22 k0_t1
  let v66 : BitVec 32 := Scalar.muli c2_i32_40 arg11
  let c1_i32_41 : BitVec 32 := 1#32
  let v67 : BitVec 32 := Scalar.addi v66 c1_i32_41
  let c1024_i32 : BitVec 32 := 1024#32
  let v68 : BitVec 32 := Scalar.muli v67 c1024_i32
  let v69 : BitVec 32 := v68
  let v72 : Index := Scalar.indexCast v69
  let c0_48 : Index := 0#32
  ![0, 0, v72.toNat, 0]
def k0_mult3 (i : grid0.Coords) (k0_t1 : Fin (k0_t1_loop i).trips) : BitVec 32 :=
  let c2_i32_40 : BitVec 32 := 2#32
  let c0_i32_20 : BitVec 32 := 0#32
  let c1_i32_22 : BitVec 32 := 1#32
  let arg11 : BitVec 32 := Scf.iv c0_i32_20 c1_i32_22 k0_t1
  let v66 : BitVec 32 := Scalar.muli c2_i32_40 arg11
  let c1024_i32_52 : BitVec 32 := 1024#32
  let v79 : BitVec 32 := Scalar.muli v66 c1024_i32_52
  v79
def k0_off2 (i : grid0.Coords) (k0_t1 : Fin (k0_t1_loop i).trips) : Fin 4 → Nat :=
  let c0_60 : Index := 0#32
  let c0_61 : Index := 0#32
  let c2_i32_40 : BitVec 32 := 2#32
  let c0_i32_20 : BitVec 32 := 0#32
  let c1_i32_22 : BitVec 32 := 1#32
  let arg11 : BitVec 32 := Scf.iv c0_i32_20 c1_i32_22 k0_t1
  let v66 : BitVec 32 := Scalar.muli c2_i32_40 arg11
  let c1024_i32_52 : BitVec 32 := 1024#32
  let v79 : BitVec 32 := Scalar.muli v66 c1024_i32_52
  let v80 : BitVec 32 := v79
  let v96 : Index := Scalar.indexCast v80
  let c0_62 : Index := 0#32
  ![0, 0, v96.toNat, 0]
def k0_mult4 (i : grid0.Coords) (k0_t1 : Fin (k0_t1_loop i).trips) : BitVec 32 :=
  let c2_i32_40 : BitVec 32 := 2#32
  let c0_i32_20 : BitVec 32 := 0#32
  let c1_i32_22 : BitVec 32 := 1#32
  let arg11 : BitVec 32 := Scf.iv c0_i32_20 c1_i32_22 k0_t1
  let v66 : BitVec 32 := Scalar.muli c2_i32_40 arg11
  let c1024_i32_68 : BitVec 32 := 1024#32
  let v107 : BitVec 32 := Scalar.muli v66 c1024_i32_68
  v107
def k0_mult5 (i : grid0.Coords) (k0_t1 : Fin (k0_t1_loop i).trips) : BitVec 32 :=
  let c2_i32_40 : BitVec 32 := 2#32
  let c0_i32_20 : BitVec 32 := 0#32
  let c1_i32_22 : BitVec 32 := 1#32
  let arg11 : BitVec 32 := Scf.iv c0_i32_20 c1_i32_22 k0_t1
  let v66 : BitVec 32 := Scalar.muli c2_i32_40 arg11
  let c1024_i32_83 : BitVec 32 := 1024#32
  let v135 : BitVec 32 := Scalar.muli v66 c1024_i32_83
  v135
def k0_mult6 (i : grid0.Coords) (k0_t1 : Fin (k0_t1_loop i).trips) : BitVec 32 :=
  let c2_i32_40 : BitVec 32 := 2#32
  let c0_i32_20 : BitVec 32 := 0#32
  let c1_i32_22 : BitVec 32 := 1#32
  let arg11 : BitVec 32 := Scf.iv c0_i32_20 c1_i32_22 k0_t1
  let v66 : BitVec 32 := Scalar.muli c2_i32_40 arg11
  let c1024_i32_98 : BitVec 32 := 1024#32
  let v163 : BitVec 32 := Scalar.muli v66 c1024_i32_98
  v163
def k0_mult7 (i : grid0.Coords) (k0_t1 : Fin (k0_t1_loop i).trips) : BitVec 32 :=
  let c2_i32_113 : BitVec 32 := 2#32
  let c0_i32_20 : BitVec 32 := 0#32
  let c1_i32_22 : BitVec 32 := 1#32
  let arg11 : BitVec 32 := Scf.iv c0_i32_20 c1_i32_22 k0_t1
  let v191 : BitVec 32 := Scalar.muli c2_i32_113 arg11
  let c1_i32_114 : BitVec 32 := 1#32
  let v192 : BitVec 32 := Scalar.addi v191 c1_i32_114
  let c1_i32_115 : BitVec 32 := 1#32
  let v193 : BitVec 32 := Scalar.addi v192 c1_i32_115
  let c1024_i32_116 : BitVec 32 := 1024#32
  let v194 : BitVec 32 := Scalar.muli v193 c1024_i32_116
  v194
def k0_off3 (i : grid0.Coords) (k0_t1 : Fin (k0_t1_loop i).trips) : Fin 4 → Nat :=
  let c0_121 : Index := 0#32
  let c0_122 : Index := 0#32
  let c2_i32_113 : BitVec 32 := 2#32
  let c0_i32_20 : BitVec 32 := 0#32
  let c1_i32_22 : BitVec 32 := 1#32
  let arg11 : BitVec 32 := Scf.iv c0_i32_20 c1_i32_22 k0_t1
  let v191 : BitVec 32 := Scalar.muli c2_i32_113 arg11
  let c1_i32_114 : BitVec 32 := 1#32
  let v192 : BitVec 32 := Scalar.addi v191 c1_i32_114
  let c1_i32_115 : BitVec 32 := 1#32
  let v193 : BitVec 32 := Scalar.addi v192 c1_i32_115
  let c1024_i32_116 : BitVec 32 := 1024#32
  let v194 : BitVec 32 := Scalar.muli v193 c1024_i32_116
  let v195 : BitVec 32 := v194
  let v198 : Index := Scalar.indexCast v195
  let c0_123 : Index := 0#32
  ![0, 0, v198.toNat, 0]
def k0_mult8 (i : grid0.Coords) (k0_t1 : Fin (k0_t1_loop i).trips) : BitVec 32 :=
  let c2_i32_113 : BitVec 32 := 2#32
  let c0_i32_20 : BitVec 32 := 0#32
  let c1_i32_22 : BitVec 32 := 1#32
  let arg11 : BitVec 32 := Scf.iv c0_i32_20 c1_i32_22 k0_t1
  let v191 : BitVec 32 := Scalar.muli c2_i32_113 arg11
  let c1_i32_114 : BitVec 32 := 1#32
  let v192 : BitVec 32 := Scalar.addi v191 c1_i32_114
  let c1024_i32_127 : BitVec 32 := 1024#32
  let v205 : BitVec 32 := Scalar.muli v192 c1024_i32_127
  v205
def k0_mult9 (i : grid0.Coords) (k0_t1 : Fin (k0_t1_loop i).trips) : BitVec 32 :=
  let c2_i32_113 : BitVec 32 := 2#32
  let c0_i32_20 : BitVec 32 := 0#32
  let c1_i32_22 : BitVec 32 := 1#32
  let arg11 : BitVec 32 := Scf.iv c0_i32_20 c1_i32_22 k0_t1
  let v191 : BitVec 32 := Scalar.muli c2_i32_113 arg11
  let c1_i32_114 : BitVec 32 := 1#32
  let v192 : BitVec 32 := Scalar.addi v191 c1_i32_114
  let c1024_i32_143 : BitVec 32 := 1024#32
  let v233 : BitVec 32 := Scalar.muli v192 c1024_i32_143
  v233
def k0_mult10 (i : grid0.Coords) (k0_t1 : Fin (k0_t1_loop i).trips) : BitVec 32 :=
  let c2_i32_113 : BitVec 32 := 2#32
  let c0_i32_20 : BitVec 32 := 0#32
  let c1_i32_22 : BitVec 32 := 1#32
  let arg11 : BitVec 32 := Scf.iv c0_i32_20 c1_i32_22 k0_t1
  let v191 : BitVec 32 := Scalar.muli c2_i32_113 arg11
  let c1_i32_114 : BitVec 32 := 1#32
  let v192 : BitVec 32 := Scalar.addi v191 c1_i32_114
  let c1024_i32_159 : BitVec 32 := 1024#32
  let v261 : BitVec 32 := Scalar.muli v192 c1024_i32_159
  v261
def k0_mult11 (i : grid0.Coords) (k0_t1 : Fin (k0_t1_loop i).trips) : BitVec 32 :=
  let c2_i32_113 : BitVec 32 := 2#32
  let c0_i32_20 : BitVec 32 := 0#32
  let c1_i32_22 : BitVec 32 := 1#32
  let arg11 : BitVec 32 := Scf.iv c0_i32_20 c1_i32_22 k0_t1
  let v191 : BitVec 32 := Scalar.muli c2_i32_113 arg11
  let c1_i32_114 : BitVec 32 := 1#32
  let v192 : BitVec 32 := Scalar.addi v191 c1_i32_114
  let c1024_i32_175 : BitVec 32 := 1024#32
  let v289 : BitVec 32 := Scalar.muli v192 c1024_i32_175
  v289
@[reducible] def k0_t2_loop (i : grid0.Coords) : Scf.Loop 32 :=
  let c0_i32_20 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let c0_i32_15 : BitVec 32 := 0#32
  let v21 : BitVec 1 := Scalar.cmpi .slt arg2 c0_i32_15
  let v22 : BitVec 32 := Scalar.extui v21
  let v23 : BitVec 32 := Scalar.subi v20 v22
  let c2_i32 : BitVec 32 := 2#32
  let c0_i32_16 : BitVec 32 := 0#32
  let v24 : BitVec 1 := Scalar.cmpi .sgt c2_i32 c0_i32_16
  let v25 : BitVec 32 := Scalar.extui v24
  let c0_i32_17 : BitVec 32 := 0#32
  let v26 : BitVec 1 := Scalar.cmpi .slt c2_i32 c0_i32_17
  let v27 : BitVec 32 := Scalar.extui v26
  let v28 : BitVec 32 := Scalar.subi v25 v27
  let v29 : BitVec 1 := Scalar.cmpi .ne v23 v28
  let v30 : BitVec 32 := Scalar.remsi arg2 c2_i32
  let c0_i32_18 : BitVec 32 := 0#32
  let v31 : BitVec 1 := Scalar.cmpi .ne v30 c0_i32_18
  let v32 : BitVec 1 := Scalar.andi v29 v31
  let v18 : BitVec 32 := Scalar.divsi arg2 c2_i32
  let c1_i32 : BitVec 32 := 1#32
  let v33 : BitVec 32 := Scalar.subi v18 c1_i32
  let v34 : BitVec 32 := Scalar.select v32 v33 v18
  let v35 : BitVec 32 := Scalar.subi v34 c0_i32_20
  let c1_i32_21 : BitVec 32 := 1#32
  let v37 : BitVec 32 := Scalar.divsi v35 c1_i32_21
  let v38 : BitVec 32 := Scalar.muli v37 c1_i32_21
  let v39 : BitVec 32 := Scalar.addi c0_i32_20 v38
  let v36 : BitVec 32 := Scalar.addi c0_i32_20 v35
  let c1_i32_23 : BitVec 32 := 1#32
  ⟨v39, v36, c1_i32_23⟩
def k0_mult12 (i : grid0.Coords) (k0_t2 : Fin (k0_t2_loop i).trips) : BitVec 32 :=
  let c2_i32_40 : BitVec 32 := 2#32
  let c0_i32_20 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let c0_i32_15 : BitVec 32 := 0#32
  let v21 : BitVec 1 := Scalar.cmpi .slt arg2 c0_i32_15
  let v22 : BitVec 32 := Scalar.extui v21
  let v23 : BitVec 32 := Scalar.subi v20 v22
  let c2_i32 : BitVec 32 := 2#32
  let c0_i32_16 : BitVec 32 := 0#32
  let v24 : BitVec 1 := Scalar.cmpi .sgt c2_i32 c0_i32_16
  let v25 : BitVec 32 := Scalar.extui v24
  let c0_i32_17 : BitVec 32 := 0#32
  let v26 : BitVec 1 := Scalar.cmpi .slt c2_i32 c0_i32_17
  let v27 : BitVec 32 := Scalar.extui v26
  let v28 : BitVec 32 := Scalar.subi v25 v27
  let v29 : BitVec 1 := Scalar.cmpi .ne v23 v28
  let v30 : BitVec 32 := Scalar.remsi arg2 c2_i32
  let c0_i32_18 : BitVec 32 := 0#32
  let v31 : BitVec 1 := Scalar.cmpi .ne v30 c0_i32_18
  let v32 : BitVec 1 := Scalar.andi v29 v31
  let v18 : BitVec 32 := Scalar.divsi arg2 c2_i32
  let c1_i32 : BitVec 32 := 1#32
  let v33 : BitVec 32 := Scalar.subi v18 c1_i32
  let v34 : BitVec 32 := Scalar.select v32 v33 v18
  let v35 : BitVec 32 := Scalar.subi v34 c0_i32_20
  let c1_i32_21 : BitVec 32 := 1#32
  let v37 : BitVec 32 := Scalar.divsi v35 c1_i32_21
  let v38 : BitVec 32 := Scalar.muli v37 c1_i32_21
  let v39 : BitVec 32 := Scalar.addi c0_i32_20 v38
  let c1_i32_23 : BitVec 32 := 1#32
  let arg11 : BitVec 32 := Scf.iv v39 c1_i32_23 k0_t2
  let v66 : BitVec 32 := Scalar.muli c2_i32_40 arg11
  let c1_i32_41 : BitVec 32 := 1#32
  let v67 : BitVec 32 := Scalar.addi v66 c1_i32_41
  let c1024_i32 : BitVec 32 := 1024#32
  let v68 : BitVec 32 := Scalar.muli v67 c1024_i32
  v68
def k0_off4 (i : grid0.Coords) (k0_t2 : Fin (k0_t2_loop i).trips) : Fin 4 → Nat :=
  let c0_46 : Index := 0#32
  let c0_47 : Index := 0#32
  let c2_i32_40 : BitVec 32 := 2#32
  let c0_i32_20 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let c0_i32_15 : BitVec 32 := 0#32
  let v21 : BitVec 1 := Scalar.cmpi .slt arg2 c0_i32_15
  let v22 : BitVec 32 := Scalar.extui v21
  let v23 : BitVec 32 := Scalar.subi v20 v22
  let c2_i32 : BitVec 32 := 2#32
  let c0_i32_16 : BitVec 32 := 0#32
  let v24 : BitVec 1 := Scalar.cmpi .sgt c2_i32 c0_i32_16
  let v25 : BitVec 32 := Scalar.extui v24
  let c0_i32_17 : BitVec 32 := 0#32
  let v26 : BitVec 1 := Scalar.cmpi .slt c2_i32 c0_i32_17
  let v27 : BitVec 32 := Scalar.extui v26
  let v28 : BitVec 32 := Scalar.subi v25 v27
  let v29 : BitVec 1 := Scalar.cmpi .ne v23 v28
  let v30 : BitVec 32 := Scalar.remsi arg2 c2_i32
  let c0_i32_18 : BitVec 32 := 0#32
  let v31 : BitVec 1 := Scalar.cmpi .ne v30 c0_i32_18
  let v32 : BitVec 1 := Scalar.andi v29 v31
  let v18 : BitVec 32 := Scalar.divsi arg2 c2_i32
  let c1_i32 : BitVec 32 := 1#32
  let v33 : BitVec 32 := Scalar.subi v18 c1_i32
  let v34 : BitVec 32 := Scalar.select v32 v33 v18
  let v35 : BitVec 32 := Scalar.subi v34 c0_i32_20
  let c1_i32_21 : BitVec 32 := 1#32
  let v37 : BitVec 32 := Scalar.divsi v35 c1_i32_21
  let v38 : BitVec 32 := Scalar.muli v37 c1_i32_21
  let v39 : BitVec 32 := Scalar.addi c0_i32_20 v38
  let c1_i32_23 : BitVec 32 := 1#32
  let arg11 : BitVec 32 := Scf.iv v39 c1_i32_23 k0_t2
  let v66 : BitVec 32 := Scalar.muli c2_i32_40 arg11
  let c1_i32_41 : BitVec 32 := 1#32
  let v67 : BitVec 32 := Scalar.addi v66 c1_i32_41
  let c1024_i32 : BitVec 32 := 1024#32
  let v68 : BitVec 32 := Scalar.muli v67 c1024_i32
  let v69 : BitVec 32 := v68
  let v72 : Index := Scalar.indexCast v69
  let c0_48 : Index := 0#32
  ![0, 0, v72.toNat, 0]
def k0_mult13 (i : grid0.Coords) (k0_t2 : Fin (k0_t2_loop i).trips) : BitVec 32 :=
  let c2_i32_40 : BitVec 32 := 2#32
  let c0_i32_20 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let c0_i32_15 : BitVec 32 := 0#32
  let v21 : BitVec 1 := Scalar.cmpi .slt arg2 c0_i32_15
  let v22 : BitVec 32 := Scalar.extui v21
  let v23 : BitVec 32 := Scalar.subi v20 v22
  let c2_i32 : BitVec 32 := 2#32
  let c0_i32_16 : BitVec 32 := 0#32
  let v24 : BitVec 1 := Scalar.cmpi .sgt c2_i32 c0_i32_16
  let v25 : BitVec 32 := Scalar.extui v24
  let c0_i32_17 : BitVec 32 := 0#32
  let v26 : BitVec 1 := Scalar.cmpi .slt c2_i32 c0_i32_17
  let v27 : BitVec 32 := Scalar.extui v26
  let v28 : BitVec 32 := Scalar.subi v25 v27
  let v29 : BitVec 1 := Scalar.cmpi .ne v23 v28
  let v30 : BitVec 32 := Scalar.remsi arg2 c2_i32
  let c0_i32_18 : BitVec 32 := 0#32
  let v31 : BitVec 1 := Scalar.cmpi .ne v30 c0_i32_18
  let v32 : BitVec 1 := Scalar.andi v29 v31
  let v18 : BitVec 32 := Scalar.divsi arg2 c2_i32
  let c1_i32 : BitVec 32 := 1#32
  let v33 : BitVec 32 := Scalar.subi v18 c1_i32
  let v34 : BitVec 32 := Scalar.select v32 v33 v18
  let v35 : BitVec 32 := Scalar.subi v34 c0_i32_20
  let c1_i32_21 : BitVec 32 := 1#32
  let v37 : BitVec 32 := Scalar.divsi v35 c1_i32_21
  let v38 : BitVec 32 := Scalar.muli v37 c1_i32_21
  let v39 : BitVec 32 := Scalar.addi c0_i32_20 v38
  let c1_i32_23 : BitVec 32 := 1#32
  let arg11 : BitVec 32 := Scf.iv v39 c1_i32_23 k0_t2
  let v66 : BitVec 32 := Scalar.muli c2_i32_40 arg11
  let c1024_i32_52 : BitVec 32 := 1024#32
  let v79 : BitVec 32 := Scalar.muli v66 c1024_i32_52
  v79
def k0_off5 (i : grid0.Coords) (k0_t2 : Fin (k0_t2_loop i).trips) : Fin 4 → Nat :=
  let c0_60 : Index := 0#32
  let c0_61 : Index := 0#32
  let c2_i32_40 : BitVec 32 := 2#32
  let c0_i32_20 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let c0_i32_15 : BitVec 32 := 0#32
  let v21 : BitVec 1 := Scalar.cmpi .slt arg2 c0_i32_15
  let v22 : BitVec 32 := Scalar.extui v21
  let v23 : BitVec 32 := Scalar.subi v20 v22
  let c2_i32 : BitVec 32 := 2#32
  let c0_i32_16 : BitVec 32 := 0#32
  let v24 : BitVec 1 := Scalar.cmpi .sgt c2_i32 c0_i32_16
  let v25 : BitVec 32 := Scalar.extui v24
  let c0_i32_17 : BitVec 32 := 0#32
  let v26 : BitVec 1 := Scalar.cmpi .slt c2_i32 c0_i32_17
  let v27 : BitVec 32 := Scalar.extui v26
  let v28 : BitVec 32 := Scalar.subi v25 v27
  let v29 : BitVec 1 := Scalar.cmpi .ne v23 v28
  let v30 : BitVec 32 := Scalar.remsi arg2 c2_i32
  let c0_i32_18 : BitVec 32 := 0#32
  let v31 : BitVec 1 := Scalar.cmpi .ne v30 c0_i32_18
  let v32 : BitVec 1 := Scalar.andi v29 v31
  let v18 : BitVec 32 := Scalar.divsi arg2 c2_i32
  let c1_i32 : BitVec 32 := 1#32
  let v33 : BitVec 32 := Scalar.subi v18 c1_i32
  let v34 : BitVec 32 := Scalar.select v32 v33 v18
  let v35 : BitVec 32 := Scalar.subi v34 c0_i32_20
  let c1_i32_21 : BitVec 32 := 1#32
  let v37 : BitVec 32 := Scalar.divsi v35 c1_i32_21
  let v38 : BitVec 32 := Scalar.muli v37 c1_i32_21
  let v39 : BitVec 32 := Scalar.addi c0_i32_20 v38
  let c1_i32_23 : BitVec 32 := 1#32
  let arg11 : BitVec 32 := Scf.iv v39 c1_i32_23 k0_t2
  let v66 : BitVec 32 := Scalar.muli c2_i32_40 arg11
  let c1024_i32_52 : BitVec 32 := 1024#32
  let v79 : BitVec 32 := Scalar.muli v66 c1024_i32_52
  let v80 : BitVec 32 := v79
  let v96 : Index := Scalar.indexCast v80
  let c0_62 : Index := 0#32
  ![0, 0, v96.toNat, 0]
def k0_mult14 (i : grid0.Coords) (k0_t2 : Fin (k0_t2_loop i).trips) : BitVec 32 :=
  let c2_i32_40 : BitVec 32 := 2#32
  let c0_i32_20 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let c0_i32_15 : BitVec 32 := 0#32
  let v21 : BitVec 1 := Scalar.cmpi .slt arg2 c0_i32_15
  let v22 : BitVec 32 := Scalar.extui v21
  let v23 : BitVec 32 := Scalar.subi v20 v22
  let c2_i32 : BitVec 32 := 2#32
  let c0_i32_16 : BitVec 32 := 0#32
  let v24 : BitVec 1 := Scalar.cmpi .sgt c2_i32 c0_i32_16
  let v25 : BitVec 32 := Scalar.extui v24
  let c0_i32_17 : BitVec 32 := 0#32
  let v26 : BitVec 1 := Scalar.cmpi .slt c2_i32 c0_i32_17
  let v27 : BitVec 32 := Scalar.extui v26
  let v28 : BitVec 32 := Scalar.subi v25 v27
  let v29 : BitVec 1 := Scalar.cmpi .ne v23 v28
  let v30 : BitVec 32 := Scalar.remsi arg2 c2_i32
  let c0_i32_18 : BitVec 32 := 0#32
  let v31 : BitVec 1 := Scalar.cmpi .ne v30 c0_i32_18
  let v32 : BitVec 1 := Scalar.andi v29 v31
  let v18 : BitVec 32 := Scalar.divsi arg2 c2_i32
  let c1_i32 : BitVec 32 := 1#32
  let v33 : BitVec 32 := Scalar.subi v18 c1_i32
  let v34 : BitVec 32 := Scalar.select v32 v33 v18
  let v35 : BitVec 32 := Scalar.subi v34 c0_i32_20
  let c1_i32_21 : BitVec 32 := 1#32
  let v37 : BitVec 32 := Scalar.divsi v35 c1_i32_21
  let v38 : BitVec 32 := Scalar.muli v37 c1_i32_21
  let v39 : BitVec 32 := Scalar.addi c0_i32_20 v38
  let c1_i32_23 : BitVec 32 := 1#32
  let arg11 : BitVec 32 := Scf.iv v39 c1_i32_23 k0_t2
  let v66 : BitVec 32 := Scalar.muli c2_i32_40 arg11
  let c1024_i32_68 : BitVec 32 := 1024#32
  let v107 : BitVec 32 := Scalar.muli v66 c1024_i32_68
  v107
def k0_mult15 (i : grid0.Coords) (k0_t2 : Fin (k0_t2_loop i).trips) : BitVec 32 :=
  let c2_i32_40 : BitVec 32 := 2#32
  let c0_i32_20 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let c0_i32_15 : BitVec 32 := 0#32
  let v21 : BitVec 1 := Scalar.cmpi .slt arg2 c0_i32_15
  let v22 : BitVec 32 := Scalar.extui v21
  let v23 : BitVec 32 := Scalar.subi v20 v22
  let c2_i32 : BitVec 32 := 2#32
  let c0_i32_16 : BitVec 32 := 0#32
  let v24 : BitVec 1 := Scalar.cmpi .sgt c2_i32 c0_i32_16
  let v25 : BitVec 32 := Scalar.extui v24
  let c0_i32_17 : BitVec 32 := 0#32
  let v26 : BitVec 1 := Scalar.cmpi .slt c2_i32 c0_i32_17
  let v27 : BitVec 32 := Scalar.extui v26
  let v28 : BitVec 32 := Scalar.subi v25 v27
  let v29 : BitVec 1 := Scalar.cmpi .ne v23 v28
  let v30 : BitVec 32 := Scalar.remsi arg2 c2_i32
  let c0_i32_18 : BitVec 32 := 0#32
  let v31 : BitVec 1 := Scalar.cmpi .ne v30 c0_i32_18
  let v32 : BitVec 1 := Scalar.andi v29 v31
  let v18 : BitVec 32 := Scalar.divsi arg2 c2_i32
  let c1_i32 : BitVec 32 := 1#32
  let v33 : BitVec 32 := Scalar.subi v18 c1_i32
  let v34 : BitVec 32 := Scalar.select v32 v33 v18
  let v35 : BitVec 32 := Scalar.subi v34 c0_i32_20
  let c1_i32_21 : BitVec 32 := 1#32
  let v37 : BitVec 32 := Scalar.divsi v35 c1_i32_21
  let v38 : BitVec 32 := Scalar.muli v37 c1_i32_21
  let v39 : BitVec 32 := Scalar.addi c0_i32_20 v38
  let c1_i32_23 : BitVec 32 := 1#32
  let arg11 : BitVec 32 := Scf.iv v39 c1_i32_23 k0_t2
  let v66 : BitVec 32 := Scalar.muli c2_i32_40 arg11
  let c1024_i32_83 : BitVec 32 := 1024#32
  let v135 : BitVec 32 := Scalar.muli v66 c1024_i32_83
  v135
def k0_mult16 (i : grid0.Coords) (k0_t2 : Fin (k0_t2_loop i).trips) : BitVec 32 :=
  let c2_i32_40 : BitVec 32 := 2#32
  let c0_i32_20 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let c0_i32_15 : BitVec 32 := 0#32
  let v21 : BitVec 1 := Scalar.cmpi .slt arg2 c0_i32_15
  let v22 : BitVec 32 := Scalar.extui v21
  let v23 : BitVec 32 := Scalar.subi v20 v22
  let c2_i32 : BitVec 32 := 2#32
  let c0_i32_16 : BitVec 32 := 0#32
  let v24 : BitVec 1 := Scalar.cmpi .sgt c2_i32 c0_i32_16
  let v25 : BitVec 32 := Scalar.extui v24
  let c0_i32_17 : BitVec 32 := 0#32
  let v26 : BitVec 1 := Scalar.cmpi .slt c2_i32 c0_i32_17
  let v27 : BitVec 32 := Scalar.extui v26
  let v28 : BitVec 32 := Scalar.subi v25 v27
  let v29 : BitVec 1 := Scalar.cmpi .ne v23 v28
  let v30 : BitVec 32 := Scalar.remsi arg2 c2_i32
  let c0_i32_18 : BitVec 32 := 0#32
  let v31 : BitVec 1 := Scalar.cmpi .ne v30 c0_i32_18
  let v32 : BitVec 1 := Scalar.andi v29 v31
  let v18 : BitVec 32 := Scalar.divsi arg2 c2_i32
  let c1_i32 : BitVec 32 := 1#32
  let v33 : BitVec 32 := Scalar.subi v18 c1_i32
  let v34 : BitVec 32 := Scalar.select v32 v33 v18
  let v35 : BitVec 32 := Scalar.subi v34 c0_i32_20
  let c1_i32_21 : BitVec 32 := 1#32
  let v37 : BitVec 32 := Scalar.divsi v35 c1_i32_21
  let v38 : BitVec 32 := Scalar.muli v37 c1_i32_21
  let v39 : BitVec 32 := Scalar.addi c0_i32_20 v38
  let c1_i32_23 : BitVec 32 := 1#32
  let arg11 : BitVec 32 := Scf.iv v39 c1_i32_23 k0_t2
  let v66 : BitVec 32 := Scalar.muli c2_i32_40 arg11
  let c1024_i32_98 : BitVec 32 := 1024#32
  let v163 : BitVec 32 := Scalar.muli v66 c1024_i32_98
  v163
def k0_mult17 (i : grid0.Coords) (k0_t2 : Fin (k0_t2_loop i).trips) : BitVec 32 :=
  let c2_i32_113 : BitVec 32 := 2#32
  let c0_i32_20 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let c0_i32_15 : BitVec 32 := 0#32
  let v21 : BitVec 1 := Scalar.cmpi .slt arg2 c0_i32_15
  let v22 : BitVec 32 := Scalar.extui v21
  let v23 : BitVec 32 := Scalar.subi v20 v22
  let c2_i32 : BitVec 32 := 2#32
  let c0_i32_16 : BitVec 32 := 0#32
  let v24 : BitVec 1 := Scalar.cmpi .sgt c2_i32 c0_i32_16
  let v25 : BitVec 32 := Scalar.extui v24
  let c0_i32_17 : BitVec 32 := 0#32
  let v26 : BitVec 1 := Scalar.cmpi .slt c2_i32 c0_i32_17
  let v27 : BitVec 32 := Scalar.extui v26
  let v28 : BitVec 32 := Scalar.subi v25 v27
  let v29 : BitVec 1 := Scalar.cmpi .ne v23 v28
  let v30 : BitVec 32 := Scalar.remsi arg2 c2_i32
  let c0_i32_18 : BitVec 32 := 0#32
  let v31 : BitVec 1 := Scalar.cmpi .ne v30 c0_i32_18
  let v32 : BitVec 1 := Scalar.andi v29 v31
  let v18 : BitVec 32 := Scalar.divsi arg2 c2_i32
  let c1_i32 : BitVec 32 := 1#32
  let v33 : BitVec 32 := Scalar.subi v18 c1_i32
  let v34 : BitVec 32 := Scalar.select v32 v33 v18
  let v35 : BitVec 32 := Scalar.subi v34 c0_i32_20
  let c1_i32_21 : BitVec 32 := 1#32
  let v37 : BitVec 32 := Scalar.divsi v35 c1_i32_21
  let v38 : BitVec 32 := Scalar.muli v37 c1_i32_21
  let v39 : BitVec 32 := Scalar.addi c0_i32_20 v38
  let c1_i32_23 : BitVec 32 := 1#32
  let arg11 : BitVec 32 := Scf.iv v39 c1_i32_23 k0_t2
  let v191 : BitVec 32 := Scalar.muli c2_i32_113 arg11
  let c1_i32_114 : BitVec 32 := 1#32
  let v192 : BitVec 32 := Scalar.addi v191 c1_i32_114
  let c1_i32_115 : BitVec 32 := 1#32
  let v193 : BitVec 32 := Scalar.addi v192 c1_i32_115
  let c1024_i32_116 : BitVec 32 := 1024#32
  let v194 : BitVec 32 := Scalar.muli v193 c1024_i32_116
  v194
def k0_off6 (i : grid0.Coords) (k0_t2 : Fin (k0_t2_loop i).trips) : Fin 4 → Nat :=
  let c0_121 : Index := 0#32
  let c0_122 : Index := 0#32
  let c2_i32_113 : BitVec 32 := 2#32
  let c0_i32_20 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let c0_i32_15 : BitVec 32 := 0#32
  let v21 : BitVec 1 := Scalar.cmpi .slt arg2 c0_i32_15
  let v22 : BitVec 32 := Scalar.extui v21
  let v23 : BitVec 32 := Scalar.subi v20 v22
  let c2_i32 : BitVec 32 := 2#32
  let c0_i32_16 : BitVec 32 := 0#32
  let v24 : BitVec 1 := Scalar.cmpi .sgt c2_i32 c0_i32_16
  let v25 : BitVec 32 := Scalar.extui v24
  let c0_i32_17 : BitVec 32 := 0#32
  let v26 : BitVec 1 := Scalar.cmpi .slt c2_i32 c0_i32_17
  let v27 : BitVec 32 := Scalar.extui v26
  let v28 : BitVec 32 := Scalar.subi v25 v27
  let v29 : BitVec 1 := Scalar.cmpi .ne v23 v28
  let v30 : BitVec 32 := Scalar.remsi arg2 c2_i32
  let c0_i32_18 : BitVec 32 := 0#32
  let v31 : BitVec 1 := Scalar.cmpi .ne v30 c0_i32_18
  let v32 : BitVec 1 := Scalar.andi v29 v31
  let v18 : BitVec 32 := Scalar.divsi arg2 c2_i32
  let c1_i32 : BitVec 32 := 1#32
  let v33 : BitVec 32 := Scalar.subi v18 c1_i32
  let v34 : BitVec 32 := Scalar.select v32 v33 v18
  let v35 : BitVec 32 := Scalar.subi v34 c0_i32_20
  let c1_i32_21 : BitVec 32 := 1#32
  let v37 : BitVec 32 := Scalar.divsi v35 c1_i32_21
  let v38 : BitVec 32 := Scalar.muli v37 c1_i32_21
  let v39 : BitVec 32 := Scalar.addi c0_i32_20 v38
  let c1_i32_23 : BitVec 32 := 1#32
  let arg11 : BitVec 32 := Scf.iv v39 c1_i32_23 k0_t2
  let v191 : BitVec 32 := Scalar.muli c2_i32_113 arg11
  let c1_i32_114 : BitVec 32 := 1#32
  let v192 : BitVec 32 := Scalar.addi v191 c1_i32_114
  let c1_i32_115 : BitVec 32 := 1#32
  let v193 : BitVec 32 := Scalar.addi v192 c1_i32_115
  let c1024_i32_116 : BitVec 32 := 1024#32
  let v194 : BitVec 32 := Scalar.muli v193 c1024_i32_116
  let v195 : BitVec 32 := v194
  let v198 : Index := Scalar.indexCast v195
  let c0_123 : Index := 0#32
  ![0, 0, v198.toNat, 0]
def k0_mult18 (i : grid0.Coords) (k0_t2 : Fin (k0_t2_loop i).trips) : BitVec 32 :=
  let c2_i32_113 : BitVec 32 := 2#32
  let c0_i32_20 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let c0_i32_15 : BitVec 32 := 0#32
  let v21 : BitVec 1 := Scalar.cmpi .slt arg2 c0_i32_15
  let v22 : BitVec 32 := Scalar.extui v21
  let v23 : BitVec 32 := Scalar.subi v20 v22
  let c2_i32 : BitVec 32 := 2#32
  let c0_i32_16 : BitVec 32 := 0#32
  let v24 : BitVec 1 := Scalar.cmpi .sgt c2_i32 c0_i32_16
  let v25 : BitVec 32 := Scalar.extui v24
  let c0_i32_17 : BitVec 32 := 0#32
  let v26 : BitVec 1 := Scalar.cmpi .slt c2_i32 c0_i32_17
  let v27 : BitVec 32 := Scalar.extui v26
  let v28 : BitVec 32 := Scalar.subi v25 v27
  let v29 : BitVec 1 := Scalar.cmpi .ne v23 v28
  let v30 : BitVec 32 := Scalar.remsi arg2 c2_i32
  let c0_i32_18 : BitVec 32 := 0#32
  let v31 : BitVec 1 := Scalar.cmpi .ne v30 c0_i32_18
  let v32 : BitVec 1 := Scalar.andi v29 v31
  let v18 : BitVec 32 := Scalar.divsi arg2 c2_i32
  let c1_i32 : BitVec 32 := 1#32
  let v33 : BitVec 32 := Scalar.subi v18 c1_i32
  let v34 : BitVec 32 := Scalar.select v32 v33 v18
  let v35 : BitVec 32 := Scalar.subi v34 c0_i32_20
  let c1_i32_21 : BitVec 32 := 1#32
  let v37 : BitVec 32 := Scalar.divsi v35 c1_i32_21
  let v38 : BitVec 32 := Scalar.muli v37 c1_i32_21
  let v39 : BitVec 32 := Scalar.addi c0_i32_20 v38
  let c1_i32_23 : BitVec 32 := 1#32
  let arg11 : BitVec 32 := Scf.iv v39 c1_i32_23 k0_t2
  let v191 : BitVec 32 := Scalar.muli c2_i32_113 arg11
  let c1_i32_114 : BitVec 32 := 1#32
  let v192 : BitVec 32 := Scalar.addi v191 c1_i32_114
  let c1024_i32_127 : BitVec 32 := 1024#32
  let v205 : BitVec 32 := Scalar.muli v192 c1024_i32_127
  v205
def k0_mult19 (i : grid0.Coords) (k0_t2 : Fin (k0_t2_loop i).trips) : BitVec 32 :=
  let c2_i32_113 : BitVec 32 := 2#32
  let c0_i32_20 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let c0_i32_15 : BitVec 32 := 0#32
  let v21 : BitVec 1 := Scalar.cmpi .slt arg2 c0_i32_15
  let v22 : BitVec 32 := Scalar.extui v21
  let v23 : BitVec 32 := Scalar.subi v20 v22
  let c2_i32 : BitVec 32 := 2#32
  let c0_i32_16 : BitVec 32 := 0#32
  let v24 : BitVec 1 := Scalar.cmpi .sgt c2_i32 c0_i32_16
  let v25 : BitVec 32 := Scalar.extui v24
  let c0_i32_17 : BitVec 32 := 0#32
  let v26 : BitVec 1 := Scalar.cmpi .slt c2_i32 c0_i32_17
  let v27 : BitVec 32 := Scalar.extui v26
  let v28 : BitVec 32 := Scalar.subi v25 v27
  let v29 : BitVec 1 := Scalar.cmpi .ne v23 v28
  let v30 : BitVec 32 := Scalar.remsi arg2 c2_i32
  let c0_i32_18 : BitVec 32 := 0#32
  let v31 : BitVec 1 := Scalar.cmpi .ne v30 c0_i32_18
  let v32 : BitVec 1 := Scalar.andi v29 v31
  let v18 : BitVec 32 := Scalar.divsi arg2 c2_i32
  let c1_i32 : BitVec 32 := 1#32
  let v33 : BitVec 32 := Scalar.subi v18 c1_i32
  let v34 : BitVec 32 := Scalar.select v32 v33 v18
  let v35 : BitVec 32 := Scalar.subi v34 c0_i32_20
  let c1_i32_21 : BitVec 32 := 1#32
  let v37 : BitVec 32 := Scalar.divsi v35 c1_i32_21
  let v38 : BitVec 32 := Scalar.muli v37 c1_i32_21
  let v39 : BitVec 32 := Scalar.addi c0_i32_20 v38
  let c1_i32_23 : BitVec 32 := 1#32
  let arg11 : BitVec 32 := Scf.iv v39 c1_i32_23 k0_t2
  let v191 : BitVec 32 := Scalar.muli c2_i32_113 arg11
  let c1_i32_114 : BitVec 32 := 1#32
  let v192 : BitVec 32 := Scalar.addi v191 c1_i32_114
  let c1024_i32_143 : BitVec 32 := 1024#32
  let v233 : BitVec 32 := Scalar.muli v192 c1024_i32_143
  v233
def k0_mult20 (i : grid0.Coords) (k0_t2 : Fin (k0_t2_loop i).trips) : BitVec 32 :=
  let c2_i32_113 : BitVec 32 := 2#32
  let c0_i32_20 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let c0_i32_15 : BitVec 32 := 0#32
  let v21 : BitVec 1 := Scalar.cmpi .slt arg2 c0_i32_15
  let v22 : BitVec 32 := Scalar.extui v21
  let v23 : BitVec 32 := Scalar.subi v20 v22
  let c2_i32 : BitVec 32 := 2#32
  let c0_i32_16 : BitVec 32 := 0#32
  let v24 : BitVec 1 := Scalar.cmpi .sgt c2_i32 c0_i32_16
  let v25 : BitVec 32 := Scalar.extui v24
  let c0_i32_17 : BitVec 32 := 0#32
  let v26 : BitVec 1 := Scalar.cmpi .slt c2_i32 c0_i32_17
  let v27 : BitVec 32 := Scalar.extui v26
  let v28 : BitVec 32 := Scalar.subi v25 v27
  let v29 : BitVec 1 := Scalar.cmpi .ne v23 v28
  let v30 : BitVec 32 := Scalar.remsi arg2 c2_i32
  let c0_i32_18 : BitVec 32 := 0#32
  let v31 : BitVec 1 := Scalar.cmpi .ne v30 c0_i32_18
  let v32 : BitVec 1 := Scalar.andi v29 v31
  let v18 : BitVec 32 := Scalar.divsi arg2 c2_i32
  let c1_i32 : BitVec 32 := 1#32
  let v33 : BitVec 32 := Scalar.subi v18 c1_i32
  let v34 : BitVec 32 := Scalar.select v32 v33 v18
  let v35 : BitVec 32 := Scalar.subi v34 c0_i32_20
  let c1_i32_21 : BitVec 32 := 1#32
  let v37 : BitVec 32 := Scalar.divsi v35 c1_i32_21
  let v38 : BitVec 32 := Scalar.muli v37 c1_i32_21
  let v39 : BitVec 32 := Scalar.addi c0_i32_20 v38
  let c1_i32_23 : BitVec 32 := 1#32
  let arg11 : BitVec 32 := Scf.iv v39 c1_i32_23 k0_t2
  let v191 : BitVec 32 := Scalar.muli c2_i32_113 arg11
  let c1_i32_114 : BitVec 32 := 1#32
  let v192 : BitVec 32 := Scalar.addi v191 c1_i32_114
  let c1024_i32_159 : BitVec 32 := 1024#32
  let v261 : BitVec 32 := Scalar.muli v192 c1024_i32_159
  v261
def k0_mult21 (i : grid0.Coords) (k0_t2 : Fin (k0_t2_loop i).trips) : BitVec 32 :=
  let c2_i32_113 : BitVec 32 := 2#32
  let c0_i32_20 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let c0_i32_15 : BitVec 32 := 0#32
  let v21 : BitVec 1 := Scalar.cmpi .slt arg2 c0_i32_15
  let v22 : BitVec 32 := Scalar.extui v21
  let v23 : BitVec 32 := Scalar.subi v20 v22
  let c2_i32 : BitVec 32 := 2#32
  let c0_i32_16 : BitVec 32 := 0#32
  let v24 : BitVec 1 := Scalar.cmpi .sgt c2_i32 c0_i32_16
  let v25 : BitVec 32 := Scalar.extui v24
  let c0_i32_17 : BitVec 32 := 0#32
  let v26 : BitVec 1 := Scalar.cmpi .slt c2_i32 c0_i32_17
  let v27 : BitVec 32 := Scalar.extui v26
  let v28 : BitVec 32 := Scalar.subi v25 v27
  let v29 : BitVec 1 := Scalar.cmpi .ne v23 v28
  let v30 : BitVec 32 := Scalar.remsi arg2 c2_i32
  let c0_i32_18 : BitVec 32 := 0#32
  let v31 : BitVec 1 := Scalar.cmpi .ne v30 c0_i32_18
  let v32 : BitVec 1 := Scalar.andi v29 v31
  let v18 : BitVec 32 := Scalar.divsi arg2 c2_i32
  let c1_i32 : BitVec 32 := 1#32
  let v33 : BitVec 32 := Scalar.subi v18 c1_i32
  let v34 : BitVec 32 := Scalar.select v32 v33 v18
  let v35 : BitVec 32 := Scalar.subi v34 c0_i32_20
  let c1_i32_21 : BitVec 32 := 1#32
  let v37 : BitVec 32 := Scalar.divsi v35 c1_i32_21
  let v38 : BitVec 32 := Scalar.muli v37 c1_i32_21
  let v39 : BitVec 32 := Scalar.addi c0_i32_20 v38
  let c1_i32_23 : BitVec 32 := 1#32
  let arg11 : BitVec 32 := Scf.iv v39 c1_i32_23 k0_t2
  let v191 : BitVec 32 := Scalar.muli c2_i32_113 arg11
  let c1_i32_114 : BitVec 32 := 1#32
  let v192 : BitVec 32 := Scalar.addi v191 c1_i32_114
  let c1024_i32_175 : BitVec 32 := 1024#32
  let v289 : BitVec 32 := Scalar.muli v192 c1024_i32_175
  v289
def k0_cond1 (i : grid0.Coords) : BitVec 1 :=
  let arg2 : BitVec 32 := BitVec.ofNat 32 (i 2).val
  let c2_i32_24 : BitVec 32 := 2#32
  let c0_i32_25 : BitVec 32 := 0#32
  let v40 : BitVec 1 := Scalar.cmpi .eq c2_i32_24 c0_i32_25
  let c1_i32_26 : BitVec 32 := 1#32
  let v41 : BitVec 32 := Scalar.select v40 c1_i32_26 c2_i32_24
  let v42 : BitVec 32 := Scalar.remsi arg2 v41
  let c0_i32_28 : BitVec 32 := 0#32
  let v44 : BitVec 1 := Scalar.cmpi .slt v42 c0_i32_28
  let c0_i32_29 : BitVec 32 := 0#32
  let v45 : BitVec 1 := Scalar.cmpi .slt v41 c0_i32_29
  let v46 : BitVec 1 := Scalar.xori v44 v45
  let c0_i32_27 : BitVec 32 := 0#32
  let v43 : BitVec 1 := Scalar.cmpi .ne v42 c0_i32_27
  let v47 : BitVec 1 := Scalar.andi v46 v43
  let v48 : BitVec 32 := Scalar.addi v42 v41
  let v49 : BitVec 32 := Scalar.select v47 v48 v42
  let c0_i32_30 : BitVec 32 := 0#32
  let v50 : BitVec 1 := Scalar.cmpi .eq v49 c0_i32_30
  let v51 : BitVec 32 := Scalar.extui v50
  let c0_i32_31 : BitVec 32 := 0#32
  let v52 : BitVec 1 := Scalar.cmpi .ne v51 c0_i32_31
  v52

def k0_mult22 (i : grid0.Coords) : BitVec 32 :=
  let arg2 : BitVec 32 := BitVec.ofNat 32 (i 2).val
  let c1024_i32 : BitVec 32 := 1024#32
  let v66 : BitVec 32 := Scalar.muli arg2 c1024_i32
  v66
def k0_off7 (i : grid0.Coords) : Fin 4 → Nat :=
  let c0_49 : Index := 0#32
  let c0_50 : Index := 0#32
  let arg2 : BitVec 32 := BitVec.ofNat 32 (i 2).val
  let c1024_i32 : BitVec 32 := 1024#32
  let v66 : BitVec 32 := Scalar.muli arg2 c1024_i32
  let v67 : BitVec 32 := v66
  let v90 : Index := Scalar.indexCast v67
  let c0_51 : Index := 0#32
  ![0, 0, v90.toNat, 0]
def k0_mult23 (i : grid0.Coords) : BitVec 32 :=
  let arg2 : BitVec 32 := BitVec.ofNat 32 (i 2).val
  let c1024_i32_57 : BitVec 32 := 1024#32
  let v101 : BitVec 32 := Scalar.muli arg2 c1024_i32_57
  v101
def k0_off8 (i : grid0.Coords) : Fin 4 → Nat :=
  let c0_65 : Index := 0#32
  let c0_66 : Index := 0#32
  let arg2 : BitVec 32 := BitVec.ofNat 32 (i 2).val
  let c1024_i32_57 : BitVec 32 := 1024#32
  let v101 : BitVec 32 := Scalar.muli arg2 c1024_i32_57
  let v102 : BitVec 32 := v101
  let v125 : Index := Scalar.indexCast v102
  let c0_67 : Index := 0#32
  ![0, 0, v125.toNat, 0]
def k0_mult24 (i : grid0.Coords) : BitVec 32 :=
  let arg2 : BitVec 32 := BitVec.ofNat 32 (i 2).val
  let c1024_i32_73 : BitVec 32 := 1024#32
  let v136 : BitVec 32 := Scalar.muli arg2 c1024_i32_73
  v136
def k0_off9 (i : grid0.Coords) : Fin 4 → Nat :=
  let c0_81 : Index := 0#32
  let c0_82 : Index := 0#32
  let arg2 : BitVec 32 := BitVec.ofNat 32 (i 2).val
  let c1024_i32_73 : BitVec 32 := 1024#32
  let v136 : BitVec 32 := Scalar.muli arg2 c1024_i32_73
  let v137 : BitVec 32 := v136
  let v160 : Index := Scalar.indexCast v137
  let c0_83 : Index := 0#32
  ![0, 0, v160.toNat, 0]
def k0_mult25 (i : grid0.Coords) : BitVec 32 :=
  let arg2 : BitVec 32 := BitVec.ofNat 32 (i 2).val
  let c1024_i32_89 : BitVec 32 := 1024#32
  let v171 : BitVec 32 := Scalar.muli arg2 c1024_i32_89
  v171
def k0_off10 (i : grid0.Coords) : Fin 4 → Nat :=
  let c0_97 : Index := 0#32
  let c0_98 : Index := 0#32
  let arg2 : BitVec 32 := BitVec.ofNat 32 (i 2).val
  let c1024_i32_89 : BitVec 32 := 1024#32
  let v171 : BitVec 32 := Scalar.muli arg2 c1024_i32_89
  let v172 : BitVec 32 := v171
  let v195 : Index := Scalar.indexCast v172
  let c0_99 : Index := 0#32
  ![0, 0, v195.toNat, 0]
def k0_cond2 (i : grid0.Coords) : BitVec 1 :=
  let arg2 : BitVec 32 := BitVec.ofNat 32 (i 2).val
  let c2_i32_32 : BitVec 32 := 2#32
  let c0_i32_33 : BitVec 32 := 0#32
  let v53 : BitVec 1 := Scalar.cmpi .eq c2_i32_32 c0_i32_33
  let c1_i32_34 : BitVec 32 := 1#32
  let v54 : BitVec 32 := Scalar.select v53 c1_i32_34 c2_i32_32
  let v55 : BitVec 32 := Scalar.remsi arg2 v54
  let c0_i32_36 : BitVec 32 := 0#32
  let v57 : BitVec 1 := Scalar.cmpi .slt v55 c0_i32_36
  let c0_i32_37 : BitVec 32 := 0#32
  let v58 : BitVec 1 := Scalar.cmpi .slt v54 c0_i32_37
  let v59 : BitVec 1 := Scalar.xori v57 v58
  let c0_i32_35 : BitVec 32 := 0#32
  let v56 : BitVec 1 := Scalar.cmpi .ne v55 c0_i32_35
  let v60 : BitVec 1 := Scalar.andi v59 v56
  let v61 : BitVec 32 := Scalar.addi v55 v54
  let v62 : BitVec 32 := Scalar.select v60 v61 v55
  let c1_i32_38 : BitVec 32 := 1#32
  let v63 : BitVec 1 := Scalar.cmpi .eq v62 c1_i32_38
  let v64 : BitVec 32 := Scalar.extui v63
  let c0_i32_39 : BitVec 32 := 0#32
  let v65 : BitVec 1 := Scalar.cmpi .ne v64 c0_i32_39
  v65

def k0_mult26 (i : grid0.Coords) : BitVec 32 :=
  let arg2 : BitVec 32 := BitVec.ofNat 32 (i 2).val
  let c1_i32_40 : BitVec 32 := 1#32
  let v66 : BitVec 32 := Scalar.subi arg2 c1_i32_40
  let c1_i32_41 : BitVec 32 := 1#32
  let v67 : BitVec 32 := Scalar.addi v66 c1_i32_41
  let c1024_i32 : BitVec 32 := 1024#32
  let v68 : BitVec 32 := Scalar.muli v67 c1024_i32
  v68
def k0_off11 (i : grid0.Coords) : Fin 4 → Nat :=
  let c0_46 : Index := 0#32
  let c0_47 : Index := 0#32
  let arg2 : BitVec 32 := BitVec.ofNat 32 (i 2).val
  let c1_i32_40 : BitVec 32 := 1#32
  let v66 : BitVec 32 := Scalar.subi arg2 c1_i32_40
  let c1_i32_41 : BitVec 32 := 1#32
  let v67 : BitVec 32 := Scalar.addi v66 c1_i32_41
  let c1024_i32 : BitVec 32 := 1024#32
  let v68 : BitVec 32 := Scalar.muli v67 c1024_i32
  let v69 : BitVec 32 := v68
  let v72 : Index := Scalar.indexCast v69
  let c0_48 : Index := 0#32
  ![0, 0, v72.toNat, 0]
def k0_mult27 (i : grid0.Coords) : BitVec 32 :=
  let arg2 : BitVec 32 := BitVec.ofNat 32 (i 2).val
  let c1_i32_40 : BitVec 32 := 1#32
  let v66 : BitVec 32 := Scalar.subi arg2 c1_i32_40
  let c1024_i32_52 : BitVec 32 := 1024#32
  let v79 : BitVec 32 := Scalar.muli v66 c1024_i32_52
  v79
def k0_off12 (i : grid0.Coords) : Fin 4 → Nat :=
  let c0_60 : Index := 0#32
  let c0_61 : Index := 0#32
  let arg2 : BitVec 32 := BitVec.ofNat 32 (i 2).val
  let c1_i32_40 : BitVec 32 := 1#32
  let v66 : BitVec 32 := Scalar.subi arg2 c1_i32_40
  let c1024_i32_52 : BitVec 32 := 1024#32
  let v79 : BitVec 32 := Scalar.muli v66 c1024_i32_52
  let v80 : BitVec 32 := v79
  let v96 : Index := Scalar.indexCast v80
  let c0_62 : Index := 0#32
  ![0, 0, v96.toNat, 0]
def k0_mult28 (i : grid0.Coords) : BitVec 32 :=
  let arg2 : BitVec 32 := BitVec.ofNat 32 (i 2).val
  let c1_i32_40 : BitVec 32 := 1#32
  let v66 : BitVec 32 := Scalar.subi arg2 c1_i32_40
  let c1024_i32_68 : BitVec 32 := 1024#32
  let v107 : BitVec 32 := Scalar.muli v66 c1024_i32_68
  v107
def k0_mult29 (i : grid0.Coords) : BitVec 32 :=
  let arg2 : BitVec 32 := BitVec.ofNat 32 (i 2).val
  let c1_i32_40 : BitVec 32 := 1#32
  let v66 : BitVec 32 := Scalar.subi arg2 c1_i32_40
  let c1024_i32_83 : BitVec 32 := 1024#32
  let v135 : BitVec 32 := Scalar.muli v66 c1024_i32_83
  v135
def k0_mult30 (i : grid0.Coords) : BitVec 32 :=
  let arg2 : BitVec 32 := BitVec.ofNat 32 (i 2).val
  let c1_i32_40 : BitVec 32 := 1#32
  let v66 : BitVec 32 := Scalar.subi arg2 c1_i32_40
  let c1024_i32_98 : BitVec 32 := 1024#32
  let v163 : BitVec 32 := Scalar.muli v66 c1024_i32_98
  v163
def k0_mult31 (i : grid0.Coords) : BitVec 32 :=
  let arg2 : BitVec 32 := BitVec.ofNat 32 (i 2).val
  let c1024_i32_113 : BitVec 32 := 1024#32
  let v191 : BitVec 32 := Scalar.muli arg2 c1024_i32_113
  v191
def k0_off13 (i : grid0.Coords) : Fin 4 → Nat :=
  let c0_123 : Index := 0#32
  let c0_124 : Index := 0#32
  let arg2 : BitVec 32 := BitVec.ofNat 32 (i 2).val
  let c1024_i32_113 : BitVec 32 := 1024#32
  let v191 : BitVec 32 := Scalar.muli arg2 c1024_i32_113
  let v192 : BitVec 32 := v191
  let v215 : Index := Scalar.indexCast v192
  let c0_125 : Index := 0#32
  ![0, 0, v215.toNat, 0]
def k0_mult32 (i : grid0.Coords) : BitVec 32 :=
  let arg2 : BitVec 32 := BitVec.ofNat 32 (i 2).val
  let c1024_i32_131 : BitVec 32 := 1024#32
  let v226 : BitVec 32 := Scalar.muli arg2 c1024_i32_131
  v226
def k0_off14 (i : grid0.Coords) : Fin 4 → Nat :=
  let c0_140 : Index := 0#32
  let c0_141 : Index := 0#32
  let arg2 : BitVec 32 := BitVec.ofNat 32 (i 2).val
  let c1024_i32_131 : BitVec 32 := 1024#32
  let v226 : BitVec 32 := Scalar.muli arg2 c1024_i32_131
  let v227 : BitVec 32 := v226
  let v250 : Index := Scalar.indexCast v227
  let c0_142 : Index := 0#32
  ![0, 0, v250.toNat, 0]
def k0_mult33 (i : grid0.Coords) : BitVec 32 :=
  let arg2 : BitVec 32 := BitVec.ofNat 32 (i 2).val
  let c1024_i32_148 : BitVec 32 := 1024#32
  let v261 : BitVec 32 := Scalar.muli arg2 c1024_i32_148
  v261
def k0_off15 (i : grid0.Coords) : Fin 4 → Nat :=
  let c0_157 : Index := 0#32
  let c0_158 : Index := 0#32
  let arg2 : BitVec 32 := BitVec.ofNat 32 (i 2).val
  let c1024_i32_148 : BitVec 32 := 1024#32
  let v261 : BitVec 32 := Scalar.muli arg2 c1024_i32_148
  let v262 : BitVec 32 := v261
  let v285 : Index := Scalar.indexCast v262
  let c0_159 : Index := 0#32
  ![0, 0, v285.toNat, 0]
def k0_mult34 (i : grid0.Coords) : BitVec 32 :=
  let arg2 : BitVec 32 := BitVec.ofNat 32 (i 2).val
  let c1024_i32_165 : BitVec 32 := 1024#32
  let v296 : BitVec 32 := Scalar.muli arg2 c1024_i32_165
  v296
def k0_off16 (i : grid0.Coords) : Fin 4 → Nat :=
  let c0_174 : Index := 0#32
  let c0_175 : Index := 0#32
  let arg2 : BitVec 32 := BitVec.ofNat 32 (i 2).val
  let c1024_i32_165 : BitVec 32 := 1024#32
  let v296 : BitVec 32 := Scalar.muli arg2 c1024_i32_165
  let v297 : BitVec 32 := v296
  let v320 : Index := Scalar.indexCast v297
  let c0_176 : Index := 0#32
  ![0, 0, v320.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4096x16x192 : Shape := ⟨4, ![4, 4096, 16, 192]⟩
abbrev S4x4096x16x128 : Shape := ⟨4, ![4, 4096, 16, 128]⟩
abbrev S_ : Shape := ⟨0, ![]⟩
abbrev S4096 : Shape := ⟨1, ![4096]⟩
abbrev S4x16x4096x4096 : Shape := ⟨4, ![4, 16, 4096, 4096]⟩
abbrev S1x4096 : Shape := ⟨2, ![1, 4096]⟩
abbrev S4096x1 : Shape := ⟨2, ![4096, 1]⟩
abbrev S4096x4096 : Shape := ⟨2, ![4096, 4096]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩
abbrev S4x4096x2048 : Shape := ⟨3, ![4, 4096, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x16x192, .f32⟩
  | .hbm, ⟨1, _⟩ => ⟨S4x4096x16x192, .f32⟩
  | .hbm, ⟨2, _⟩ => ⟨S4x4096x16x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096, .i32⟩
  | .hbm, ⟨8, _⟩ => ⟨S4x16x4096x4096, .f32⟩
  | .hbm, ⟨9, _⟩ => ⟨S4x16x4096x4096, .f32⟩
  | .hbm, ⟨10, _⟩ => ⟨S4x16x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S4x16x4096x4096, .i1⟩
  | .hbm, ⟨20, _⟩ => ⟨S4x16x4096x4096, .f32⟩
  | .hbm, ⟨21, _⟩ => ⟨S4x16x4096x4096, .f32⟩
  | .hbm, ⟨22, _⟩ => ⟨S_, .f32⟩
  | .hbm, ⟨23, _⟩ => ⟨S4x16x4096, .f32⟩
  | .hbm, ⟨24, _⟩ => ⟨S_, .f32⟩
  | .hbm, ⟨25, _⟩ => ⟨S4x16x4096, .f32⟩
  | .hbm, ⟨26, _⟩ => ⟨S4x16x4096, .f32⟩
  | .hbm, ⟨27, _⟩ => ⟨S4x16x4096x1, .f32⟩
  | .hbm, ⟨28, _⟩ => ⟨S4x16x4096x4096, .f32⟩
  | .hbm, ⟨29, _⟩ => ⟨S4x16x4096x4096, .f32⟩
  | .hbm, ⟨30, _⟩ => ⟨S4x16x4096x4096, .f32⟩
  | .hbm, ⟨31, _⟩ => ⟨S_, .f32⟩
  | .hbm, ⟨32, _⟩ => ⟨S4x16x4096, .f32⟩
  | .hbm, ⟨33, _⟩ => ⟨S4x16x4096x1, .f32⟩
  | .hbm, ⟨34, _⟩ => ⟨S4x16x4096x4096, .f32⟩
  | .hbm, ⟨35, _⟩ => ⟨S4x16x4096x4096, .f32⟩
  | .hbm, ⟨36, _⟩ => ⟨S4x16x128x4096, .f32⟩
  | .hbm, ⟨37, _⟩ => ⟨S4x4096x16x128, .f32⟩
  | .hbm, ⟨38, _⟩ => ⟨S4x4096x2048, .f32⟩
  | .hbm, ⟨39, _⟩ => ⟨S4x4096x2048, .bf16⟩
  | _, _ => ⟨S4x4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel2.lean ====
abbrev S4x4096x2048 : Shape := ⟨3, ![4, 4096, 2048]⟩
abbrev S2048x13408 : Shape := ⟨2, ![2048, 13408]⟩
abbrev S2048x8192 : Shape := ⟨2, ![2048, 8192]⟩
abbrev S2048x4096 : Shape := ⟨2, ![2048, 4096]⟩
abbrev S2048x12288 : Shape := ⟨2, ![2048, 12288]⟩
abbrev S16384x2048 : Shape := ⟨2, ![16384, 2048]⟩
abbrev S16384x12288 : Shape := ⟨2, ![16384, 12288]⟩
abbrev S1024x2048 : Shape := ⟨2, ![1024, 2048]⟩
abbrev S2048x2048 : Shape := ⟨2, ![2048, 2048]⟩

abbrev nBuf : Space → Nat
  | .hbm => 8
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048x13408, .f32⟩
  | .hbm, ⟨2, _⟩ => ⟨S2048x8192, .f32⟩
  | .hbm, ⟨3, _⟩ => ⟨S2048x4096, .f32⟩
  | .hbm, ⟨4, _⟩ => ⟨S2048x12288, .f32⟩
  | .hbm, ⟨5, _⟩ => ⟨S2048x12288, .bf16⟩
  | .hbm, ⟨6, _⟩ => ⟨S16384x2048, .f32⟩
  | .hbm, ⟨7, _⟩ => ⟨S16384x12288, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4x4096x2048 : Shape := ⟨3, ![4, 4096, 2048]⟩
abbrev S2048x13408 : Shape := ⟨2, ![2048, 13408]⟩
abbrev S4x4096x13408 : Shape := ⟨3, ![4, 4096, 13408]⟩
abbrev S4x4096x512 : Shape := ⟨3, ![4, 4096, 512]⟩
abbrev S4x4096x64 : Shape := ⟨3, ![4, 4096, 64]⟩
abbrev S4x4096x16 : Shape := ⟨3, ![4, 4096, 16]⟩
abbrev S4x4096x12288 : Shape := ⟨3, ![4, 4096, 12288]⟩
abbrev S16384x12288 : Shape := ⟨2, ![16384, 12288]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x13408, .f32⟩
  | .hbm, ⟨2, _⟩ => ⟨S4x4096x13408, .f32⟩
  | .hbm, ⟨3, _⟩ => ⟨S4x4096x512, .f32⟩
  | .hbm, ⟨4, _⟩ => ⟨S4x4096x512, .f32⟩
  | .hbm, ⟨5, _⟩ => ⟨S4x4096x64, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x16, .f32⟩
  | .hbm, ⟨11, _⟩ => ⟨S4x4096x16, .f32⟩
  | .hbm, ⟨12, _⟩ => ⟨S4x4096x2048, .f32⟩
  | .hbm, ⟨13, _⟩ => ⟨S4x4096x2048, .f32⟩
  | .hbm, ⟨14, _⟩ => ⟨S4x4096x12288, .f32⟩
  | .hbm, ⟨15, _⟩ => ⟨S16384x12288, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Kernel3.lean ====
abbrev S4x4096x2048 : Shape := ⟨3, ![4, 4096, 2048]⟩
abbrev S2048x2048 : Shape := ⟨2, ![2048, 2048]⟩
abbrev S_ : Shape := ⟨0, ![]⟩
abbrev S16384x8192 : Shape := ⟨2, ![16384, 8192]⟩
abbrev S16384x2048 : Shape := ⟨2, ![16384, 2048]⟩
abbrev S16384x12288 : Shape := ⟨2, ![16384, 12288]⟩
abbrev S512x2048 : Shape := ⟨2, ![512, 2048]⟩
abbrev S512x1024 : Shape := ⟨2, ![512, 1024]⟩
abbrev S2048x1024 : Shape := ⟨2, ![2048, 1024]⟩

abbrev nBuf : Space → Nat
  | .hbm => 18
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S4x4096x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S16384x8192, .f32⟩
  | .hbm, ⟨8, _⟩ => ⟨S16384x2048, .f32⟩
  | .hbm, ⟨9, _⟩ => ⟨S16384x2048, .f32⟩
  | .hbm, ⟨10, _⟩ => ⟨S16384x12288, .f32⟩
  | .hbm, ⟨11, _⟩ => ⟨S16384x2048, .f32⟩
  | .hbm, ⟨12, _⟩ => ⟨S16384x2048, .bf16⟩
  | .hbm, ⟨13, _⟩ => ⟨S16384x2048, .f32⟩
  | .hbm, ⟨14, _⟩ => ⟨S16384x2048, .bf16⟩
  | .hbm, ⟨15, _⟩ => ⟨S2048x2048, .bf16⟩
  | .hbm, ⟨16, _⟩ => ⟨S2048x2048, .bf16⟩
  | .hbm, ⟨17, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S512x1024, .bf16⟩
  | .local _ .vmem, ⟨13, _⟩ => ⟨S512x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x4096x2048 : Shape := ⟨3, ![4, 4096, 2048]⟩
abbrev S2048x2048 : Shape := ⟨2, ![2048, 2048]⟩
abbrev S_ : Shape := ⟨0, ![]⟩
abbrev S16384x2048 : Shape := ⟨2, ![16384, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S4x4096x2048, .f32⟩
  | .hbm, ⟨4, _⟩ => ⟨S2048x2048, .f32⟩
  | .hbm, ⟨5, _⟩ => ⟨S2048x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S_, .f32⟩
  | .hbm, ⟨11, _⟩ => ⟨S4x4096x2048, .f32⟩
  | .hbm, ⟨12, _⟩ => ⟨S4x4096x2048, .f32⟩
  | .hbm, ⟨13, _⟩ => ⟨S_, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S16384x2048, .f32⟩
  | .hbm, ⟨28, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel4.lean ====
abbrev S4x4096x2048 : Shape := ⟨3, ![4, 4096, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S16384x2048, .bf16⟩
  | .hbm, ⟨7, _⟩ => ⟨S2048x2048, .bf16⟩
  | .hbm, ⟨8, _⟩ => ⟨S16384x2048, .f32⟩
  | .hbm, ⟨9, _⟩ => ⟨S1x2048, .f32⟩
  | .hbm, ⟨10, _⟩ => ⟨S1x2048, .f32⟩
  | .hbm, ⟨11, _⟩ => ⟨S16384x2048, .f32⟩
  | .hbm, ⟨12, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x2048, .f32⟩
  | .hbm, ⟨32, _⟩ => ⟨S4x4096x2048, .f32⟩
  | .hbm, ⟨33, _⟩ => ⟨S1x1x2048, .f32⟩
  | .hbm, ⟨34, _⟩ => ⟨S4x4096x2048, .f32⟩
  | .hbm, ⟨35, _⟩ => ⟨S4x4096x2048, .f32⟩
  | .hbm, ⟨36, _⟩ => ⟨S1x1x2048, .f32⟩
  | .hbm, ⟨37, _⟩ => ⟨S4x4096x2048, .f32⟩
  | .hbm, ⟨38, _⟩ => ⟨S4x4096x2048, .f32⟩
  | .hbm, ⟨39, _⟩ => ⟨S16384x2048, .f32⟩
  | .hbm, ⟨40, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel5.lean ====
abbrev S4x4096x2048 : Shape := ⟨3, ![4, 4096, 2048]⟩
abbrev S2048x13408 : Shape := ⟨2, ![2048, 13408]⟩
abbrev S2048x1088 : Shape := ⟨2, ![2048, 1088]⟩
abbrev S2048x32 : Shape := ⟨2, ![2048, 32]⟩
abbrev S_ : Shape := ⟨0, ![]⟩
abbrev S2048x96 : Shape := ⟨2, ![2048, 96]⟩
abbrev S2048x1280 : Shape := ⟨2, ![2048, 1280]⟩
abbrev S16384x2048 : Shape := ⟨2, ![16384, 2048]⟩
abbrev S16384x1280 : Shape := ⟨2, ![16384, 1280]⟩
abbrev S1024x2048 : Shape := ⟨2, ![1024, 2048]⟩
abbrev S1024x1280 : Shape := ⟨2, ![1024, 1280]⟩

abbrev nBuf : Space → Nat
  | .hbm => 12
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x13408, .f32⟩
  | .hbm, ⟨2, _⟩ => ⟨S2048x1088, .f32⟩
  | .hbm, ⟨3, _⟩ => ⟨S2048x32, .f32⟩
  | .hbm, ⟨4, _⟩ => ⟨S2048x32, .f32⟩
  | .hbm, ⟨5, _⟩ => ⟨S2048x32, .f32⟩
  | .hbm, ⟨6, _⟩ => ⟨S_, .f32⟩
  | .hbm, ⟨7, _⟩ => ⟨S2048x96, .f32⟩
  | .hbm, ⟨8, _⟩ => ⟨S2048x1280, .f32⟩
  | .hbm, ⟨9, _⟩ => ⟨S16384x2048, .f32⟩
  | .hbm, ⟨10, _⟩ => ⟨S2048x1280, .bf16⟩
  | .hbm, ⟨11, _⟩ => ⟨S16384x1280, .f32⟩
  | .local _ .vmem, ⟨0, _⟩ => ⟨S1024x2048, .f32⟩
  | .local _ .vmem, ⟨1, _⟩ => ⟨S1024x2048, .f32⟩
  | .local _ .vmem, ⟨2, _⟩ => ⟨S2048x1280, .bf16⟩
  | .local _ .vmem, ⟨3, _⟩ => ⟨S1024x1280, .f32⟩
  | .local _ .vmem, ⟨4, _⟩ => ⟨S1024x1280, .f32⟩
  | .local _ .vmem, ⟨5, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4x4096x2048 : Shape := ⟨3, ![4, 4096, 2048]⟩
abbrev S2048x13408 : Shape := ⟨2, ![2048, 13408]⟩
abbrev S4x4096x13408 : Shape := ⟨3, ![4, 4096, 13408]⟩
abbrev S4x4096x512 : Shape := ⟨3, ![4, 4096, 512]⟩
abbrev S4x4096x64 : Shape := ⟨3, ![4, 4096, 64]⟩
abbrev S4x4096x16 : Shape := ⟨3, ![4, 4096, 16]⟩
abbrev S4x4096x32 : Shape := ⟨3, ![4, 4096, 32]⟩
abbrev S_ : Shape := ⟨0, ![]⟩
abbrev S4x4096x96 : Shape := ⟨3, ![4, 4096, 96]⟩
abbrev S4x4096x1280 : Shape := ⟨3, ![4, 4096, 1280]⟩
abbrev S16384x1280 : Shape := ⟨2, ![16384, 1280]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x13408, .f32⟩
  | .hbm, ⟨2, _⟩ => ⟨S4x4096x13408, .f32⟩
  | .hbm, ⟨3, _⟩ => ⟨S4x4096x512, .f32⟩
  | .hbm, ⟨4, _⟩ => ⟨S4x4096x512, .f32⟩
  | .hbm, ⟨5, _⟩ => ⟨S4x4096x64, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x16, .f32⟩
  | .hbm, ⟨11, _⟩ => ⟨S4x4096x16, .f32⟩
  | .hbm, ⟨12, _⟩ => ⟨S4x4096x2048, .f32⟩
  | .hbm, ⟨13, _⟩ => ⟨S4x4096x2048, .f32⟩
  | .hbm, ⟨14, _⟩ => ⟨S4x4096x32, .f32⟩
  | .hbm, ⟨15, _⟩ => ⟨S4x4096x32, .f32⟩
  | .hbm, ⟨16, _⟩ => ⟨S_, .f32⟩
  | .hbm, ⟨17, _⟩ => ⟨S4x4096x96, .f32⟩
  | .hbm, ⟨18, _⟩ => ⟨S4x4096x1280, .f32⟩
  | .hbm, ⟨19, _⟩ => ⟨S16384x1280, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Kernel6.lean ====
abbrev S4x256x2048 : Shape := ⟨3, ![4, 256, 2048]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 5
  | .vmem => 4
  | .smem => 0
  | _ => 0

abbrev bufTy : (tb : Table) → Fin (tcTables nBuf tb) → BufTy
  | .hbm, ⟨0, _⟩ => ⟨S4x256x2048, .f32⟩
  | .hbm, ⟨1, _⟩ => ⟨S2048x1024, .f32⟩
  | .hbm, ⟨2, _⟩ => ⟨S1024x2048, .f32⟩
  | .hbm, ⟨3, _⟩ => ⟨S2048x1024, .bf16⟩
  | .hbm, ⟨4, _⟩ => ⟨S1024x1024, .bf16⟩
  | .local _ .vmem, ⟨0, _⟩ => ⟨S1024x2048, .f32⟩
  | .local _ .vmem, ⟨1, _⟩ => ⟨S2048x1024, .bf16⟩
  | .local _ .vmem, ⟨2, _⟩ => ⟨S1024x1024, .bf16⟩
  | .local _ .vmem, ⟨3, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference6Ideal.lean ====
abbrev S4x256x2048 : Shape := ⟨3, ![4, 256, 2048]⟩
abbrev S2048x1024 : Shape := ⟨2, ![2048, 1024]⟩
abbrev S4x256x1024 : Shape := ⟨3, ![4, 256, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2048x1024, .f32⟩
  | .hbm, ⟨2, _⟩ => ⟨S4x256x1024, .f32⟩
  | .hbm, ⟨3, _⟩ => ⟨S1024x1024, .f32⟩
  | .hbm, ⟨4, _⟩ => ⟨S1024x1024, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4x4096x512 : Shape := ⟨3, ![4, 4096, 512]⟩
abbrev S4x4096x64 : Shape := ⟨3, ![4, 4096, 64]⟩
abbrev S4x4096 : Shape := ⟨2, ![4, 4096]⟩
abbrev S512 : Shape := ⟨1, ![512]⟩
abbrev S512x3072 : Shape := ⟨2, ![512, 3072]⟩
abbrev S512x4096 : Shape := ⟨2, ![512, 4096]⟩
abbrev S_ : Shape := ⟨0, ![]⟩
abbrev S4x4096x128 : Shape := ⟨3, ![4, 4096, 128]⟩
abbrev S4x4096x32 : Shape := ⟨3, ![4, 4096, 32]⟩
abbrev S4x4096x1280 : Shape := ⟨3, ![4, 4096, 1280]⟩
abbrev S512x16x192 : Shape := ⟨3, ![512, 16, 192]⟩
abbrev S16x512x192 : Shape := ⟨3, ![16, 512, 192]⟩
abbrev S16x512x64 : Shape := ⟨3, ![16, 512, 64]⟩
abbrev S16x512x32 : Shape := ⟨3, ![16, 512, 32]⟩
abbrev S16x512x256 : Shape := ⟨3, ![16, 512, 256]⟩
abbrev S512x16x256 : Shape := ⟨3, ![512, 16, 256]⟩
abbrev S32 : Shape := ⟨1, ![32]⟩
abbrev S4x4096x1 : Shape := ⟨3, ![4, 4096, 1]⟩
abbrev S1x32 : Shape := ⟨2, ![1, 32]⟩
abbrev S4x32 : Shape := ⟨2, ![4, 32]⟩
abbrev S128 : Shape := ⟨1, ![128]⟩
abbrev S1x1x128 : Shape := ⟨3, ![1, 1, 128]⟩
abbrev S1x512 : Shape := ⟨2, ![1, 512]⟩
abbrev S4x16x4096x256 : Shape := ⟨4, ![4, 16, 4096, 256]⟩
abbrev S1x512x512 : Shape := ⟨3, ![1, 512, 512]⟩
abbrev S1x512x128 : Shape := ⟨3, ![1, 512, 128]⟩
abbrev S1x16x512x256 : Shape := ⟨4, ![1, 16, 512, 256]⟩
abbrev S512x512 : Shape := ⟨2, ![512, 512]⟩
abbrev S512x1 : Shape := ⟨2, ![512, 1]⟩
abbrev S512x128 : Shape := ⟨2, ![512, 128]⟩
abbrev S1x512x256 : Shape := ⟨3, ![1, 512, 256]⟩
abbrev S512x256 : Shape := ⟨2, ![512, 256]⟩
abbrev S1x1x512x128 : Shape := ⟨4, ![1, 1, 512, 128]⟩

abbrev nBuf : Space → Nat
  | .hbm => 70
  | .vmem => 18
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x64, .f32⟩
  | .hbm, ⟨3, _⟩ => ⟨S4x4096, .i32⟩
  | .hbm, ⟨4, _⟩ => ⟨S512, .f32⟩
  | .hbm, ⟨5, _⟩ => ⟨S512, .f32⟩
  | .hbm, ⟨6, _⟩ => ⟨S512x3072, .f32⟩
  | .hbm, ⟨7, _⟩ => ⟨S512x4096, .f32⟩
  | .hbm, ⟨8, _⟩ => ⟨S_, .f32⟩
  | .hbm, ⟨9, _⟩ => ⟨S4x4096x128, .f32⟩
  | .hbm, ⟨10, _⟩ => ⟨S4x4096x32, .f32⟩
  | .hbm, ⟨11, _⟩ => ⟨S4x4096x32, .f32⟩
  | .hbm, ⟨12, _⟩ => ⟨S4x4096x1280, .f32⟩
  | .hbm, ⟨13, _⟩ => ⟨S512x16x192, .f32⟩
  | .hbm, ⟨14, _⟩ => ⟨S16x512x192, .f32⟩
  | .hbm, ⟨15, _⟩ => ⟨S16x512x64, .f32⟩
  | .hbm, ⟨16, _⟩ => ⟨S16x512x32, .f32⟩
  | .hbm, ⟨17, _⟩ => ⟨S16x512x32, .f32⟩
  | .hbm, ⟨18, _⟩ => ⟨S16x512x64, .f32⟩
  | .hbm, ⟨19, _⟩ => ⟨S16x512x256, .f32⟩
  | .hbm, ⟨20, _⟩ => ⟨S16x512x256, .bf16⟩
  | .hbm, ⟨21, _⟩ => ⟨S512x16x256, .f32⟩
  | .hbm, ⟨22, _⟩ => ⟨S16x512x256, .f32⟩
  | .hbm, ⟨23, _⟩ => ⟨S16x512x256, .bf16⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S4x4096, .f32⟩
  | .hbm, ⟨33, _⟩ => ⟨S4x4096x1, .f32⟩
  | .hbm, ⟨34, _⟩ => ⟨S1x32, .f32⟩
  | .hbm, ⟨35, _⟩ => ⟨S4x32, .f32⟩
  | .hbm, ⟨36, _⟩ => ⟨S128, .f32⟩
  | .hbm, ⟨37, _⟩ => ⟨S1x1x128, .f32⟩
  | .hbm, ⟨38, _⟩ => ⟨S4x4096x128, .f32⟩
  | .hbm, ⟨39, _⟩ => ⟨S4x4096x128, .f32⟩
  | .hbm, ⟨40, _⟩ => ⟨S4x4096x128, .f32⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S128, .i1⟩
  | .hbm, ⟨49, _⟩ => ⟨S_, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S4x4096x128, .f32⟩
  | .hbm, ⟨59, _⟩ => ⟨S4x4096x128, .f32⟩
  | .hbm, ⟨60, _⟩ => ⟨S1x1x128, .f32⟩
  | .hbm, ⟨61, _⟩ => ⟨S4x4096x128, .f32⟩
  | .hbm, ⟨62, _⟩ => ⟨S4x4096x128, .f32⟩
  | .hbm, ⟨63, _⟩ => ⟨S4x4096x128, .i1⟩
  | .hbm, ⟨64, _⟩ => ⟨S4x4096x128, .f32⟩
  | .hbm, ⟨65, _⟩ => ⟨S1x512, .f32⟩
  | .hbm, ⟨66, _⟩ => ⟨S1x512, .f32⟩
  | .hbm, ⟨67, _⟩ => ⟨S4x16x4096x256, .bf16⟩
  | .hbm, ⟨68, _⟩ => ⟨S4x16x4096x256, .bf16⟩
  | .hbm, ⟨69, _⟩ => ⟨S4x16x4096x256, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512, .f32⟩
  | .local _ .vmem, ⟨9, _⟩ => ⟨S1x512, .f32⟩
  | .local _ .vmem, ⟨10, _⟩ => ⟨S16x512x256, .bf16⟩
  | .local _ .vmem, ⟨11, _⟩ => ⟨S16x512x256, .bf16⟩
  | .local _ .vmem, ⟨12, _⟩ => ⟨S1x16x512x256, .bf16⟩
  | .local _ .vmem, ⟨13, _⟩ => ⟨S1x16x512x256, .bf16⟩
  | .local _ .vmem, ⟨14, _⟩ => ⟨S1x16x512x256, .bf16⟩
  | .local _ .vmem, ⟨15, _⟩ => ⟨S1x16x512x256, .bf16⟩
  | .local _ .vmem, ⟨16, _⟩ => ⟨S1x16x512x256, .bf16⟩
  | .local _ .vmem, ⟨17, _⟩ => ⟨S1x16x512x256, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_v31 : Ref sig .tc := ⟨.hbm, 43, rfl⟩
abbrev main_v32 : Ref sig .tc := ⟨.hbm, 44, rfl⟩
abbrev main_c_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_cst_4 : Ref sig .tc := ⟨.hbm, 50, rfl⟩
abbrev main_call0_v0 : Ref sig .tc := ⟨.hbm, 51, rfl⟩
abbrev main_call0_v1 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call1_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48_0 : Ref sig .tc := ⟨.hbm, 67, rfl⟩
abbrev main_v48_1 : Ref sig .tc := ⟨.hbm, 68, rfl⟩
abbrev main_v48_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S4x4096x512 : Shape := ⟨3, ![4, 4096, 512]⟩
abbrev S4x4096x64 : Shape := ⟨3, ![4, 4096, 64]⟩
abbrev S4x4096 : Shape := ⟨2, ![4, 4096]⟩
abbrev S512 : Shape := ⟨1, ![512]⟩
abbrev S512x3072 : Shape := ⟨2, ![512, 3072]⟩
abbrev S512x4096 : Shape := ⟨2, ![512, 4096]⟩
abbrev S_ : Shape := ⟨0, ![]⟩
abbrev S4x4096x1 : Shape := ⟨3, ![4, 4096, 1]⟩
abbrev S1x1x512 : Shape := ⟨3, ![1, 1, 512]⟩
abbrev S4x4096x3072 : Shape := ⟨3, ![4, 4096, 3072]⟩
abbrev S4x4096x16x192 : Shape := ⟨4, ![4, 4096, 16, 192]⟩
abbrev S4x4096x4096 : Shape := ⟨3, ![4, 4096, 4096]⟩
abbrev S4x4096x16x256 : Shape := ⟨4, ![4, 4096, 16, 256]⟩
abbrev S4x4096x16x128 : Shape := ⟨4, ![4, 4096, 16, 128]⟩
abbrev S4x4096x16x64 : Shape := ⟨4, ![4, 4096, 16, 64]⟩
abbrev S32 : Shape := ⟨1, ![32]⟩
abbrev S1x1x32 : Shape := ⟨3, ![1, 1, 32]⟩
abbrev S4x4096x32 : Shape := ⟨3, ![4, 4096, 32]⟩
abbrev S4x4096x1x32 : Shape := ⟨4, ![4, 4096, 1, 32]⟩
abbrev S4x4096x16x32 : Shape := ⟨4, ![4, 4096, 16, 32]⟩
abbrev S4x4096x1x64 : Shape := ⟨4, ![4, 4096, 1, 64]⟩
abbrev S4x16x4096x192 : Shape := ⟨4, ![4, 16, 4096, 192]⟩
abbrev S4x16x4096x128 : Shape := ⟨4, ![4, 16, 4096, 128]⟩
abbrev S4x16x4096x64 : Shape := ⟨4, ![4, 16, 4096, 64]⟩
abbrev S4x16x4096x256 : Shape := ⟨4, ![4, 16, 4096, 256]⟩

abbrev nBuf : Space → Nat
  | .hbm => 126
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x64, .f32⟩
  | .hbm, ⟨3, _⟩ => ⟨S4x4096, .i32⟩
  | .hbm, ⟨4, _⟩ => ⟨S512, .f32⟩
  | .hbm, ⟨5, _⟩ => ⟨S512, .f32⟩
  | .hbm, ⟨6, _⟩ => ⟨S512x3072, .f32⟩
  | .hbm, ⟨7, _⟩ => ⟨S512x4096, .f32⟩
  | .hbm, ⟨8, _⟩ => ⟨S4x4096x512, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x512, .f32⟩
  | .hbm, ⟨20, _⟩ => ⟨S4x4096x512, .f32⟩
  | .hbm, ⟨21, _⟩ => ⟨S1x1x512, .f32⟩
  | .hbm, ⟨22, _⟩ => ⟨S4x4096x512, .f32⟩
  | .hbm, ⟨23, _⟩ => ⟨S4x4096x512, .f32⟩
  | .hbm, ⟨24, _⟩ => ⟨S4x4096x3072, .f32⟩
  | .hbm, ⟨25, _⟩ => ⟨S4x4096x16x192, .f32⟩
  | .hbm, ⟨26, _⟩ => ⟨S4x4096x512, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1, .f32⟩
  | .hbm, ⟨37, _⟩ => ⟨S4x4096x512, .f32⟩
  | .hbm, ⟨38, _⟩ => ⟨S4x4096x512, .f32⟩
  | .hbm, ⟨39, _⟩ => ⟨S1x1x512, .f32⟩
  | .hbm, ⟨40, _⟩ => ⟨S4x4096x512, .f32⟩
  | .hbm, ⟨41, _⟩ => ⟨S4x4096x512, .f32⟩
  | .hbm, ⟨42, _⟩ => ⟨S4x4096x4096, .f32⟩
  | .hbm, ⟨43, _⟩ => ⟨S4x4096x16x256, .f32⟩
  | .hbm, ⟨44, _⟩ => ⟨S4x4096x16x128, .f32⟩
  | .hbm, ⟨45, _⟩ => ⟨S4x4096x16x64, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S4x4096, .f32⟩
  | .hbm, ⟨55, _⟩ => ⟨S4x4096x1, .f32⟩
  | .hbm, ⟨56, _⟩ => ⟨S1x1x32, .f32⟩
  | .hbm, ⟨57, _⟩ => ⟨S4x4096x32, .f32⟩
  | .hbm, ⟨58, _⟩ => ⟨S4x4096x32, .f32⟩
  | .hbm, ⟨59, _⟩ => ⟨S4x4096x32, .f32⟩
  | .hbm, ⟨60, _⟩ => ⟨S4x4096x32, .f32⟩
  | .hbm, ⟨61, _⟩ => ⟨S4x4096x1x32, .f32⟩
  | .hbm, ⟨62, _⟩ => ⟨S4x4096x32, .f32⟩
  | .hbm, ⟨63, _⟩ => ⟨S4x4096x1x32, .f32⟩
  | .hbm, ⟨64, _⟩ => ⟨S4x4096x16x32, .f32⟩
  | .hbm, ⟨65, _⟩ => ⟨S4x4096x16x32, .f32⟩
  | .hbm, ⟨66, _⟩ => ⟨S4x4096x16x32, .f32⟩
  | .hbm, ⟨67, _⟩ => ⟨S4x4096x16x32, .f32⟩
  | .hbm, ⟨68, _⟩ => ⟨S4x4096x16x32, .f32⟩
  | .hbm, ⟨69, _⟩ => ⟨S4x4096x16x32, .f32⟩
  | .hbm, ⟨70, _⟩ => ⟨S4x4096x16x32, .f32⟩
  | .hbm, ⟨71, _⟩ => ⟨S4x4096x16x32, .f32⟩
  | .hbm, ⟨72, _⟩ => ⟨S4x4096x16x32, .f32⟩
  | .hbm, ⟨73, _⟩ => ⟨S4x4096x16x32, .f32⟩
  | .hbm, ⟨74, _⟩ => ⟨S4x4096x16x32, .f32⟩
  | .hbm, ⟨75, _⟩ => ⟨S4x4096x16x32, .f32⟩
  | .hbm, ⟨76, _⟩ => ⟨S4x4096x16x64, .f32⟩
  | .hbm, ⟨77, _⟩ => ⟨S4x4096x16x128, .f32⟩
  | .hbm, ⟨78, _⟩ => ⟨S4x4096x16x128, .f32⟩
  | .hbm, ⟨79, _⟩ => ⟨S4x4096x1x64, .f32⟩
  | .hbm, ⟨80, _⟩ => ⟨S32, .f32⟩
  | .hbm, ⟨81, _⟩ => ⟨S32, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S4x4096, .f32⟩
  | .hbm, ⟨89, _⟩ => ⟨S4x4096x1, .f32⟩
  | .hbm, ⟨90, _⟩ => ⟨S1x1x32, .f32⟩
  | .hbm, ⟨91, _⟩ => ⟨S4x4096x32, .f32⟩
  | .hbm, ⟨92, _⟩ => ⟨S4x4096x32, .f32⟩
  | .hbm, ⟨93, _⟩ => ⟨S4x4096x32, .f32⟩
  | .hbm, ⟨94, _⟩ => ⟨S4x4096x32, .f32⟩
  | .hbm, ⟨95, _⟩ => ⟨S4x4096x1x32, .f32⟩
  | .hbm, ⟨96, _⟩ => ⟨S4x4096x32, .f32⟩
  | .hbm, ⟨97, _⟩ => ⟨S4x4096x1x32, .f32⟩
  | .hbm, ⟨98, _⟩ => ⟨S4x4096x1x32, .f32⟩
  | .hbm, ⟨99, _⟩ => ⟨S4x4096x1x32, .f32⟩
  | .hbm, ⟨100, _⟩ => ⟨S4x4096x1x32, .f32⟩
  | .hbm, ⟨101, _⟩ => ⟨S4x4096x1x32, .f32⟩
  | .hbm, ⟨102, _⟩ => ⟨S4x4096x1x32, .f32⟩
  | .hbm, ⟨103, _⟩ => ⟨S4x4096x1x32, .f32⟩
  | .hbm, ⟨104, _⟩ => ⟨S4x4096x1x32, .f32⟩
  | .hbm, ⟨105, _⟩ => ⟨S4x4096x1x32, .f32⟩
  | .hbm, ⟨106, _⟩ => ⟨S4x4096x1x64, .f32⟩
  | .hbm, ⟨107, _⟩ => ⟨S4x4096x16x64, .f32⟩
  | .hbm, ⟨108, _⟩ => ⟨S4x4096x16x192, .f32⟩
  | .hbm, ⟨109, _⟩ => ⟨S_, .f32⟩
  | .hbm, ⟨110, _⟩ => ⟨S4x4096x16x192, .f32⟩
  | .hbm, ⟨111, _⟩ => ⟨S4x4096x16x192, .f32⟩
  | .hbm, ⟨112, _⟩ => ⟨S4x4096x16x192, .f32⟩
  | .hbm, ⟨113, _⟩ => ⟨S4x16x4096x192, .f32⟩
  | .hbm, ⟨114, _⟩ => ⟨S4x16x4096x192, .f32⟩
  | .hbm, ⟨115, _⟩ => ⟨S4x16x4096x128, .f32⟩
  | .hbm, ⟨116, _⟩ => ⟨S_, .f32⟩
  | .hbm, ⟨117, _⟩ => ⟨S4x16x4096x64, .f32⟩
  | .hbm, ⟨118, _⟩ => ⟨S_, .f32⟩
  | .hbm, ⟨119, _⟩ => ⟨S4x16x4096x128, .f32⟩
  | .hbm, ⟨120, _⟩ => ⟨S4x16x4096x256, .f32⟩
  | .hbm, ⟨121, _⟩ => ⟨S4x16x4096x256, .bf16⟩
  | .hbm, ⟨122, _⟩ => ⟨S4x16x4096x256, .f32⟩
  | .hbm, ⟨123, _⟩ => ⟨S4x16x4096x256, .bf16⟩
  | .hbm, ⟨124, _⟩ => ⟨S4x16x4096x256, .f32⟩
  | .hbm, ⟨125, _⟩ => ⟨S4x16x4096x256, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_7 : Ref sig .tc := ⟨.hbm, 82, rfl⟩
abbrev main_v66 : Ref sig .tc := ⟨.hbm, 83, rfl⟩
abbrev main_v67 : Ref sig .tc := ⟨.hbm, 84, rfl⟩
abbrev main_cst_8 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_9 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_10 : Ref sig .tc := ⟨.hbm, 116, rfl⟩
abbrev main_v97 : Ref sig .tc := ⟨.hbm, 117, rfl⟩
abbrev main_cst_11 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩

abbrev nD : Nat := 1
abbrev τ : Topo := Topo.v7x

variable {F : FTy → Type} [FloatOps F]
-- ==== Proof.State.lean ====
module

public import proofs.«01_k».proof.Proof.Gen.KernelIdeal.Frame
public import proofs.«01_k».proof.Proof.Gen.KernelIdeal.Skeleton
public import Idealize.ShloMosaic.Lib.Pipeline.Value

/-! The running state of one grid point of the attention kernel, as plain functions of what the
    point reads: the scores of a block of keys, the running row maximum and the running
    accumulator after each block, and the block of the result that is stored at the end. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### Four row chunks -/

abbrev rM0 : Rect S1024x128 := Rect.unit (s := S1024x128) ![0, 0] S256x128.size inb_S1024x128_S256x128_0_0
abbrev rM1 : Rect S1024x128 := Rect.unit (s := S1024x128) ![256, 0] S256x128.size inb_S1024x128_S256x128_256_0
abbrev rM2 : Rect S1024x128 := Rect.unit (s := S1024x128) ![512, 0] S256x128.size inb_S1024x128_S256x128_512_0
abbrev rM3 : Rect S1024x128 := Rect.unit (s := S1024x128) ![768, 0] S256x128.size inb_S1024x128_S256x128_768_0
abbrev rA0 : Rect S1024x256 := Rect.unit (s := S1024x256) ![0, 0] S256x256.size inb_S1024x256_S256x256_0_0
abbrev rA1 : Rect S1024x256 := Rect.unit (s := S1024x256) ![256, 0] S256x256.size inb_S1024x256_S256x256_256_0
abbrev rA2 : Rect S1024x256 := Rect.unit (s := S1024x256) ![512, 0] S256x256.size inb_S1024x256_S256x256_512_0
abbrev rA3 : Rect S1024x256 := Rect.unit (s := S1024x256) ![768, 0] S256x256.size inb_S1024x256_S256x256_768_0
abbrev rS0 : Rect S1024x1024 := Rect.unit (s := S1024x1024) ![0, 0] S256x1024.size inb_S1024x1024_S256x1024_0_0
abbrev rS1 : Rect S1024x1024 := Rect.unit (s := S1024x1024) ![256, 0] S256x1024.size inb_S1024x1024_S256x1024_256_0
abbrev rS2 : Rect S1024x1024 := Rect.unit (s := S1024x1024) ![512, 0] S256x1024.size inb_S1024x1024_S256x1024_512_0
abbrev rS3 : Rect S1024x1024 := Rect.unit (s := S1024x1024) ![768, 0] S256x1024.size inb_S1024x1024_S256x1024_768_0
/-- The part of chunk `c` on or left of the diagonal blocks. -/
abbrev rD0 : Rect S1024x1024 := Rect.unit (s := S1024x1024) ![0, 0] S256x256.size inb_S1024x1024_S256x256_0_0
abbrev rD1 : Rect S1024x1024 := Rect.unit (s := S1024x1024) ![256, 0] S256x512.size inb_S1024x1024_S256x512_256_0
abbrev rD2 : Rect S1024x1024 := Rect.unit (s := S1024x1024) ![512, 0] S256x768.size inb_S1024x1024_S256x768_512_0

/-- Four row chunks of the running maximum, the last written first. -/
abbrev pcsM (w0 w1 w2 w3 : Vec F S256x128 .f32) : List (View.Piece (Elt F) S1024x128 .f32) :=
  [⟨rM3, w3⟩, ⟨rM2, w2⟩, ⟨rM1, w1⟩, ⟨rM0, w0⟩]
/-- Four row chunks of the accumulator. -/
abbrev pcsA (w0 w1 w2 w3 : Vec F S256x256 .f32) : List (View.Piece (Elt F) S1024x256 .f32) :=
  [⟨rA3, w3⟩, ⟨rA2, w2⟩, ⟨rA1, w1⟩, ⟨rA0, w0⟩]

theorem covM (w0 w1 w2 w3 : Vec F S256x128 .f32) (y : S1024x128.Idx) : ∃ p ∈ pcsM w0 w1 w2 w3, y ∈ p.1.set := by
  have h0 : (y 0).val < 1024 := (y 0).isLt
  have h1 : (y 1).val < 128 := (y 1).isLt
  by_cases a : (y 0).val < 256
  · refine ⟨⟨rM0, w0⟩, by simp, show y ∈ (rM0).set from Rect.mem_set_unit.2 fun x => ?_⟩
    fin_cases x <;> simp [S256x128] <;> omega
  by_cases b : (y 0).val < 512
  · refine ⟨⟨rM1, w1⟩, by simp, show y ∈ (rM1).set from Rect.mem_set_unit.2 fun x => ?_⟩
    fin_cases x <;> simp [S256x128] <;> omega
  by_cases d : (y 0).val < 768
  · refine ⟨⟨rM2, w2⟩, by simp, show y ∈ (rM2).set from Rect.mem_set_unit.2 fun x => ?_⟩
    fin_cases x <;> simp [S256x128] <;> omega
  · refine ⟨⟨rM3, w3⟩, by simp, show y ∈ (rM3).set from Rect.mem_set_unit.2 fun x => ?_⟩
    fin_cases x <;> simp [S256x128] <;> omega

theorem covA (w0 w1 w2 w3 : Vec F S256x256 .f32) (y : S1024x256.Idx) : ∃ p ∈ pcsA w0 w1 w2 w3, y ∈ p.1.set := by
  have h0 : (y 0).val < 1024 := (y 0).isLt
  have h1 : (y 1).val < 256 := (y 1).isLt
  by_cases a : (y 0).val < 256
  · refine ⟨⟨rA0, w0⟩, by simp, show y ∈ (rA0).set from Rect.mem_set_unit.2 fun x => ?_⟩
    fin_cases x <;> simp [S256x256] <;> omega
  by_cases b : (y 0).val < 512
  · refine ⟨⟨rA1, w1⟩, by simp, show y ∈ (rA1).set from Rect.mem_set_unit.2 fun x => ?_⟩
    fin_cases x <;> simp [S256x256] <;> omega
  by_cases d : (y 0).val < 768
  · refine ⟨⟨rA2, w2⟩, by simp, show y ∈ (rA2).set from Rect.mem_set_unit.2 fun x => ?_⟩
    fin_cases x <;> simp [S256x256] <;> omega
  · refine ⟨⟨rA3, w3⟩, by simp, show y ∈ (rA3).set from Rect.mem_set_unit.2 fun x => ?_⟩
    fin_cases x <;> simp [S256x256] <;> omega

/-- Writes below a covering list of writes are not seen. -/
theorem canon_append_cover {s : Shape} {e : EltTy} (L₁ L₂ : List (View.Piece (Elt F) s e))
    (h : ∀ y, ∃ p ∈ L₁, y ∈ p.1.set) : View.canon (L₁ ++ L₂) = View.canon L₁ := by
  have key : ∀ (L : List (View.Piece (Elt F) s e)) (y : s.Idx), (∃ p ∈ L, y ∈ p.1.set) →
      View.canon (L ++ L₂) y = View.canon L y := by
    intro L
    induction L with
    | nil => rintro y ⟨p, hp, _⟩; exact absurd hp (by simp)
    | cons p L ih =>
      intro y hy
      by_cases hm : y ∈ p.1.set
      · obtain ⟨x, rfl⟩ := p.1.exists_idx_of_mem hm
        exact (View.canon_cons_emb p.1 p.2 (L ++ L₂) x).trans (View.canon_cons_emb p.1 p.2 L x).symm
      · rw [List.cons_append, View.canon_cons_of_not_mem _ _ hm, View.canon_cons_of_not_mem _ _ hm]
        obtain ⟨q, hq, hqy⟩ := hy
        rcases List.mem_cons.1 hq with rfl | hq
        · exact absurd hqy hm
        · exact ih y ⟨q, hq, hqy⟩
  exact funext fun y => key L₁ y (h y)

/-! ### One block of keys off the diagonal -/

/-- The running maximum after a block of scores `s`. -/
def stepM (s : Vec F S1024x1024 .f32) (m : Vec F S1024x128 .f32) : Vec F S1024x128 .f32 :=
  View.canon (Val := Elt F) (pcsM
    (k0_pay13 (View.ld (Val := Elt F) (e' := .f32) s rS0) (View.ld (Val := Elt F) (e' := .f32) m rM0))
    (k0_pay13 (View.ld (Val := Elt F) (e' := .f32) s rS1) (View.ld (Val := Elt F) (e' := .f32) m rM1))
    (k0_pay13 (View.ld (Val := Elt F) (e' := .f32) s rS2) (View.ld (Val := Elt F) (e' := .f32) m rM2))
    (k0_pay13 (View.ld (Val := Elt F) (e' := .f32) s rS3) (View.ld (Val := Elt F) (e' := .f32) m rM3)))

/-- The accumulator after a block of scores `s` against the values `v`. -/
def stepA (s : Vec F S1024x1024 .f32) (m : Vec F S1024x128 .f32) (a : Vec F S1024x256 .f32) (v : Vec F S1x1x1024x256 .bf16) : Vec F S1024x256 .f32 :=
  View.canon (Val := Elt F) (pcsA
    (k0_pay12 (View.ld (Val := Elt F) (e' := .f32) s rS0) (View.ld (Val := Elt F) (e' := .f32) m rM0) (View.ld (Val := Elt F) (e' := .f32) a rA0) v)
    (k0_pay12 (View.ld (Val := Elt F) (e' := .f32) s rS1) (View.ld (Val := Elt F) (e' := .f32) m rM1) (View.ld (Val := Elt F) (e' := .f32) a rA1) v)
    (k0_pay12 (View.ld (Val := Elt F) (e' := .f32) s rS2) (View.ld (Val := Elt F) (e' := .f32) m rM2) (View.ld (Val := Elt F) (e' := .f32) a rA2) v)
    (k0_pay12 (View.ld (Val := Elt F) (e' := .f32) s rS3) (View.ld (Val := Elt F) (e' := .f32) m rM3) (View.ld (Val := Elt F) (e' := .f32) a rA3) v))

/-! ### Blocks of the keys and of the values -/

/-- Where key block `j` starts. -/
def offB (j : Fin 4) : Fin 4 → ℕ := ![0, 0, 1024 * j.val, 0]
theorem offB_inb1024 (j : Fin 4) : ∀ a, offB j a + S1x1x1024x256.size a ≤ S1x1x4096x256.size a := by
  intro a; have := j.isLt; fin_cases a <;> simp [offB, S1x1x1024x256, S1x1x4096x256]; omega
theorem offB_inb768 (j : Fin 4) : ∀ a, offB j a + S1x1x768x256.size a ≤ S1x1x4096x256.size a := by
  intro a; have := j.isLt; fin_cases a <;> simp [offB, S1x1x768x256, S1x1x4096x256]; omega
theorem offB_inb512 (j : Fin 4) : ∀ a, offB j a + S1x1x512x256.size a ≤ S1x1x4096x256.size a := by
  intro a; have := j.isLt; fin_cases a <;> simp [offB, S1x1x512x256, S1x1x4096x256]; omega
theorem offB_inb256 (j : Fin 4) : ∀ a, offB j a + S1x1x256x256.size a ≤ S1x1x4096x256.size a := by
  intro a; have := j.isLt; fin_cases a <;> simp [offB, S1x1x256x256, S1x1x4096x256]; omega

/-- The 1024 rows of block `j`, and its first 768, 512 and 256 rows. -/
def blk (X : Vec F S1x1x4096x256 .bf16) (j : Fin 4) : Vec F S1x1x1024x256 .bf16 :=
  View.ld (Val := Elt F) (e' := .bf16) X (Rect.unit (s := S1x1x4096x256) (offB j) S1x1x1024x256.size (offB_inb1024 j))
def blk768 (X : Vec F S1x1x4096x256 .bf16) (j : Fin 4) : Vec F S1x1x768x256 .bf16 :=
  View.ld (Val := Elt F) (e' := .bf16) X (Rect.unit (s := S1x1x4096x256) (offB j) S1x1x768x256.size (offB_inb768 j))
def blk512 (X : Vec F S1x1x4096x256 .bf16) (j : Fin 4) : Vec F S1x1x512x256 .bf16 :=
  View.ld (Val := Elt F) (e' := .bf16) X (Rect.unit (s := S1x1x4096x256) (offB j) S1x1x512x256.size (offB_inb512 j))
def blk256 (X : Vec F S1x1x4096x256 .bf16) (j : Fin 4) : Vec F S1x1x256x256 .bf16 :=
  View.ld (Val := Elt F) (e' := .bf16) X (Rect.unit (s := S1x1x4096x256) (offB j) S1x1x256x256.size (offB_inb256 j))

/-- The scores of a query block against key block `j`. -/
def scB (q : Vec F S1x1x1024x256 .bf16) (k : Vec F S1x1x4096x256 .bf16) (j : Fin 4) : Vec F S1024x1024 .f32 :=
  k0_pay4 q (blk k j)

/-- The running maximum and the accumulator after the first `n` blocks of keys. -/
def stM (q : Vec F S1x1x1024x256 .bf16) (k : Vec F S1x1x4096x256 .bf16) : ℕ → Vec F S1024x128 .f32
  | 0 => k0_pay117
  | n + 1 => stepM (scB q k (Fin.ofNat 4 n)) (stM q k n)
def stA (q : Vec F S1x1x1024x256 .bf16) (k v : Vec F S1x1x4096x256 .bf16) : ℕ → Vec F S1024x256 .f32
  | 0 => k0_pay118
  | n + 1 => stepA (scB q k (Fin.ofNat 4 n)) (stM q k n) (stA q k v n) (blk v (Fin.ofNat 4 n))

/-! ### The block on the diagonal -/

/-- The accumulator after the block on the diagonal: row chunk `c` reads the first `c + 1`
    quarters of the block, masked. -/
def diagA (s : Vec F S1024x1024 .f32) (m : Vec F S1024x128 .f32) (a : Vec F S1024x256 .f32)
    (v : Vec F S1x1x4096x256 .bf16) (j : Fin 4) : Vec F S1024x256 .f32 :=
  View.canon (Val := Elt F) (pcsA
    (k0_pay68 (View.ld (Val := Elt F) (e' := .f32) s rD0) (View.ld (Val := Elt F) (e' := .f32) m rM0) (View.ld (Val := Elt F) (e' := .f32) a rA0) (blk256 v j))
    (k0_pay72 (View.ld (Val := Elt F) (e' := .f32) s rD1) (View.ld (Val := Elt F) (e' := .f32) m rM1) (View.ld (Val := Elt F) (e' := .f32) a rA1) (blk512 v j))
    (k0_pay77 (View.ld (Val := Elt F) (e' := .f32) s rD2) k0_pay74 (View.ld (Val := Elt F) (e' := .f32) m rM2) (View.ld (Val := Elt F) (e' := .f32) a rA2) (blk768 v j))
    (k0_pay123 (k0_pay79 (View.ld (Val := Elt F) (e' := .f32) s rS3)) (View.ld (Val := Elt F) (e' := .f32) m rM3) (View.ld (Val := Elt F) (e' := .f32) a rA3) (blk v j)))

/-- The accumulator's columns 0 to 127, divided by its columns 128 to 255. -/
def outOf (a : Vec F S1024x256 .f32) : Vec F S1x1024x128 .bf16 :=
  k0_pay125
    (View.ld (Val := Elt F) (e' := .f32) a (Rect.unit (s := S1024x256) ![0, 0] S1024x128.size inb_S1024x256_S1024x128_0_0))
    (View.ld (Val := Elt F) (e' := .f32) a (Rect.unit (s := S1024x256) ![0, 128] S1024x128.size inb_S1024x256_S1024x128_0_128))

/-- The block of the result of query block `i`. -/
def outB (q : Vec F S1x1x1024x256 .bf16) (k v : Vec F S1x1x4096x256 .bf16) (i : Fin 4) : Vec F S1x1024x128 .bf16 :=
  outOf (diagA (scB q k i) (stM q k i.val) (stA q k v i.val) v i)

/-! ### Reading the state back -/

theorem read_writesM (w : View sig .tc .vmem S1024x128 .f32) (f : w.ty.Contents (Elt F)) (w0 w1 w2 w3 : Vec F S256x128 .f32)
    (L : List (View.Piece (Elt F) S1024x128 .f32)) :
    w.read (Elt F) (w.writes (Elt F) f (⟨rM3, w3⟩ :: ⟨rM2, w2⟩ :: ⟨rM1, w1⟩ :: ⟨rM0, w0⟩ :: L)) = View.canon (pcsM w0 w1 w2 w3) := by
  rw [View.read_writes_eq_canon w f _ (fun y => by
    obtain ⟨p, hp, hy⟩ := covM w0 w1 w2 w3 y
    exact ⟨p, List.mem_append_left L hp, hy⟩)]
  exact canon_append_cover (pcsM w0 w1 w2 w3) L (covM w0 w1 w2 w3)

theorem read_writesA (w : View sig .tc .vmem S1024x256 .f32) (f : w.ty.Contents (Elt F)) (w0 w1 w2 w3 : Vec F S256x256 .f32)
    (L : List (View.Piece (Elt F) S1024x256 .f32)) :
    w.read (Elt F) (w.writes (Elt F) f (⟨rA3, w3⟩ :: ⟨rA2, w2⟩ :: ⟨rA1, w1⟩ :: ⟨rA0, w0⟩ :: L)) = View.canon (pcsA w0 w1 w2 w3) := by
  rw [View.read_writes_eq_canon w f _ (fun y => by
    obtain ⟨p, hp, hy⟩ := covA w0 w1 w2 w3 y
    exact ⟨p, List.mem_append_left L hp, hy⟩)]
  exact canon_append_cover (pcsA w0 w1 w2 w3) L (covA w0 w1 w2 w3)

theorem ld_off {s : Shape} {e : EltTy} (X : s.Idx → Elt F e) {o o' : Fin s.rank → ℕ} (h : o = o') (sz : Fin s.rank → ℕ)
    (hi : ∀ a, o a + sz a ≤ s.size a) (hi' : ∀ a, o' a + sz a ≤ s.size a) :
    View.ld (Val := Elt F) (e' := e) X (Rect.unit (s := s) o sz hi) = View.ld (Val := Elt F) (e' := e) X (Rect.unit (s := s) o' sz hi') := by
  subst h; rfl

theorem disjM {a b : ℕ} (h : a + 256 ≤ b ∨ b + 256 ≤ a) (ha : ∀ x, (![a, 0] : Fin 2 → ℕ) x + S256x128.size x ≤ S1024x128.size x)
    (hb : ∀ x, (![b, 0] : Fin 2 → ℕ) x + S256x128.size x ≤ S1024x128.size x) :
    Disjoint (Rect.unit (s := S1024x128) ![a, 0] S256x128.size ha).set (Rect.unit (s := S1024x128) ![b, 0] S256x128.size hb).toLoadRect.set := by
  refine Finset.disjoint_left.2 fun y h1 h2 => ?_
  have e1 := Rect.mem_set_unit.1 h1 0
  have e2 := Rect.mem_set_unit.1 h2 0
  simp [S256x128] at e1 e2
  omega

theorem disjA {a b : ℕ} (h : a + 256 ≤ b ∨ b + 256 ≤ a) (ha : ∀ x, (![a, 0] : Fin 2 → ℕ) x + S256x256.size x ≤ S1024x256.size x)
    (hb : ∀ x, (![b, 0] : Fin 2 → ℕ) x + S256x256.size x ≤ S1024x256.size x) :
    Disjoint (Rect.unit (s := S1024x256) ![a, 0] S256x256.size ha).set (Rect.unit (s := S1024x256) ![b, 0] S256x256.size hb).toLoadRect.set := by
  refine Finset.disjoint_left.2 fun y h1 h2 => ?_
  have e1 := Rect.mem_set_unit.1 h1 0
  have e2 := Rect.mem_set_unit.1 h2 0
  simp [S256x256] at e1 e2
  omega

/-! ### Loads of a state just written, chunk by chunk -/

theorem dM01 : Disjoint rM0.set rM1.toLoadRect.set := disjM (a := 0) (b := 256) (by omega) _ _
theorem dM02 : Disjoint rM0.set rM2.toLoadRect.set := disjM (a := 0) (b := 512) (by omega) _ _
theorem dM03 : Disjoint rM0.set rM3.toLoadRect.set := disjM (a := 0) (b := 768) (by omega) _ _
theorem dM10 : Disjoint rM1.set rM0.toLoadRect.set := disjM (a := 256) (b := 0) (by omega) _ _
theorem dM12 : Disjoint rM1.set rM2.toLoadRect.set := disjM (a := 256) (b := 512) (by omega) _ _
theorem dM13 : Disjoint rM1.set rM3.toLoadRect.set := disjM (a := 256) (b := 768) (by omega) _ _
theorem dM20 : Disjoint rM2.set rM0.toLoadRect.set := disjM (a := 512) (b := 0) (by omega) _ _
theorem dM21 : Disjoint rM2.set rM1.toLoadRect.set := disjM (a := 512) (b := 256) (by omega) _ _
theorem dM23 : Disjoint rM2.set rM3.toLoadRect.set := disjM (a := 512) (b := 768) (by omega) _ _
theorem dM30 : Disjoint rM3.set rM0.toLoadRect.set := disjM (a := 768) (b := 0) (by omega) _ _
theorem dM31 : Disjoint rM3.set rM1.toLoadRect.set := disjM (a := 768) (b := 256) (by omega) _ _
theorem dM32 : Disjoint rM3.set rM2.toLoadRect.set := disjM (a := 768) (b := 512) (by omega) _ _
theorem ldM0 (w0 w1 w2 w3 : Vec F S256x128 .f32) : View.ld (Val := Elt F) (e' := .f32) (View.canon (pcsM w0 w1 w2 w3)) rM0 = w0 := by
  funext x
  have hx := rM0.toLoadRect.idx_mem x
  refine (View.canon_cons_of_not_mem (⟨rM3, w3⟩ : View.Piece (Elt F) S1024x128 .f32) [⟨rM2, w2⟩, ⟨rM1, w1⟩, ⟨rM0, w0⟩] (Finset.disjoint_right.mp dM30 hx)).trans ?_
  refine (View.canon_cons_of_not_mem (⟨rM2, w2⟩ : View.Piece (Elt F) S1024x128 .f32) [⟨rM1, w1⟩, ⟨rM0, w0⟩] (Finset.disjoint_right.mp dM20 hx)).trans ?_
  refine (View.canon_cons_of_not_mem (⟨rM1, w1⟩ : View.Piece (Elt F) S1024x128 .f32) [⟨rM0, w0⟩] (Finset.disjoint_right.mp dM10 hx)).trans ?_
  exact View.canon_cons_emb rM0 w0 [] x
theorem ldM1 (w0 w1 w2 w3 : Vec F S256x128 .f32) : View.ld (Val := Elt F) (e' := .f32) (View.canon (pcsM w0 w1 w2 w3)) rM1 = w1 := by
  funext x
  have hx := rM1.toLoadRect.idx_mem x
  refine (View.canon_cons_of_not_mem (⟨rM3, w3⟩ : View.Piece (Elt F) S1024x128 .f32) [⟨rM2, w2⟩, ⟨rM1, w1⟩, ⟨rM0, w0⟩] (Finset.disjoint_right.mp dM31 hx)).trans ?_
  refine (View.canon_cons_of_not_mem (⟨rM2, w2⟩ : View.Piece (Elt F) S1024x128 .f32) [⟨rM1, w1⟩, ⟨rM0, w0⟩] (Finset.disjoint_right.mp dM21 hx)).trans ?_
  exact View.canon_cons_emb rM1 w1 [⟨rM0, w0⟩] x
theorem ldM2 (w0 w1 w2 w3 : Vec F S256x128 .f32) : View.ld (Val := Elt F) (e' := .f32) (View.canon (pcsM w0 w1 w2 w3)) rM2 = w2 := by
  funext x
  have hx := rM2.toLoadRect.idx_mem x
  refine (View.canon_cons_of_not_mem (⟨rM3, w3⟩ : View.Piece (Elt F) S1024x128 .f32) [⟨rM2, w2⟩, ⟨rM1, w1⟩, ⟨rM0, w0⟩] (Finset.disjoint_right.mp dM32 hx)).trans ?_
  exact View.canon_cons_emb rM2 w2 [⟨rM1, w1⟩, ⟨rM0, w0⟩] x
theorem ldM3 (w0 w1 w2 w3 : Vec F S256x128 .f32) : View.ld (Val := Elt F) (e' := .f32) (View.canon (pcsM w0 w1 w2 w3)) rM3 = w3 := by
  funext x
  have hx := rM3.toLoadRect.idx_mem x
  exact View.canon_cons_emb rM3 w3 [⟨rM2, w2⟩, ⟨rM1, w1⟩, ⟨rM0, w0⟩] x
theorem canonM_congr {w0 w1 w2 w3 u0 u1 u2 u3 : Vec F S256x128 .f32} (h0 : w0 = u0) (h1 : w1 = u1) (h2 : w2 = u2) (h3 : w3 = u3) :
    View.canon (Val := Elt F) (pcsM w0 w1 w2 w3) = View.canon (pcsM u0 u1 u2 u3) := by
  subst h0 h1 h2 h3; rfl
theorem rcM0 (v : View sig .tc .vmem S1024x128 .f32) (a b c w : Vec F S256x128 .f32) (L : List (View.Piece (Elt F) S1024x128 .f32)) :
    v.readCov ((⟨rM3, a⟩ : View.Piece (Elt F) S1024x128 .f32) :: (⟨rM2, b⟩ : View.Piece (Elt F) S1024x128 .f32) :: (⟨rM1, c⟩ : View.Piece (Elt F) S1024x128 .f32) :: ⟨rM0, w⟩ :: L) rM0.toLoadRect = w := by
  refine (View.readCov_cons_of_disjoint v (⟨rM3, a⟩ : View.Piece (Elt F) S1024x128 .f32) ((⟨rM2, b⟩ : View.Piece (Elt F) S1024x128 .f32) :: ((⟨rM1, c⟩ : View.Piece (Elt F) S1024x128 .f32) :: (⟨rM0, w⟩ :: L))) rM0.toLoadRect dM30).trans ?_
  refine (View.readCov_cons_of_disjoint v (⟨rM2, b⟩ : View.Piece (Elt F) S1024x128 .f32) ((⟨rM1, c⟩ : View.Piece (Elt F) S1024x128 .f32) :: (⟨rM0, w⟩ :: L)) rM0.toLoadRect dM20).trans ?_
  refine (View.readCov_cons_of_disjoint v (⟨rM1, c⟩ : View.Piece (Elt F) S1024x128 .f32) (⟨rM0, w⟩ :: L) rM0.toLoadRect dM10).trans ?_
  exact View.readCov_cons_toLoadRect v rM0 w L
theorem rcM1 (v : View sig .tc .vmem S1024x128 .f32) (a b c w : Vec F S256x128 .f32) (L : List (View.Piece (Elt F) S1024x128 .f32)) :
    v.readCov ((⟨rM0, a⟩ : View.Piece (Elt F) S1024x128 .f32) :: (⟨rM3, b⟩ : View.Piece (Elt F) S1024x128 .f32) :: (⟨rM2, c⟩ : View.Piece (Elt F) S1024x128 .f32) :: ⟨rM1, w⟩ :: L) rM1.toLoadRect = w := by
  refine (View.readCov_cons_of_disjoint v (⟨rM0, a⟩ : View.Piece (Elt F) S1024x128 .f32) ((⟨rM3, b⟩ : View.Piece (Elt F) S1024x128 .f32) :: ((⟨rM2, c⟩ : View.Piece (Elt F) S1024x128 .f32) :: (⟨rM1, w⟩ :: L))) rM1.toLoadRect dM01).trans ?_
  refine (View.readCov_cons_of_disjoint v (⟨rM3, b⟩ : View.Piece (Elt F) S1024x128 .f32) ((⟨rM2, c⟩ : View.Piece (Elt F) S1024x128 .f32) :: (⟨rM1, w⟩ :: L)) rM1.toLoadRect dM31).trans ?_
  refine (View.readCov_cons_of_disjoint v (⟨rM2, c⟩ : View.Piece (Elt F) S1024x128 .f32) (⟨rM1, w⟩ :: L) rM1.toLoadRect dM21).trans ?_
  exact View.readCov_cons_toLoadRect v rM1 w L
theorem rcM2 (v : View sig .tc .vmem S1024x128 .f32) (a b c w : Vec F S256x128 .f32) (L : List (View.Piece (Elt F) S1024x128 .f32)) :
    v.readCov ((⟨rM1, a⟩ : View.Piece (Elt F) S1024x128 .f32) :: (⟨rM0, b⟩ : View.Piece (Elt F) S1024x128 .f32) :: (⟨rM3, c⟩ : View.Piece (Elt F) S1024x128 .f32) :: ⟨rM2, w⟩ :: L) rM2.toLoadRect = w := by
  refine (View.readCov_cons_of_disjoint v (⟨rM1, a⟩ : View.Piece (Elt F) S1024x128 .f32) ((⟨rM0, b⟩ : View.Piece (Elt F) S1024x128 .f32) :: ((⟨rM3, c⟩ : View.Piece (Elt F) S1024x128 .f32) :: (⟨rM2, w⟩ :: L))) rM2.toLoadRect dM12).trans ?_
  refine (View.readCov_cons_of_disjoint v (⟨rM0, b⟩ : View.Piece (Elt F) S1024x128 .f32) ((⟨rM3, c⟩ : View.Piece (Elt F) S1024x128 .f32) :: (⟨rM2, w⟩ :: L)) rM2.toLoadRect dM02).trans ?_
  refine (View.readCov_cons_of_disjoint v (⟨rM3, c⟩ : View.Piece (Elt F) S1024x128 .f32) (⟨rM2, w⟩ :: L) rM2.toLoadRect dM32).trans ?_
  exact View.readCov_cons_toLoadRect v rM2 w L
theorem rcM3 (v : View sig .tc .vmem S1024x128 .f32) (a b c w : Vec F S256x128 .f32) (L : List (View.Piece (Elt F) S1024x128 .f32)) :
    v.readCov ((⟨rM2, a⟩ : View.Piece (Elt F) S1024x128 .f32) :: (⟨rM1, b⟩ : View.Piece (Elt F) S1024x128 .f32) :: (⟨rM0, c⟩ : View.Piece (Elt F) S1024x128 .f32) :: ⟨rM3, w⟩ :: L) rM3.toLoadRect = w := by
  refine (View.readCov_cons_of_disjoint v (⟨rM2, a⟩ : View.Piece (Elt F) S1024x128 .f32) ((⟨rM1, b⟩ : View.Piece (Elt F) S1024x128 .f32) :: ((⟨rM0, c⟩ : View.Piece (Elt F) S1024x128 .f32) :: (⟨rM3, w⟩ :: L))) rM3.toLoadRect dM23).trans ?_
  refine (View.readCov_cons_of_disjoint v (⟨rM1, b⟩ : View.Piece (Elt F) S1024x128 .f32) ((⟨rM0, c⟩ : View.Piece (Elt F) S1024x128 .f32) :: (⟨rM3, w⟩ :: L)) rM3.toLoadRect dM13).trans ?_
  refine (View.readCov_cons_of_disjoint v (⟨rM0, c⟩ : View.Piece (Elt F) S1024x128 .f32) (⟨rM3, w⟩ :: L) rM3.toLoadRect dM03).trans ?_
  exact View.readCov_cons_toLoadRect v rM3 w L
theorem dA01 : Disjoint rA0.set rA1.toLoadRect.set := disjA (a := 0) (b := 256) (by omega) _ _
theorem dA02 : Disjoint rA0.set rA2.toLoadRect.set := disjA (a := 0) (b := 512) (by omega) _ _
theorem dA03 : Disjoint rA0.set rA3.toLoadRect.set := disjA (a := 0) (b := 768) (by omega) _ _
theorem dA10 : Disjoint rA1.set rA0.toLoadRect.set := disjA (a := 256) (b := 0) (by omega) _ _
theorem dA12 : Disjoint rA1.set rA2.toLoadRect.set := disjA (a := 256) (b := 512) (by omega) _ _
theorem dA13 : Disjoint rA1.set rA3.toLoadRect.set := disjA (a := 256) (b := 768) (by omega) _ _
theorem dA20 : Disjoint rA2.set rA0.toLoadRect.set := disjA (a := 512) (b := 0) (by omega) _ _
theorem dA21 : Disjoint rA2.set rA1.toLoadRect.set := disjA (a := 512) (b := 256) (by omega) _ _
theorem dA23 : Disjoint rA2.set rA3.toLoadRect.set := disjA (a := 512) (b := 768) (by omega) _ _
theorem dA30 : Disjoint rA3.set rA0.toLoadRect.set := disjA (a := 768) (b := 0) (by omega) _ _
theorem dA31 : Disjoint rA3.set rA1.toLoadRect.set := disjA (a := 768) (b := 256) (by omega) _ _
theorem dA32 : Disjoint rA3.set rA2.toLoadRect.set := disjA (a := 768) (b := 512) (by omega) _ _
theorem ldA0 (w0 w1 w2 w3 : Vec F S256x256 .f32) : View.ld (Val := Elt F) (e' := .f32) (View.canon (pcsA w0 w1 w2 w3)) rA0 = w0 := by
  funext x
  have hx := rA0.toLoadRect.idx_mem x
  refine (View.canon_cons_of_not_mem (⟨rA3, w3⟩ : View.Piece (Elt F) S1024x256 .f32) [⟨rA2, w2⟩, ⟨rA1, w1⟩, ⟨rA0, w0⟩] (Finset.disjoint_right.mp dA30 hx)).trans ?_
  refine (View.canon_cons_of_not_mem (⟨rA2, w2⟩ : View.Piece (Elt F) S1024x256 .f32) [⟨rA1, w1⟩, ⟨rA0, w0⟩] (Finset.disjoint_right.mp dA20 hx)).trans ?_
  refine (View.canon_cons_of_not_mem (⟨rA1, w1⟩ : View.Piece (Elt F) S1024x256 .f32) [⟨rA0, w0⟩] (Finset.disjoint_right.mp dA10 hx)).trans ?_
  exact View.canon_cons_emb rA0 w0 [] x
theorem ldA1 (w0 w1 w2 w3 : Vec F S256x256 .f32) : View.ld (Val := Elt F) (e' := .f32) (View.canon (pcsA w0 w1 w2 w3)) rA1 = w1 := by
  funext x
  have hx := rA1.toLoadRect.idx_mem x
  refine (View.canon_cons_of_not_mem (⟨rA3, w3⟩ : View.Piece (Elt F) S1024x256 .f32) [⟨rA2, w2⟩, ⟨rA1, w1⟩, ⟨rA0, w0⟩] (Finset.disjoint_right.mp dA31 hx)).trans ?_
  refine (View.canon_cons_of_not_mem (⟨rA2, w2⟩ : View.Piece (Elt F) S1024x256 .f32) [⟨rA1, w1⟩, ⟨rA0, w0⟩] (Finset.disjoint_right.mp dA21 hx)).trans ?_
  exact View.canon_cons_emb rA1 w1 [⟨rA0, w0⟩] x
theorem ldA2 (w0 w1 w2 w3 : Vec F S256x256 .f32) : View.ld (Val := Elt F) (e' := .f32) (View.canon (pcsA w0 w1 w2 w3)) rA2 = w2 := by
  funext x
  have hx := rA2.toLoadRect.idx_mem x
  refine (View.canon_cons_of_not_mem (⟨rA3, w3⟩ : View.Piece (Elt F) S1024x256 .f32) [⟨rA2, w2⟩, ⟨rA1, w1⟩, ⟨rA0, w0⟩] (Finset.disjoint_right.mp dA32 hx)).trans ?_
  exact View.canon_cons_emb rA2 w2 [⟨rA1, w1⟩, ⟨rA0, w0⟩] x
theorem ldA3 (w0 w1 w2 w3 : Vec F S256x256 .f32) : View.ld (Val := Elt F) (e' := .f32) (View.canon (pcsA w0 w1 w2 w3)) rA3 = w3 := by
  funext x
  have hx := rA3.toLoadRect.idx_mem x
  exact View.canon_cons_emb rA3 w3 [⟨rA2, w2⟩, ⟨rA1, w1⟩, ⟨rA0, w0⟩] x
theorem canonA_congr {w0 w1 w2 w3 u0 u1 u2 u3 : Vec F S256x256 .f32} (h0 : w0 = u0) (h1 : w1 = u1) (h2 : w2 = u2) (h3 : w3 = u3) :
    View.canon (Val := Elt F) (pcsA w0 w1 w2 w3) = View.canon (pcsA u0 u1 u2 u3) := by
  subst h0 h1 h2 h3; rfl
theorem rcA0 (v : View sig .tc .vmem S1024x256 .f32) (a b c w : Vec F S256x256 .f32) (L : List (View.Piece (Elt F) S1024x256 .f32)) :
    v.readCov ((⟨rA3, a⟩ : View.Piece (Elt F) S1024x256 .f32) :: (⟨rA2, b⟩ : View.Piece (Elt F) S1024x256 .f32) :: (⟨rA1, c⟩ : View.Piece (Elt F) S1024x256 .f32) :: ⟨rA0, w⟩ :: L) rA0.toLoadRect = w := by
  refine (View.readCov_cons_of_disjoint v (⟨rA3, a⟩ : View.Piece (Elt F) S1024x256 .f32) ((⟨rA2, b⟩ : View.Piece (Elt F) S1024x256 .f32) :: ((⟨rA1, c⟩ : View.Piece (Elt F) S1024x256 .f32) :: (⟨rA0, w⟩ :: L))) rA0.toLoadRect dA30).trans ?_
  refine (View.readCov_cons_of_disjoint v (⟨rA2, b⟩ : View.Piece (Elt F) S1024x256 .f32) ((⟨rA1, c⟩ : View.Piece (Elt F) S1024x256 .f32) :: (⟨rA0, w⟩ :: L)) rA0.toLoadRect dA20).trans ?_
  refine (View.readCov_cons_of_disjoint v (⟨rA1, c⟩ : View.Piece (Elt F) S1024x256 .f32) (⟨rA0, w⟩ :: L) rA0.toLoadRect dA10).trans ?_
  exact View.readCov_cons_toLoadRect v rA0 w L
theorem rcA1 (v : View sig .tc .vmem S1024x256 .f32) (a b c w : Vec F S256x256 .f32) (L : List (View.Piece (Elt F) S1024x256 .f32)) :
    v.readCov ((⟨rA0, a⟩ : View.Piece (Elt F) S1024x256 .f32) :: (⟨rA3, b⟩ : View.Piece (Elt F) S1024x256 .f32) :: (⟨rA2, c⟩ : View.Piece (Elt F) S1024x256 .f32) :: ⟨rA1, w⟩ :: L) rA1.toLoadRect = w := by
  refine (View.readCov_cons_of_disjoint v (⟨rA0, a⟩ : View.Piece (Elt F) S1024x256 .f32) ((⟨rA3, b⟩ : View.Piece (Elt F) S1024x256 .f32) :: ((⟨rA2, c⟩ : View.Piece (Elt F) S1024x256 .f32) :: (⟨rA1, w⟩ :: L))) rA1.toLoadRect dA01).trans ?_
  refine (View.readCov_cons_of_disjoint v (⟨rA3, b⟩ : View.Piece (Elt F) S1024x256 .f32) ((⟨rA2, c⟩ : View.Piece (Elt F) S1024x256 .f32) :: (⟨rA1, w⟩ :: L)) rA1.toLoadRect dA31).trans ?_
  refine (View.readCov_cons_of_disjoint v (⟨rA2, c⟩ : View.Piece (Elt F) S1024x256 .f32) (⟨rA1, w⟩ :: L) rA1.toLoadRect dA21).trans ?_
  exact View.readCov_cons_toLoadRect v rA1 w L
theorem rcA2 (v : View sig .tc .vmem S1024x256 .f32) (a b c w : Vec F S256x256 .f32) (L : List (View.Piece (Elt F) S1024x256 .f32)) :
    v.readCov ((⟨rA1, a⟩ : View.Piece (Elt F) S1024x256 .f32) :: (⟨rA0, b⟩ : View.Piece (Elt F) S1024x256 .f32) :: (⟨rA3, c⟩ : View.Piece (Elt F) S1024x256 .f32) :: ⟨rA2, w⟩ :: L) rA2.toLoadRect = w := by
  refine (View.readCov_cons_of_disjoint v (⟨rA1, a⟩ : View.Piece (Elt F) S1024x256 .f32) ((⟨rA0, b⟩ : View.Piece (Elt F) S1024x256 .f32) :: ((⟨rA3, c⟩ : View.Piece (Elt F) S1024x256 .f32) :: (⟨rA2, w⟩ :: L))) rA2.toLoadRect dA12).trans ?_
  refine (View.readCov_cons_of_disjoint v (⟨rA0, b⟩ : View.Piece (Elt F) S1024x256 .f32) ((⟨rA3, c⟩ : View.Piece (Elt F) S1024x256 .f32) :: (⟨rA2, w⟩ :: L)) rA2.toLoadRect dA02).trans ?_
  refine (View.readCov_cons_of_disjoint v (⟨rA3, c⟩ : View.Piece (Elt F) S1024x256 .f32) (⟨rA2, w⟩ :: L) rA2.toLoadRect dA32).trans ?_
  exact View.readCov_cons_toLoadRect v rA2 w L
theorem rcA3 (v : View sig .tc .vmem S1024x256 .f32) (a b c w : Vec F S256x256 .f32) (L : List (View.Piece (Elt F) S1024x256 .f32)) :
    v.readCov ((⟨rA2, a⟩ : View.Piece (Elt F) S1024x256 .f32) :: (⟨rA1, b⟩ : View.Piece (Elt F) S1024x256 .f32) :: (⟨rA0, c⟩ : View.Piece (Elt F) S1024x256 .f32) :: ⟨rA3, w⟩ :: L) rA3.toLoadRect = w := by
  refine (View.readCov_cons_of_disjoint v (⟨rA2, a⟩ : View.Piece (Elt F) S1024x256 .f32) ((⟨rA1, b⟩ : View.Piece (Elt F) S1024x256 .f32) :: ((⟨rA0, c⟩ : View.Piece (Elt F) S1024x256 .f32) :: (⟨rA3, w⟩ :: L))) rA3.toLoadRect dA23).trans ?_
  refine (View.readCov_cons_of_disjoint v (⟨rA1, b⟩ : View.Piece (Elt F) S1024x256 .f32) ((⟨rA0, c⟩ : View.Piece (Elt F) S1024x256 .f32) :: (⟨rA3, w⟩ :: L)) rA3.toLoadRect dA13).trans ?_
  refine (View.readCov_cons_of_disjoint v (⟨rA0, c⟩ : View.Piece (Elt F) S1024x256 .f32) (⟨rA3, w⟩ :: L) rA3.toLoadRect dA03).trans ?_
  exact View.readCov_cons_toLoadRect v rA3 w L

/-- A store of the whole buffer read back through any rectangle. -/
theorem rc_full {s : Shape} {e : EltTy} (v : View sig .tc .vmem s e) {o : Fin s.rank → ℕ} (ho : o = fun _ => 0) (hi : ∀ a, o a + s.size a ≤ s.size a)
    (w : s.Idx → Elt F e) (L : List (View.Piece (Elt F) s e)) (r : Rect s) :
    v.readCov (⟨Rect.unit (s := s) o s.size hi, w⟩ :: L) r.toLoadRect = View.ld (Val := Elt F) (e' := e) w r := by
  rw [View.readCov_eq_canon']
  exact congrArg (fun z => View.ld (Val := Elt F) (e' := e) z r) (View.canon_cons_unit_zero ho hi w L)

theorem read_full {s : Shape} {e : EltTy} (v : View sig .tc .vmem s e) (f : v.ty.Contents (Elt F)) {o : Fin s.rank → ℕ} (ho : o = fun _ => 0) (hi : ∀ a, o a + s.size a ≤ s.size a)
    (w : s.Idx → Elt F e) (L : List (View.Piece (Elt F) s e)) :
    v.read (Elt F) (v.writes (Elt F) f (⟨Rect.unit (s := s) o s.size hi, w⟩ :: L)) = w := by
  rw [View.read_writes_eq_canon v f _ (fun y => ⟨⟨Rect.unit (s := s) o s.size hi, w⟩, List.mem_cons_self, by
    subst ho; exact (show y ∈ (Rect.unit (s := s) (fun _ => 0) s.size hi).set from Rect.mem_set_unit.2 fun a => ⟨Nat.zero_le _, by simpa using (y a).isLt⟩)⟩)]
  exact View.canon_cons_unit_zero ho hi w L

theorem off2z : (![0, 0] : Fin 2 → ℕ) = fun _ => 0 := by funext a; fin_cases a <;> rfl
theorem off3z : (![0, 0, 0] : Fin 3 → ℕ) = fun _ => 0 := by funext a; fin_cases a <;> rfl
theorem off4z : (![0, 0, 0, 0] : Fin 4 → ℕ) = fun _ => 0 := by funext a; fin_cases a <;> rfl

end Cert.KernelIdeal.Hand

end
-- ==== Proof.Trip.lean ====
module

public import proofs.«01_k».proof.Proof.State

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ### Where the blocks lie -/

theorem trips_lt (i : grid0.Coords) (k : Fin (k0_t1_loop i).trips) : k.val < 1 :=
  Nat.lt_of_lt_of_le k.isLt (k0_t1_abs i).2.1

theorem off1_eq (i : grid0.Coords) (k : Fin (k0_t1_loop i).trips) : k0_off1 i k = offB 1 := by
  have h : k.val = 0 := by have := trips_lt i k; omega
  simp only [k0_off1, h]; decide
theorem off2_eq (i : grid0.Coords) (k : Fin (k0_t1_loop i).trips) : k0_off2 i k = offB 0 := by
  have h : k.val = 0 := by have := trips_lt i k; omega
  simp only [k0_off2, h]; decide
theorem off3_eq (i : grid0.Coords) (k : Fin (k0_t1_loop i).trips) : k0_off3 i k = offB 2 := by
  have h : k.val = 0 := by have := trips_lt i k; omega
  simp only [k0_off3, h]; decide

/-! ### One trip of the loop: two blocks of keys -/

set_option maxHeartbeats 4000000 in
theorem trip1 (𝒱 : Variants) (c : Dev nD) (bd : Option 𝒱.V) (E : Set ℕ) (i : grid0.Coords) (arg3 : Memref sig .tc .vmem S1x1x1024x256 .bf16) (harg3 : arg3.IsWhole) (arg4 : Memref sig .tc .vmem S1x1x4096x256 .bf16) (harg4 : arg4.IsWhole) (arg5 : Memref sig .tc .vmem S1x1x4096x256 .bf16) (harg5 : arg5.IsWhole) (arg6 : Memref sig .tc .vmem S1x1024x128 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x256 .f32) (harg10 : arg10.IsWhole) (arg2 : BitVec 32) (v18 : BitVec 32) (v29 : BitVec 1) (v30 : BitVec 32) (c0_i32_18 : BitVec 32)
    (X3 : BufTy.Contents (Elt F) arg3.view.ty) (X4 : BufTy.Contents (Elt F) arg4.view.ty) (X5 : BufTy.Contents (Elt F) arg5.view.ty) (k : Fin (k0_t1_loop i).trips)
    (f7 : BufTy.Contents (Elt F) arg7.view.ty) (f8 : BufTy.Contents (Elt F) arg8.view.ty) (f9 : BufTy.Contents (Elt F) arg9.view.ty) (f10 : BufTy.Contents (Elt F) arg10.view.ty)
    (q : Vec F S1x1x1024x256 .bf16) (kk vv : Vec F S1x1x4096x256 .bf16) (s : Vec F S1024x1024 .f32) (m : Vec F S1024x128 .f32) (a : Vec F S1024x256 .f32)
    (hq : arg3.view.read (Elt F) X3 = q) (hk : arg4.view.read (Elt F) X4 = kk) (hv : arg5.view.read (Elt F) X5 = vv)
    (hs : arg7.view.read (Elt F) f7 = s) (hm : arg9.view.read (Elt F) f9 = m) (ha : arg10.view.read (Elt F) f10 = a) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg2 v18 v29 v30 c0_i32_18 k PUnit.unit)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g7, (arg7.view.loc (c : Thread nD τ) ↦[arg7.view.set]{fullShare} g7) ∗ ⌜arg7.view.read (Elt F) g7 = scB q kk 2⌝) ∗ (∃ g8, (arg8.view.loc (c : Thread nD τ) ↦[arg8.view.set]{fullShare} g8))
            ∗ (∃ g9, (arg9.view.loc (c : Thread nD τ) ↦[arg9.view.set]{fullShare} g9) ∗ ⌜arg9.view.read (Elt F) g9 = stepM (scB q kk 1) (stepM s m)⌝)
            ∗ (∃ g10, (arg10.view.loc (c : Thread nD τ) ↦[arg10.view.set]{fullShare} g10) ∗ ⌜arg10.view.read (Elt F) g10 = stepA (scB q kk 1) (stepM s m) (stepA s m a (blk vv 0)) (blk vv 1)⌝))) := by
  unfold k0_t1_body
  simp only [k0_part1_eq_skeleton, k0_part2_eq_skeleton, k0_part3_eq_skeleton, k0_part4_eq_skeleton, k0_part5_eq_skeleton, k0_part6_eq_skeleton, k0_part7_eq_skeleton]
  iintro ⟨HR_arg3, HR_arg4, HR_arg5, HW_arg7, HW_arg8, HW_arg9, HW_arg10⟩
  sl_exec
  sl_step
  isplitl [HR_arg3]; · iexact HR_arg3
  isplitl [HR_arg4]; · iexact HR_arg4
  isplitl [HR_arg5]; · iexact HR_arg5
  subst hq hk hv hs hm ha
  have hS : k0_pay4 (View.readAt (Elt F) arg3.view (Rect.unit (s := S1x1x1024x256) ![0, 0, 0, 0] S1x1x1024x256.size inb_S1x1x1024x256_S1x1x1024x256_0_0_0_0).toLoadRect X3)
      (View.readAt (Elt F) arg4.view (Rect.unit (s := S1x1x4096x256) (k0_off1 i k) S1x1x1024x256.size (k0_off1_inb i k)).toLoadRect X4)
      = scB (arg3.view.read (Elt F) X3) (arg4.view.read (Elt F) X4) 1 :=
    congrArg₂ k0_pay4 (View.ld_unit_zero off4z _ _) (ld_off _ (off1_eq i k) _ _ _)
  have hV0 : View.readAt (Elt F) arg5.view (Rect.unit (s := S1x1x4096x256) (k0_off2 i k) S1x1x1024x256.size (k0_off2_inb i k)).toLoadRect X5
      = blk (arg5.view.read (Elt F) X5) 0 := ld_off _ (off2_eq i k) _ _ _
  have hV1 : View.readAt (Elt F) arg5.view (Rect.unit (s := S1x1x4096x256) (k0_off1 i k) S1x1x1024x256.size (k0_off1_inb i k)).toLoadRect X5
      = blk (arg5.view.read (Elt F) X5) 1 := ld_off _ (off1_eq i k) _ _ _
  have eS0 : trip1.sl.v207 i arg3 arg4 arg8 X3 X4 k = View.ld (scB (arg3.view.read (Elt F) X3) (arg4.view.read (Elt F) X4) 1) rS0 :=
    (rc_full _ off2z _ _ _ rS0).trans (congrArg (fun z => View.ld z rS0) hS)
  have eS1 : trip1.sl.v235 i arg3 arg4 arg8 X3 X4 k = View.ld (scB (arg3.view.read (Elt F) X3) (arg4.view.read (Elt F) X4) 1) rS1 :=
    (rc_full _ off2z _ _ _ rS1).trans (congrArg (fun z => View.ld z rS1) hS)
  have eS2 : trip1.sl.v263 i arg3 arg4 arg8 X3 X4 k = View.ld (scB (arg3.view.read (Elt F) X3) (arg4.view.read (Elt F) X4) 1) rS2 :=
    (rc_full _ off2z _ _ _ rS2).trans (congrArg (fun z => View.ld z rS2) hS)
  have eS3 : trip1.sl.v291 i arg3 arg4 arg8 X3 X4 k = View.ld (scB (arg3.view.read (Elt F) X3) (arg4.view.read (Elt F) X4) 1) rS3 :=
    (rc_full _ off2z _ _ _ rS3).trans (congrArg (fun z => View.ld z rS3) hS)
  have eM0 : trip1.sl.v208 arg7 arg9 f7 f9 = View.ld (stepM (arg7.view.read (Elt F) f7) (arg9.view.read (Elt F) f9)) rM0 := by
    refine Eq.trans (b := k0_pay13 (View.ld (arg7.view.read (Elt F) f7) rS0) (View.ld (arg9.view.read (Elt F) f9) rM0)) (rcM0 _ _ _ _ _ _) ?_
    exact (ldM0 _ _ _ _).symm
  have eM1 : trip1.sl.v236 i arg3 arg4 arg7 arg8 arg9 X3 X4 k f7 f9 = View.ld (stepM (arg7.view.read (Elt F) f7) (arg9.view.read (Elt F) f9)) rM1 := by
    refine Eq.trans (b := k0_pay13 (View.ld (arg7.view.read (Elt F) f7) rS1) (View.ld (arg9.view.read (Elt F) f9) rM1)) (rcM1 _ _ _ _ _ _) ?_
    exact (ldM1 _ _ _ _).symm
  have eM2 : trip1.sl.v264 i arg3 arg4 arg7 arg8 arg9 X3 X4 k f7 f9 = View.ld (stepM (arg7.view.read (Elt F) f7) (arg9.view.read (Elt F) f9)) rM2 := by
    refine Eq.trans (b := k0_pay13 (View.ld (arg7.view.read (Elt F) f7) rS2) (View.ld (arg9.view.read (Elt F) f9) rM2)) (rcM2 _ _ _ _ _ _) ?_
    exact (ldM2 _ _ _ _).symm
  have eM3 : trip1.sl.v292 i arg3 arg4 arg7 arg8 arg9 X3 X4 k f7 f9 = View.ld (stepM (arg7.view.read (Elt F) f7) (arg9.view.read (Elt F) f9)) rM3 := by
    refine Eq.trans (b := k0_pay13 (View.ld (arg7.view.read (Elt F) f7) rS3) (View.ld (arg9.view.read (Elt F) f9) rM3)) (rcM3 _ _ _ _ _ _) ?_
    exact (ldM3 _ _ _ _).symm
  have eA0 : trip1.sl.v219 i arg5 arg7 arg9 arg10 X5 k f7 f9 f10 = View.ld (stepA (arg7.view.read (Elt F) f7) (arg9.view.read (Elt F) f9) (arg10.view.read (Elt F) f10) (blk (arg5.view.read (Elt F) X5) 0)) rA0 := by
    refine Eq.trans (b := k0_pay12 (View.ld (arg7.view.read (Elt F) f7) rS0) (View.ld (arg9.view.read (Elt F) f9) rM0) (View.ld (arg10.view.read (Elt F) f10) rA0) (View.readAt (Elt F) arg5.view (Rect.unit (s := S1x1x4096x256) (k0_off2 i k) S1x1x1024x256.size (k0_off2_inb i k)).toLoadRect X5)) (rcA0 _ _ _ _ _ _) ?_
    rw [hV0]
    exact (ldA0 _ _ _ _).symm
  have eA1 : trip1.sl.v247 i arg3 arg4 arg5 arg7 arg8 arg9 arg10 X3 X4 X5 k f7 f9 f10 = View.ld (stepA (arg7.view.read (Elt F) f7) (arg9.view.read (Elt F) f9) (arg10.view.read (Elt F) f10) (blk (arg5.view.read (Elt F) X5) 0)) rA1 := by
    refine Eq.trans (b := k0_pay12 (View.ld (arg7.view.read (Elt F) f7) rS1) (View.ld (arg9.view.read (Elt F) f9) rM1) (View.ld (arg10.view.read (Elt F) f10) rA1) (View.readAt (Elt F) arg5.view (Rect.unit (s := S1x1x4096x256) (k0_off2 i k) S1x1x1024x256.size (k0_off2_inb i k)).toLoadRect X5)) (rcA1 _ _ _ _ _ _) ?_
    rw [hV0]
    exact (ldA1 _ _ _ _).symm
  have eA2 : trip1.sl.v275 i arg3 arg4 arg5 arg7 arg8 arg9 arg10 X3 X4 X5 k f7 f9 f10 = View.ld (stepA (arg7.view.read (Elt F) f7) (arg9.view.read (Elt F) f9) (arg10.view.read (Elt F) f10) (blk (arg5.view.read (Elt F) X5) 0)) rA2 := by
    refine Eq.trans (b := k0_pay12 (View.ld (arg7.view.read (Elt F) f7) rS2) (View.ld (arg9.view.read (Elt F) f9) rM2) (View.ld (arg10.view.read (Elt F) f10) rA2) (View.readAt (Elt F) arg5.view (Rect.unit (s := S1x1x4096x256) (k0_off2 i k) S1x1x1024x256.size (k0_off2_inb i k)).toLoadRect X5)) (rcA2 _ _ _ _ _ _) ?_
    rw [hV0]
    exact (ldA2 _ _ _ _).symm
  have eA3 : trip1.sl.v303 i arg3 arg4 arg5 arg7 arg8 arg9 arg10 X3 X4 X5 k f7 f9 f10 = View.ld (stepA (arg7.view.read (Elt F) f7) (arg9.view.read (Elt F) f9) (arg10.view.read (Elt F) f10) (blk (arg5.view.read (Elt F) X5) 0)) rA3 := by
    refine Eq.trans (b := k0_pay12 (View.ld (arg7.view.read (Elt F) f7) rS3) (View.ld (arg9.view.read (Elt F) f9) rM3) (View.ld (arg10.view.read (Elt F) f10) rA3) (View.readAt (Elt F) arg5.view (Rect.unit (s := S1x1x4096x256) (k0_off2 i k) S1x1x1024x256.size (k0_off2_inb i k)).toLoadRect X5)) (rcA3 _ _ _ _ _ _) ?_
    rw [hV0]
    exact (ldA3 _ _ _ _).symm
  isplitl [HW_arg7]
  · iexists _
    isplitl [HW_arg7]; · iexact HW_arg7
    ipureintro
    refine (read_full _ _ off2z _ _ _).trans ?_
    exact congrArg₂ k0_pay4 (View.ld_unit_zero off4z _ _) (ld_off _ (off3_eq i k) _ _ _)
  isplitl [HW_arg8]
  · iexists _; iexact HW_arg8
  isplitl [HW_arg9]
  · iexists _
    isplitl [HW_arg9]; · iexact HW_arg9
    ipureintro
    refine (read_writesM _ _ _ _ _ _ _).trans ?_
    refine canonM_congr ?_ ?_ ?_ ?_
    · rw [eM0, eS0]; rfl
    · unfold trip1.sl.r_7; rw [eM1, eS1]; rfl
    · unfold trip1.sl.r_8; rw [eM2, eS2]; rfl
    · unfold trip1.sl.r_11; rw [eM3, eS3]; rfl
  · iexists _
    isplitl [HW_arg10]; · iexact HW_arg10
    ipureintro
    refine (read_writesA _ _ _ _ _ _ _).trans ?_
    refine canonA_congr ?_ ?_ ?_ ?_
    all_goals try unfold trip1.sl.r_11
    all_goals try unfold trip1.sl.r_10
    all_goals try unfold trip1.sl.r_8
    all_goals try unfold trip1.sl.r_9
    all_goals try unfold trip1.sl.r_7
    · rw [eM0, eS0, eA0, hV1]; rfl
    · rw [eM1, eS1, eA1, hV1]; rfl
    · rw [eM2, eS2, eA2, hV1]; rfl
    · rw [eM3, eS3, eA3, hV1]; rfl

end Cert.KernelIdeal.Hand

end
-- ==== Proof.Body.lean ====
module

public import proofs.«01_k».proof.Proof.Trip
public import Mathlib.Tactic.IntervalCases

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the loop over pairs of blocks keeps: before trip `n`, the scores of block `2 n` and the state after `2 n` blocks. -/
def invAt (c : Dev nD) (arg3 : Memref sig .tc .vmem S1x1x1024x256 .bf16) (harg3 : arg3.IsWhole) (arg4 : Memref sig .tc .vmem S1x1x4096x256 .bf16) (harg4 : arg4.IsWhole) (arg5 : Memref sig .tc .vmem S1x1x4096x256 .bf16) (harg5 : arg5.IsWhole) (arg6 : Memref sig .tc .vmem S1x1024x128 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x256 .f32) (harg10 : arg10.IsWhole) (X3 : BufTy.Contents (Elt F) arg3.view.ty) (X4 : BufTy.Contents (Elt F) arg4.view.ty) (X5 : BufTy.Contents (Elt F) arg5.view.ty) (n : ℕ) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g7, (arg7.view.loc (c : Thread nD τ) ↦[arg7.view.set]{fullShare} g7) ∗ ⌜arg7.view.read (Elt F) g7 = scB (arg3.view.read (Elt F) X3) (arg4.view.read (Elt F) X4) (Fin.ofNat 4 n)⌝) ∗ (∃ g8, (arg8.view.loc (c : Thread nD τ) ↦[arg8.view.set]{fullShare} g8))
            ∗ (∃ g9, (arg9.view.loc (c : Thread nD τ) ↦[arg9.view.set]{fullShare} g9) ∗ ⌜arg9.view.read (Elt F) g9 = stM (arg3.view.read (Elt F) X3) (arg4.view.read (Elt F) X4) n⌝)
            ∗ (∃ g10, (arg10.view.loc (c : Thread nD τ) ↦[arg10.view.set]{fullShare} g10) ∗ ⌜arg10.view.read (Elt F) g10 = stA (arg3.view.read (Elt F) X3) (arg4.view.read (Elt F) X4) (arg5.view.read (Elt F) X5) n⌝))

@[reducible] def loop1 (𝒱 : Variants) (c : Dev nD) (bd : Option 𝒱.V) (E : Set ℕ) (i : grid0.Coords) (arg3 : Memref sig .tc .vmem S1x1x1024x256 .bf16) (harg3 : arg3.IsWhole) (arg4 : Memref sig .tc .vmem S1x1x4096x256 .bf16) (harg4 : arg4.IsWhole) (arg5 : Memref sig .tc .vmem S1x1x4096x256 .bf16) (harg5 : arg5.IsWhole) (arg6 : Memref sig .tc .vmem S1x1024x128 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x256 .f32) (harg10 : arg10.IsWhole) (arg2 : BitVec 32) (v18 : BitVec 32) (v29 : BitVec 1) (v30 : BitVec 32) (c0_i32_18 : BitVec 32) (X3 : BufTy.Contents (Elt F) arg3.view.ty) (X4 : BufTy.Contents (Elt F) arg4.view.ty) (X5 : BufTy.Contents (Elt F) arg5.view.ty) :
    Idealize.ShloMosaic.LoopInv (M := 𝕄) Idealize.ShloMosaic.frame (wpE defs₀ 𝒱 (c : Thread nD τ) bd) E
      (k0_t1_loop i).lb (k0_t1_loop i).ub (k0_t1_loop i).st (k0_t1_ok i) () (k0_t1_body (F := F) i arg3 harg3 arg4 harg4 arg5 harg5 arg6 harg6 arg7 harg7 arg8 harg8 arg9 harg9 arg10 harg10 arg2 v18 v29 v30 c0_i32_18) where
  inv n _ := invAt c arg3 harg3 arg4 harg4 arg5 harg5 arg6 harg6 arg7 harg7 arg8 harg8 arg9 harg9 arg10 harg10 X3 X4 X5 (2 * n)
  step k acc := by
    have hk : k.val = 0 := by have := trips_lt i k; omega
    rw [hk]
    unfold invAt
    iintro ⟨H3, H4, H5, ⟨%g7, H7, %h7⟩, ⟨%g8, H8⟩, ⟨%g9, H9, %h9⟩, ⟨%g10, H10, %h10⟩⟩
    iapply (trip1 𝒱 c bd E i arg3 harg3 arg4 harg4 arg5 harg5 arg6 harg6 arg7 harg7 arg8 harg8 arg9 harg9 arg10 harg10 arg2 v18 v29 v30 c0_i32_18 X3 X4 X5 k g7 g8 g9 g10 _ _ _ _ _ _ rfl rfl rfl h7 h9 h10)
    isplitl [H3]; · iexact H3
    isplitl [H4]; · iexact H4
    isplitl [H5]; · iexact H5
    isplitl [H7]; · iexact H7
    isplitl [H8]; · iexact H8
    isplitl [H9]; · iexact H9
    iexact H10

theorem trips1_eq (i : grid0.Coords) : (k0_t1_loop i).trips = (i 2).val / 2 := by
  have h : (i 2).val < 4 := (i 2).isLt
  dsimp only [k0_t1_loop]
  generalize (i 2).val = n at h ⊢
  interval_cases n <;> decide
theorem trips2_eq (i : grid0.Coords) : (k0_t2_loop i).trips = 0 := by
  have h : (i 2).val < 4 := (i 2).isLt
  dsimp only [k0_t2_loop]
  generalize (i 2).val = n at h ⊢
  interval_cases n <;> decide
theorem cond1_iff (i : grid0.Coords) : k0_cond1 i = 1#1 ↔ (i 2).val % 2 = 0 := by
  have h : (i 2).val < 4 := (i 2).isLt
  dsimp only [k0_cond1]
  generalize (i 2).val = n at h ⊢
  interval_cases n <;> decide
theorem cond2_iff (i : grid0.Coords) : k0_cond2 i = 1#1 ↔ (i 2).val % 2 = 1 := by
  have h : (i 2).val < 4 := (i 2).isLt
  dsimp only [k0_cond2]
  generalize (i 2).val = n at h ⊢
  interval_cases n <;> decide
theorem off7_eq (i : grid0.Coords) : k0_off7 i = offB (i 2) := by
  refine Eq.trans (b := ![0, 0, 1024 * (i 2).val, 0]) ?_ rfl
  have h : (i 2).val < 4 := (i 2).isLt
  dsimp only [k0_off7]
  generalize (i 2).val = n at h ⊢
  interval_cases n <;> decide
theorem off8_eq (i : grid0.Coords) : k0_off8 i = offB (i 2) := by
  refine Eq.trans (b := ![0, 0, 1024 * (i 2).val, 0]) ?_ rfl
  have h : (i 2).val < 4 := (i 2).isLt
  dsimp only [k0_off8]
  generalize (i 2).val = n at h ⊢
  interval_cases n <;> decide
theorem off9_eq (i : grid0.Coords) : k0_off9 i = offB (i 2) := by
  refine Eq.trans (b := ![0, 0, 1024 * (i 2).val, 0]) ?_ rfl
  have h : (i 2).val < 4 := (i 2).isLt
  dsimp only [k0_off9]
  generalize (i 2).val = n at h ⊢
  interval_cases n <;> decide
theorem off10_eq (i : grid0.Coords) : k0_off10 i = offB (i 2) := by
  refine Eq.trans (b := ![0, 0, 1024 * (i 2).val, 0]) ?_ rfl
  have h : (i 2).val < 4 := (i 2).isLt
  dsimp only [k0_off10]
  generalize (i 2).val = n at h ⊢
  interval_cases n <;> decide
theorem off11_eq (i : grid0.Coords) : k0_off11 i = offB (i 2) := by
  refine Eq.trans (b := ![0, 0, 1024 * (i 2).val, 0]) ?_ rfl
  have h : (i 2).val < 4 := (i 2).isLt
  dsimp only [k0_off11]
  generalize (i 2).val = n at h ⊢
  interval_cases n <;> decide
theorem off13_eq (i : grid0.Coords) : k0_off13 i = offB (i 2) := by
  refine Eq.trans (b := ![0, 0, 1024 * (i 2).val, 0]) ?_ rfl
  have h : (i 2).val < 4 := (i 2).isLt
  dsimp only [k0_off13]
  generalize (i 2).val = n at h ⊢
  interval_cases n <;> decide
theorem off14_eq (i : grid0.Coords) : k0_off14 i = offB (i 2) := by
  refine Eq.trans (b := ![0, 0, 1024 * (i 2).val, 0]) ?_ rfl
  have h : (i 2).val < 4 := (i 2).isLt
  dsimp only [k0_off14]
  generalize (i 2).val = n at h ⊢
  interval_cases n <;> decide
theorem off15_eq (i : grid0.Coords) : k0_off15 i = offB (i 2) := by
  refine Eq.trans (b := ![0, 0, 1024 * (i 2).val, 0]) ?_ rfl
  have h : (i 2).val < 4 := (i 2).isLt
  dsimp only [k0_off15]
  generalize (i 2).val = n at h ⊢
  interval_cases n <;> decide
theorem off16_eq (i : grid0.Coords) : k0_off16 i = offB (i 2) := by
  refine Eq.trans (b := ![0, 0, 1024 * (i 2).val, 0]) ?_ rfl
  have h : (i 2).val < 4 := (i 2).isLt
  dsimp only [k0_off16]
  generalize (i 2).val = n at h ⊢
  interval_cases n <;> decide

abbrev rO0 : Rect S1024x256 := Rect.unit (s := S1024x256) ![0, 0] S1024x128.size inb_S1024x256_S1024x128_0_0
abbrev rO1 : Rect S1024x256 := Rect.unit (s := S1024x256) ![0, 128] S1024x128.size inb_S1024x256_S1024x128_0_128

theorem rcOut (v : View sig .tc .vmem S1024x256 .f32) (w0 w1 w2 w3 : Vec F S256x256 .f32) (L : List (View.Piece (Elt F) S1024x256 .f32)) (r : Rect S1024x256) :
    v.readCov (⟨rA3, w3⟩ :: ⟨rA2, w2⟩ :: ⟨rA1, w1⟩ :: ⟨rA0, w0⟩ :: L) r.toLoadRect = View.ld (Val := Elt F) (e' := .f32) (View.canon (pcsA w0 w1 w2 w3)) r := by
  rw [View.readCov_eq_canon']
  exact congrArg (fun z => View.ld (Val := Elt F) (e' := .f32) z r) (canon_append_cover (pcsA w0 w1 w2 w3) L (covA w0 w1 w2 w3))

theorem outOf_of (v : View sig .tc .vmem S1024x256 .f32) (w0 w1 w2 w3 : Vec F S256x256 .f32) (L : List (View.Piece (Elt F) S1024x256 .f32)) (D : Vec F S1024x256 .f32)
    (h : View.canon (Val := Elt F) (pcsA w0 w1 w2 w3) = D) :
    k0_pay125 (v.readCov (⟨rA3, w3⟩ :: ⟨rA2, w2⟩ :: ⟨rA1, w1⟩ :: ⟨rA0, w0⟩ :: L) rO0.toLoadRect) (v.readCov (⟨rA3, w3⟩ :: ⟨rA2, w2⟩ :: ⟨rA1, w1⟩ :: ⟨rA0, w0⟩ :: L) rO1.toLoadRect) = outOf D := by
  subst h
  exact congrArg₂ k0_pay125 (rcOut v w0 w1 w2 w3 L rO0) (rcOut v w0 w1 w2 w3 L rO1)

theorem stM_succ (q : Vec F S1x1x1024x256 .bf16) (k : Vec F S1x1x4096x256 .bf16) (n : ℕ) : stM q k (n + 1) = stepM (scB q k (Fin.ofNat 4 n)) (stM q k n) := rfl
theorem stA_succ (q : Vec F S1x1x1024x256 .bf16) (k v : Vec F S1x1x4096x256 .bf16) (n : ℕ) : stA q k v (n + 1) = stepA (scB q k (Fin.ofNat 4 n)) (stM q k n) (stA q k v n) (blk v (Fin.ofNat 4 n)) := rfl

theorem off12_eq (i : grid0.Coords) (h1 : (i 2).val % 2 = 1) : k0_off12 i = offB (Fin.ofNat 4 ((i 2).val - 1)) := by
  have h : (i 2).val < 4 := (i 2).isLt
  dsimp only [k0_off12]
  generalize (i 2).val = n at h h1 ⊢
  interval_cases n <;> revert h1 <;> decide

@[reducible] def loop2 (𝒱 : Variants) (c : Dev nD) (bd : Option 𝒱.V) (E : Set ℕ) (i : grid0.Coords) (arg3 : Memref sig .tc .vmem S1x1x1024x256 .bf16) (harg3 : arg3.IsWhole) (arg4 : Memref sig .tc .vmem S1x1x4096x256 .bf16) (harg4 : arg4.IsWhole) (arg5 : Memref sig .tc .vmem S1x1x4096x256 .bf16) (harg5 : arg5.IsWhole) (arg6 : Memref sig .tc .vmem S1x1024x128 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x256 .f32) (harg10 : arg10.IsWhole) (arg2 : BitVec 32) (v18 : BitVec 32) (v29 : BitVec 1) (v30 : BitVec 32) (c0_i32_18 : BitVec 32) (v39 : BitVec 32) (X3 : BufTy.Contents (Elt F) arg3.view.ty) (X4 : BufTy.Contents (Elt F) arg4.view.ty) (X5 : BufTy.Contents (Elt F) arg5.view.ty) (n₀ : ℕ) :
    Idealize.ShloMosaic.LoopInv (M := 𝕄) Idealize.ShloMosaic.frame (wpE defs₀ 𝒱 (c : Thread nD τ) bd) E
      (k0_t2_loop i).lb (k0_t2_loop i).ub (k0_t2_loop i).st (k0_t2_ok i) () (k0_t2_body (F := F) i arg3 harg3 arg4 harg4 arg5 harg5 arg6 harg6 arg7 harg7 arg8 harg8 arg9 harg9 arg10 harg10 arg2 v18 v29 v30 c0_i32_18 v39) where
  inv _ _ := invAt c arg3 harg3 arg4 harg4 arg5 harg5 arg6 harg6 arg7 harg7 arg8 harg8 arg9 harg9 arg10 harg10 X3 X4 X5 n₀
  step k acc := by
    have h := k.isLt
    have e := trips2_eq i
    exact absurd (show k.val < 0 from e ▸ h) (Nat.not_lt_zero _)

theorem loop1_exit (𝒱 : Variants) (c : Dev nD) (bd : Option 𝒱.V) (E : Set ℕ) (i : grid0.Coords) (arg3 : Memref sig .tc .vmem S1x1x1024x256 .bf16) (harg3 : arg3.IsWhole) (arg4 : Memref sig .tc .vmem S1x1x4096x256 .bf16) (harg4 : arg4.IsWhole) (arg5 : Memref sig .tc .vmem S1x1x4096x256 .bf16) (harg5 : arg5.IsWhole) (arg6 : Memref sig .tc .vmem S1x1024x128 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x256 .f32) (harg10 : arg10.IsWhole) (arg2 : BitVec 32) (v18 : BitVec 32) (v29 : BitVec 1) (v30 : BitVec 32) (c0_i32_18 : BitVec 32) (X3 : BufTy.Contents (Elt F) arg3.view.ty) (X4 : BufTy.Contents (Elt F) arg4.view.ty) (X5 : BufTy.Contents (Elt F) arg5.view.ty) (n : ℕ) (acc : PUnit) :
    (loop1 (F := F) 𝒱 c bd E i arg3 harg3 arg4 harg4 arg5 harg5 arg6 harg6 arg7 harg7 arg8 harg8 arg9 harg9 arg10 harg10 arg2 v18 v29 v30 c0_i32_18 X3 X4 X5).inv (k0_t1_loop i).trips acc ⊢ invAt c arg3 harg3 arg4 harg4 arg5 harg5 arg6 harg6 arg7 harg7 arg8 harg8 arg9 harg9 arg10 harg10 X3 X4 X5 (2 * ((i 2).val / 2)) := by
  rw [trips1_eq]; exact .rfl

theorem loop1_entry (𝒱 : Variants) (c : Dev nD) (bd : Option 𝒱.V) (E : Set ℕ) (i : grid0.Coords) (arg3 : Memref sig .tc .vmem S1x1x1024x256 .bf16) (harg3 : arg3.IsWhole) (arg4 : Memref sig .tc .vmem S1x1x4096x256 .bf16) (harg4 : arg4.IsWhole) (arg5 : Memref sig .tc .vmem S1x1x4096x256 .bf16) (harg5 : arg5.IsWhole) (arg6 : Memref sig .tc .vmem S1x1024x128 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x256 .f32) (harg10 : arg10.IsWhole) (arg2 : BitVec 32) (v18 : BitVec 32) (v29 : BitVec 1) (v30 : BitVec 32) (c0_i32_18 : BitVec 32) (X3 : BufTy.Contents (Elt F) arg3.view.ty) (X4 : BufTy.Contents (Elt F) arg4.view.ty) (X5 : BufTy.Contents (Elt F) arg5.view.ty) :
      iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g7, (arg7.view.loc (c : Thread nD τ) ↦[arg7.view.set]{fullShare} g7) ∗ ⌜arg7.view.read (Elt F) g7 = scB (arg3.view.read (Elt F) X3) (arg4.view.read (Elt F) X4) 0⌝) ∗ (∃ g8, (arg8.view.loc (c : Thread nD τ) ↦[arg8.view.set]{fullShare} g8))
            ∗ (∃ g9, (arg9.view.loc (c : Thread nD τ) ↦[arg9.view.set]{fullShare} g9) ∗ ⌜arg9.view.read (Elt F) g9 = stM (arg3.view.read (Elt F) X3) (arg4.view.read (Elt F) X4) 0⌝)
            ∗ (∃ g10, (arg10.view.loc (c : Thread nD τ) ↦[arg10.view.set]{fullShare} g10) ∗ ⌜arg10.view.read (Elt F) g10 = stA (arg3.view.read (Elt F) X3) (arg4.view.read (Elt F) X4) (arg5.view.read (Elt F) X5) 0⌝))
      ⊢ (loop1 (F := F) 𝒱 c bd E i arg3 harg3 arg4 harg4 arg5 harg5 arg6 harg6 arg7 harg7 arg8 harg8 arg9 harg9 arg10 harg10 arg2 v18 v29 v30 c0_i32_18 X3 X4 X5).inv 0 () := .rfl

theorem loop2_exit (𝒱 : Variants) (c : Dev nD) (bd : Option 𝒱.V) (E : Set ℕ) (i : grid0.Coords) (arg3 : Memref sig .tc .vmem S1x1x1024x256 .bf16) (harg3 : arg3.IsWhole) (arg4 : Memref sig .tc .vmem S1x1x4096x256 .bf16) (harg4 : arg4.IsWhole) (arg5 : Memref sig .tc .vmem S1x1x4096x256 .bf16) (harg5 : arg5.IsWhole) (arg6 : Memref sig .tc .vmem S1x1024x128 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x256 .f32) (harg10 : arg10.IsWhole) (arg2 : BitVec 32) (v18 : BitVec 32) (v29 : BitVec 1) (v30 : BitVec 32) (c0_i32_18 : BitVec 32) (v39 : BitVec 32) (X3 : BufTy.Contents (Elt F) arg3.view.ty) (X4 : BufTy.Contents (Elt F) arg4.view.ty) (X5 : BufTy.Contents (Elt F) arg5.view.ty) (n₀ n : ℕ) (acc : PUnit) :
    (loop2 (F := F) 𝒱 c bd E i arg3 harg3 arg4 harg4 arg5 harg5 arg6 harg6 arg7 harg7 arg8 harg8 arg9 harg9 arg10 harg10 arg2 v18 v29 v30 c0_i32_18 v39 X3 X4 X5 n₀).inv n acc ⊢
      iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g7, (arg7.view.loc (c : Thread nD τ) ↦[arg7.view.set]{fullShare} g7) ∗ ⌜arg7.view.read (Elt F) g7 = scB (arg3.view.read (Elt F) X3) (arg4.view.read (Elt F) X4) (Fin.ofNat 4 n₀)⌝) ∗ (∃ g8, (arg8.view.loc (c : Thread nD τ) ↦[arg8.view.set]{fullShare} g8))
            ∗ (∃ g9, (arg9.view.loc (c : Thread nD τ) ↦[arg9.view.set]{fullShare} g9) ∗ ⌜arg9.view.read (Elt F) g9 = stM (arg3.view.read (Elt F) X3) (arg4.view.read (Elt F) X4) n₀⌝)
            ∗ (∃ g10, (arg10.view.loc (c : Thread nD τ) ↦[arg10.view.set]{fullShare} g10) ∗ ⌜arg10.view.read (Elt F) g10 = stA (arg3.view.read (Elt F) X3) (arg4.view.read (Elt F) X4) (arg5.view.read (Elt F) X5) n₀⌝)) := .rfl

set_option maxHeartbeats 4000000 in
theorem body (𝒱 : Variants) (c : Dev nD) (bd : Option 𝒱.V) (E : Set ℕ) (i : grid0.Coords) (arg3 : Memref sig .tc .vmem S1x1x1024x256 .bf16) (harg3 : arg3.IsWhole) (arg4 : Memref sig .tc .vmem S1x1x4096x256 .bf16) (harg4 : arg4.IsWhole) (arg5 : Memref sig .tc .vmem S1x1x4096x256 .bf16) (harg5 : arg5.IsWhole) (arg6 : Memref sig .tc .vmem S1x1024x128 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x256 .f32) (harg10 : arg10.IsWhole) (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) 𝒱 (c : Thread nD τ) bd) E (cc0_mla_attention (F := F) i arg3 harg3 arg4 harg4 arg5 harg5 arg6 harg6 arg7 harg7 arg8 harg8 arg9 harg9 arg10 harg10)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g6, (arg6.view.loc (c : Thread nD τ) ↦[arg6.view.set]{fullShare} g6) ∗ ⌜arg6.view.read (Elt F) g6 = outB (arg3.view.read (Elt F) X3) (arg4.view.read (Elt F) X4) (arg5.view.read (Elt F) X5) (i 2)⌝)
            ∗ (∃ g7, (arg7.view.loc (c : Thread nD τ) ↦[arg7.view.set]{fullShare} g7)) ∗ (∃ g8, (arg8.view.loc (c : Thread nD τ) ↦[arg8.view.set]{fullShare} g8)) ∗ (∃ g9, (arg9.view.loc (c : Thread nD τ) ↦[arg9.view.set]{fullShare} g9)) ∗ (∃ g10, (arg10.view.loc (c : Thread nD τ) ↦[arg10.view.set]{fullShare} g10)))) := by
  rw [cc0_mla_attention_eq_skeleton]
  unfold cc0_mla_attention_skel
  simp only [k0_part25_eq_skeleton, k0_part26_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  iintro ⟨HR_arg3, HR_arg4, HR_arg5, HW_arg6, HW_arg7, HW_arg8, HW_arg9, HW_arg10⟩
  sl_exec
  iapply (Idealize.ShloMosaic.exec_loop _ _ _ _ _ _ _ _ _ (loop1 𝒱 c bd E i arg3 harg3 arg4 harg4 arg5 harg5 arg6 harg6 arg7 harg7 arg8 harg8 arg9 harg9 arg10 harg10 _ _ _ _ _ X3 X4 X5)) $$ [HR_arg3 HR_arg4 HR_arg5 HW_arg7 HW_arg8 HW_arg9 HW_arg10]
  · iapply (loop1_entry 𝒱 c bd E i arg3 harg3 arg4 harg4 arg5 harg5 arg6 harg6 arg7 harg7 arg8 harg8 arg9 harg9 arg10 harg10 _ _ _ _ _ X3 X4 X5)
    isplitl [HR_arg3]; · iexact HR_arg3
    isplitl [HR_arg4]; · iexact HR_arg4
    isplitl [HR_arg5]; · iexact HR_arg5
    isplitl [HW_arg7]
    · iexists _
      isplitl [HW_arg7]; · iexact HW_arg7
      ipureintro
      refine (read_full _ _ off2z _ _ _).trans ?_
      exact congrArg₂ k0_pay4 (View.ld_unit_zero off4z _ _) (ld_off _ (by decide) _ _ _)
    isplitl [HW_arg8]
    · iexists _; iexact HW_arg8
    isplitl [HW_arg9]
    · iexists _
      isplitl [HW_arg9]; · iexact HW_arg9
      ipureintro
      exact read_full _ _ off2z _ _ _
    · iexists _
      isplitl [HW_arg10]; · iexact HW_arg10
      ipureintro
      exact read_full _ _ off2z _ _ _
  iintro %acc HL
  ihave HM := (loop1_exit 𝒱 c bd E i arg3 harg3 arg4 harg4 arg5 harg5 arg6 harg6 arg7 harg7 arg8 harg8 arg9 harg9 arg10 harg10 _ _ _ _ _ X3 X4 X5 0 acc) $$ HL
  sl_exec
  iapply (Idealize.ShloMosaic.exec_loop _ _ _ _ _ _ _ _ _ (loop2 𝒱 c bd E i arg3 harg3 arg4 harg4 arg5 harg5 arg6 harg6 arg7 harg7 arg8 harg8 arg9 harg9 arg10 harg10 _ _ _ _ _ _ X3 X4 X5 (2 * ((i 2).val / 2)))) $$ [HM]
  · unfold loop2; iexact HM
  iintro %acc2 HL
  ihave HM := (loop2_exit 𝒱 c bd E i arg3 harg3 arg4 harg4 arg5 harg5 arg6 harg6 arg7 harg7 arg8 harg8 arg9 harg9 arg10 harg10 _ _ _ _ _ _ X3 X4 X5 _ _ acc2) $$ HL
  icases HM with ⟨HR_arg3, HR_arg4, HR_arg5, ⟨%g7, HW_arg7, %h7⟩, ⟨%g8, HW_arg8⟩, ⟨%g9, HW_arg9, %h9⟩, ⟨%g10, HW_arg10, %h10⟩⟩
  rcases Nat.mod_two_eq_zero_or_one (i 2).val with hp | hp
  · have hc1 : k0_cond1 i = 1#1 := (cond1_iff i).2 hp
    have hc2 : ¬ k0_cond2 i = 1#1 := fun h => by have := (cond2_iff i).1 h; omega
    have hn : 2 * ((i 2).val / 2) = (i 2).val := by omega
    rw [hn] at h7 h9 h10
    sl_exec
    sl_step
    isplitl [HR_arg3]; · iexact HR_arg3
    isplitl [HR_arg4]; · iexact HR_arg4
    isplitl [HR_arg5]; · iexact HR_arg5
    isplitl [HW_arg6]
    · iexists _
      isplitl [HW_arg6]; · iexact HW_arg6
      ipureintro
      refine (read_full _ _ off3z _ _ _).trans ?_
      have e4 : Fin.ofNat 4 (i 2).val = i 2 := Fin.ext (Nat.mod_eq_of_lt (i 2).isLt)
      rw [e4] at h7
      unfold outB
      rw [← h7, ← h9, ← h10]
      refine outOf_of _ _ _ _ _ _ _ ?_
      refine canonA_congr ?_ ?_ ?_ ?_
      · exact congrArg (fun z => k0_pay68 _ _ _ z) (ld_off _ (off7_eq i) _ _ _)
      · exact congrArg (fun z => k0_pay72 _ _ _ z) (ld_off _ (off8_eq i) _ _ _)
      · exact congrArg (fun z => k0_pay77 _ _ _ _ z) (ld_off _ (off9_eq i) _ _ _)
      · exact congrArg (fun z => k0_pay123 _ _ _ z) (ld_off _ (off10_eq i) _ _ _)
    isplitl [HW_arg7]; · iexists _; iexact HW_arg7
    isplitl [HW_arg8]; · iexists _; iexact HW_arg8
    isplitl [HW_arg9]; · iexists _; iexact HW_arg9
    iexists _; iexact HW_arg10
  · have hc1 : ¬ k0_cond1 i = 1#1 := fun h => by have := (cond1_iff i).1 h; omega
    have hc2 : k0_cond2 i = 1#1 := (cond2_iff i).2 hp
    have hn : 2 * ((i 2).val / 2) = (i 2).val - 1 := by omega
    rw [hn] at h7 h9 h10
    sl_exec
    sl_step
    isplitl [HR_arg3]; · iexact HR_arg3
    isplitl [HR_arg4]; · iexact HR_arg4
    isplitl [HR_arg5]; · iexact HR_arg5
    isplitl [HW_arg6]
    · iexists _
      isplitl [HW_arg6]; · iexact HW_arg6
      ipureintro
      refine (read_full _ _ off3z _ _ _).trans ?_
      have e4 : Fin.ofNat 4 (i 2).val = i 2 := Fin.ext (Nat.mod_eq_of_lt (i 2).isLt)
      have hsM : stM (arg3.view.read (Elt F) X3) (arg4.view.read (Elt F) X4) (i 2).val = stepM (arg7.view.read (Elt F) g7) (arg9.view.read (Elt F) g9) := by
        rw [h7, h9, ← stM_succ, Nat.sub_add_cancel (by omega)]
      have hsA : stA (arg3.view.read (Elt F) X3) (arg4.view.read (Elt F) X4) (arg5.view.read (Elt F) X5) (i 2).val = stepA (arg7.view.read (Elt F) g7) (arg9.view.read (Elt F) g9) (arg10.view.read (Elt F) g10) (blk (arg5.view.read (Elt F) X5) (Fin.ofNat 4 ((i 2).val - 1))) := by
        rw [h7, h9, h10, ← stA_succ, Nat.sub_add_cancel (by omega)]
      have hS : k0_pay4 (View.readAt (Elt F) arg3.view (Rect.unit (s := S1x1x1024x256) ![0, 0, 0, 0] S1x1x1024x256.size inb_S1x1x1024x256_S1x1x1024x256_0_0_0_0).toLoadRect X3)
          (View.readAt (Elt F) arg4.view (Rect.unit (s := S1x1x4096x256) (k0_off11 i) S1x1x1024x256.size (k0_off11_inb i hc2)).toLoadRect X4)
          = scB (arg3.view.read (Elt F) X3) (arg4.view.read (Elt F) X4) (i 2) :=
        congrArg₂ k0_pay4 (View.ld_unit_zero off4z _ _) (ld_off _ (off11_eq i) _ _ _)
      have hV0 : View.readAt (Elt F) arg5.view (Rect.unit (s := S1x1x4096x256) (k0_off12 i) S1x1x1024x256.size (k0_off12_inb i hc2)).toLoadRect X5 = blk (arg5.view.read (Elt F) X5) (Fin.ofNat 4 ((i 2).val - 1)) := ld_off _ (off12_eq i hp) _ _ _
      have hV1 : View.readAt (Elt F) arg5.view (Rect.unit (s := S1x1x4096x256) (k0_off13 i) S1x1x256x256.size (k0_off13_inb i hc2)).toLoadRect X5 = blk256 (arg5.view.read (Elt F) X5) (i 2) := ld_off _ (off13_eq i) _ _ _
      have hV2 : View.readAt (Elt F) arg5.view (Rect.unit (s := S1x1x4096x256) (k0_off14 i) S1x1x512x256.size (k0_off14_inb i hc2)).toLoadRect X5 = blk512 (arg5.view.read (Elt F) X5) (i 2) := ld_off _ (off14_eq i) _ _ _
      have hV3 : View.readAt (Elt F) arg5.view (Rect.unit (s := S1x1x4096x256) (k0_off15 i) S1x1x768x256.size (k0_off15_inb i hc2)).toLoadRect X5 = blk768 (arg5.view.read (Elt F) X5) (i 2) := ld_off _ (off15_eq i) _ _ _
      have hV4 : View.readAt (Elt F) arg5.view (Rect.unit (s := S1x1x4096x256) (k0_off16 i) S1x1x1024x256.size (k0_off16_inb i hc2)).toLoadRect X5 = blk (arg5.view.read (Elt F) X5) (i 2) := ld_off _ (off16_eq i) _ _ _
      have eS0 : body.sl.v193 i arg3 arg4 arg8 X3 X4 hc2 = View.ld (scB (arg3.view.read (Elt F) X3) (arg4.view.read (Elt F) X4) (i 2)) rD0 :=
        (rc_full _ off2z _ _ _ rD0).trans (congrArg (fun z => View.ld z rD0) hS)
      have eM0 : body.sl.v201 c arg7 arg9 g7 g9 = View.ld (stepM (arg7.view.read (Elt F) g7) (arg9.view.read (Elt F) g9)) rM0 := by
        refine Eq.trans (b := k0_pay13 (View.ld (arg7.view.read (Elt F) g7) rS0) (View.ld (arg9.view.read (Elt F) g9) rM0)) (rcM0 _ _ _ _ _ _) ?_
        exact (ldM0 _ _ _ _).symm
      have eA0 : body.sl.v212 c i arg5 arg7 arg9 arg10 X5 g7 g9 g10 hc2 = View.ld (stepA (arg7.view.read (Elt F) g7) (arg9.view.read (Elt F) g9) (arg10.view.read (Elt F) g10) (blk (arg5.view.read (Elt F) X5) (Fin.ofNat 4 ((i 2).val - 1)))) rA0 := by
        refine Eq.trans (b := k0_pay12 (View.ld (arg7.view.read (Elt F) g7) rS0) (View.ld (arg9.view.read (Elt F) g9) rM0) (View.ld (arg10.view.read (Elt F) g10) rA0) (View.readAt (Elt F) arg5.view (Rect.unit (s := S1x1x4096x256) (k0_off12 i) S1x1x1024x256.size (k0_off12_inb i hc2)).toLoadRect X5)) (rcA0 _ _ _ _ _ _) ?_
        rw [hV0]
        exact (ldA0 _ _ _ _).symm
      have eS1 : body.sl.v228 i arg3 arg4 arg8 X3 X4 hc2 = View.ld (scB (arg3.view.read (Elt F) X3) (arg4.view.read (Elt F) X4) (i 2)) rD1 :=
        (rc_full _ off2z _ _ _ rD1).trans (congrArg (fun z => View.ld z rD1) hS)
      have eM1 : body.sl.v236 c i arg3 arg4 arg7 arg8 arg9 X3 X4 g7 g9 hc2 = View.ld (stepM (arg7.view.read (Elt F) g7) (arg9.view.read (Elt F) g9)) rM1 := by
        refine Eq.trans (b := k0_pay13 (View.ld (arg7.view.read (Elt F) g7) rS1) (View.ld (arg9.view.read (Elt F) g9) rM1)) (rcM1 _ _ _ _ _ _) ?_
        exact (ldM1 _ _ _ _).symm
      have eA1 : body.sl.v247 c i arg3 arg4 arg5 arg7 arg8 arg9 arg10 X3 X4 X5 g7 g9 g10 hc2 = View.ld (stepA (arg7.view.read (Elt F) g7) (arg9.view.read (Elt F) g9) (arg10.view.read (Elt F) g10) (blk (arg5.view.read (Elt F) X5) (Fin.ofNat 4 ((i 2).val - 1)))) rA1 := by
        refine Eq.trans (b := k0_pay12 (View.ld (arg7.view.read (Elt F) g7) rS1) (View.ld (arg9.view.read (Elt F) g9) rM1) (View.ld (arg10.view.read (Elt F) g10) rA1) (View.readAt (Elt F) arg5.view (Rect.unit (s := S1x1x4096x256) (k0_off12 i) S1x1x1024x256.size (k0_off12_inb i hc2)).toLoadRect X5)) (rcA1 _ _ _ _ _ _) ?_
        rw [hV0]
        exact (ldA1 _ _ _ _).symm
      have eS2 : body.sl.v263 i arg3 arg4 arg8 X3 X4 hc2 = View.ld (scB (arg3.view.read (Elt F) X3) (arg4.view.read (Elt F) X4) (i 2)) rD2 :=
        (rc_full _ off2z _ _ _ rD2).trans (congrArg (fun z => View.ld z rD2) hS)
      have eM2 : body.sl.v271 c i arg3 arg4 arg7 arg8 arg9 X3 X4 g7 g9 hc2 = View.ld (stepM (arg7.view.read (Elt F) g7) (arg9.view.read (Elt F) g9)) rM2 := by
        refine Eq.trans (b := k0_pay13 (View.ld (arg7.view.read (Elt F) g7) rS2) (View.ld (arg9.view.read (Elt F) g9) rM2)) (rcM2 _ _ _ _ _ _) ?_
        exact (ldM2 _ _ _ _).symm
      have eA2 : body.sl.v282 c i arg3 arg4 arg5 arg7 arg8 arg9 arg10 X3 X4 X5 g7 g9 g10 hc2 = View.ld (stepA (arg7.view.read (Elt F) g7) (arg9.view.read (Elt F) g9) (arg10.view.read (Elt F) g10) (blk (arg5.view.read (Elt F) X5) (Fin.ofNat 4 ((i 2).val - 1)))) rA2 := by
        refine Eq.trans (b := k0_pay12 (View.ld (arg7.view.read (Elt F) g7) rS2) (View.ld (arg9.view.read (Elt F) g9) rM2) (View.ld (arg10.view.read (Elt F) g10) rA2) (View.readAt (Elt F) arg5.view (Rect.unit (s := S1x1x4096x256) (k0_off12 i) S1x1x1024x256.size (k0_off12_inb i hc2)).toLoadRect X5)) (rcA2 _ _ _ _ _ _) ?_
        rw [hV0]
        exact (ldA2 _ _ _ _).symm
      have eS3 : body.sl.v298 i arg3 arg4 arg8 X3 X4 hc2 = View.ld (scB (arg3.view.read (Elt F) X3) (arg4.view.read (Elt F) X4) (i 2)) rS3 :=
        (rc_full _ off2z _ _ _ rS3).trans (congrArg (fun z => View.ld z rS3) hS)
      have eM3 : body.sl.v306 c i arg3 arg4 arg7 arg8 arg9 X3 X4 g7 g9 hc2 = View.ld (stepM (arg7.view.read (Elt F) g7) (arg9.view.read (Elt F) g9)) rM3 := by
        refine Eq.trans (b := k0_pay13 (View.ld (arg7.view.read (Elt F) g7) rS3) (View.ld (arg9.view.read (Elt F) g9) rM3)) (rcM3 _ _ _ _ _ _) ?_
        exact (ldM3 _ _ _ _).symm
      have eA3 : body.sl.v317 c i arg3 arg4 arg5 arg7 arg8 arg9 arg10 X3 X4 X5 g7 g9 g10 hc2 = View.ld (stepA (arg7.view.read (Elt F) g7) (arg9.view.read (Elt F) g9) (arg10.view.read (Elt F) g10) (blk (arg5.view.read (Elt F) X5) (Fin.ofNat 4 ((i 2).val - 1)))) rA3 := by
        refine Eq.trans (b := k0_pay12 (View.ld (arg7.view.read (Elt F) g7) rS3) (View.ld (arg9.view.read (Elt F) g9) rM3) (View.ld (arg10.view.read (Elt F) g10) rA3) (View.readAt (Elt F) arg5.view (Rect.unit (s := S1x1x4096x256) (k0_off12 i) S1x1x1024x256.size (k0_off12_inb i hc2)).toLoadRect X5)) (rcA3 _ _ _ _ _ _) ?_
        rw [hV0]
        exact (ldA3 _ _ _ _).symm
      unfold outB
      rw [hsM, hsA]
      refine outOf_of _ _ _ _ _ _ _ ?_
      refine canonA_congr ?_ ?_ ?_ ?_
      · rw [← eS0, ← eM0, ← eA0, ← hV1]; rfl
      · rw [← eS1, ← eM1, ← eA1, ← hV2]; rfl
      · rw [← eS2, ← eM2, ← eA2, ← hV3]; rfl
      · rw [← eS3, ← eM3, ← eA3, ← hV4]; rfl
    isplitl [HW_arg7]; · iexists _; iexact HW_arg7
    isplitl [HW_arg8]; · iexists _; iexact HW_arg8
    isplitl [HW_arg9]; · iexists _; iexact HW_arg9
    iexists _; iexact HW_arg10

end Cert.KernelIdeal.Hand

end
-- ==== Proof.Run.lean ====
module

public import proofs.«01_k».proof.Proof.Body
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The class's invariant, its scratch buffers as memrefs owned at some contents. -/
theorem PhiA_eq (c : Dev nD) : (Pipeline.ΦA (U := UR sig nD τ) (Val := Elt F) spec0 c : sProp 𝕄)
    = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The pipeline's proof data: each input's buffer keeps its block, the output's holds the block `outB` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB (iblk m c 0 t) (iblk m c 1 t) (iblk m c 2 t) (grid0.coords t 2)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outB (iblk m c 0 t) (iblk m c 1 t) (iblk m c 2 t) (grid0.coords t 2) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body on owned memrefs: the inputs at `x3`, `x4`, `x5`, everything else at anything; afterwards the inputs
    are as they were and the output holds `outB` of them. -/
theorem sound_kernel (c : Dev nD) (E : Set ℕ) (i : grid0.Coords) (arg3 : Memref sig .tc .vmem S1x1x1024x256 .bf16) (harg3 : arg3.IsWhole) (arg4 : Memref sig .tc .vmem S1x1x4096x256 .bf16) (harg4 : arg4.IsWhole) (arg5 : Memref sig .tc .vmem S1x1x4096x256 .bf16) (harg5 : arg5.IsWhole) (arg6 : Memref sig .tc .vmem S1x1024x128 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x256 .f32) (harg10 : arg10.IsWhole)
    (x3 : Vec F S1x1x1024x256 .bf16) (x4 x5 : Vec F S1x1x4096x256 .bf16) :
    (iprop(owns (c : Thread nD τ) arg3 fullShare x3 ∗ owns (c : Thread nD τ) arg4 fullShare x4 ∗ owns (c : Thread nD τ) arg5 fullShare x5 ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) : sProp 𝕄)
      ⊢ wp frame (wpE (defs₀ (F := F)) Variants.none (c : Thread nD τ) none) E (cc0_mla_attention (F := F) i arg3 harg3 arg4 harg4 arg5 harg5 arg6 harg6 arg7 harg7 arg8 harg8 arg9 harg9 arg10 harg10)
          (fun _ => iprop(owns (c : Thread nD τ) arg3 fullShare x3 ∗ owns (c : Thread nD τ) arg4 fullShare x4 ∗ owns (c : Thread nD τ) arg5 fullShare x5 ∗ owns (c : Thread nD τ) arg6 fullShare (outB x3 x4 x5 (i 2))
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d))) := by
  unfold owns
  iintro ⟨⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩⟩
  subst h3 h4 h5
  ihave HB := (body Variants.none c none E i arg3 harg3 arg4 harg4 arg5 harg5 arg6 harg6 arg7 harg7 arg8 harg8 arg9 harg9 arg10 harg10 f3 f4 f5 f6 f7 f8 f9 f10) $$ [H3 H4 H5 H6 H7 H8 H9 H10]
  · isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iapply (wp_wand_r _ _ _)
  isplitl [HB]; · iexact HB
  iintro %_ ⟨H3, H4, H5, ⟨%g6, H6, %h6⟩, ⟨%g7, H7⟩, ⟨%g8, H8⟩, ⟨%g9, H9⟩, ⟨%g10, H10⟩⟩
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; exact h6
    iexact H6
  isplitl [H7]
  · iexists (arg7.view.read (Elt F) g7); iexists g7; isplitr; · ipureintro; rfl
    iexact H7
  isplitl [H8]
  · iexists (arg8.view.read (Elt F) g8); iexists g8; isplitr; · ipureintro; rfl
    iexact H8
  isplitl [H9]
  · iexists (arg9.view.read (Elt F) g9); iexists g9; isplitr; · ipureintro; rfl
    iexact H9
  · iexists (arg10.view.read (Elt F) g10); iexists g10; isplitr; · ipureintro; rfl
    iexact H10

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, show (dats m 0 c).Φ t.castSucc = Pipeline.ΦA spec0 c from rfl, PhiA_eq]
  iintro ⟨⟨⟨HS0, HS1, HS2, HS3⟩, HP⟩, Ho, ⟨%d0, H0⟩, ⟨%d1, H1⟩, ⟨%d2, H2⟩, ⟨%d3, H3⟩⟩
  ihave HB := (sound_kernel c Set.univ (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (Memref.isWhole_whole cc0_scratch0) _ (Memref.isWhole_whole cc0_scratch1) _ (Memref.isWhole_whole cc0_scratch2) _ (Memref.isWhole_whole cc0_scratch3) (iblk m c 0 t) (iblk m c 1 t) (iblk m c 2 t)) $$ [H0 H1 H2 H3 HS0 HS1 HS2 HS3]
  · isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iexact HS3
  iapply (wp_wand_r _ _ _)
  isplitl [HB]; · iexact HB
  iintro %_ ⟨H0, H1, H2, H3, HS0, HS1, HS2, HS3⟩
  isplitl [HP HS0 HS1 HS2 HS3]
  · isplitl [HS0 HS1 HS2 HS3]
    · isplitl [HS0]; · iexact HS0
      isplitl [HS1]; · iexact HS1
      isplitl [HS2]; · iexact HS2
      iexact HS3
    iexact HP
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

/-- Every point stores its output block: the diagonal is reached with the scores in one scratch buffer or the other. -/
theorem idle0_3 (i : grid0.Coords) : cfg0.idle 3 i = false := by
  show (!(k0_cond1 i == 1#1) && !(k0_cond2 i == 1#1)) = false
  rcases Nat.mod_two_eq_zero_or_one (i 2).val with h | h
  · rw [(cond1_iff i).2 h]; rfl
  · rw [(cond2_iff i).2 h]; simp

/-- The library's body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  rw [idle0_3 (cfg0.grid.coords t)]
  exact .rfl

set_option backward.isDefEq.respectTransparency.types false in
/-- The run: every final state has the arrays the proof data computes, and every counter is zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What every run ends in: the arguments as they were, the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.KernelIdeal.Hand

end
-- ==== Proof.Softmax.lean ====
module

public import Idealize.ShloMosaic.PureOps.Ideal.Laws
public import Idealize.ShloMosaic.Lib.Pointwise

/-! The softmax over a prefix of the keys, grown block by block: plain mathematics over the extended
    reals. `mx s n` is the greatest of the first `n` scores, `ac s v n` the sum of the first `n`
    values, each weighted by two to the power of its score less that maximum. -/

@[expose] public section

noncomputable section

namespace Cert.Att

open Idealize.ShloMosaic

def mx (s : ℕ → EReal) (n : ℕ) : EReal := (Finset.range n).sup s
def ac (s v : ℕ → EReal) (n : ℕ) : EReal := ∑ k ∈ Finset.range n, Ideal.exp2 (s k - mx s n) * v k

theorem le_mx {s : ℕ → EReal} {n k : ℕ} (h : k < n) : s k ≤ mx s n := Finset.le_sup (f := s) (Finset.mem_range.2 h)

theorem mx_mono {s : ℕ → EReal} {n n' : ℕ} (h : n ≤ n') : mx s n ≤ mx s n' :=
  Finset.sup_mono (Finset.range_subset_range.2 h)

theorem mx_congr {s t : ℕ → EReal} {n : ℕ} (h : ∀ k < n, s k = t k) : mx s n = mx t n :=
  Finset.sup_congr rfl fun k hk => h k (Finset.mem_range.1 hk)

theorem ac_congr {s t v w : ℕ → EReal} {n : ℕ} (h : ∀ k < n, s k = t k) (hv : ∀ k < n, v k = w k) : ac s v n = ac t w n := by
  unfold ac
  rw [mx_congr h]
  exact Finset.sum_congr rfl fun k hk => by rw [h k (Finset.mem_range.1 hk), hv k (Finset.mem_range.1 hk)]

theorem mx_ne_top {s : ℕ → EReal} (hs : ∀ k, s k ≠ ⊤) (n : ℕ) : mx s n ≠ ⊤ :=
  ((Finset.sup_lt_iff bot_lt_top).2 fun k _ => lt_top_iff_ne_top.2 (hs k)).ne

theorem mx_zero (s : ℕ → EReal) : mx s 0 = ⊥ := rfl
theorem ac_zero (s v : ℕ → EReal) : ac s v 0 = 0 := rfl

/-- The maximum after a further block. -/
theorem mx_add (s : ℕ → EReal) (n L : ℕ) :
    max (mx s n) (Finset.univ.fold max ⊥ fun k : Fin L => s (n + k.val)) = mx s (n + L) := by
  change max (mx s n) (Finset.univ.sup fun k : Fin L => s (n + k.val)) = _
  refine le_antisymm (max_le (mx_mono (by omega)) (Finset.sup_le fun k _ => le_mx (by have := k.isLt; omega))) (Finset.sup_le fun k hk => ?_)
  have hk' := Finset.mem_range.1 hk
  by_cases h : k < n
  · exact le_trans (le_mx h) (le_max_left _ _)
  · refine le_trans ?_ (le_max_right _ _)
    have := Finset.le_sup (f := fun k : Fin L => s (n + k.val)) (Finset.mem_univ ⟨k - n, by omega⟩)
    simpa [Nat.add_sub_cancel' (not_lt.1 h)] using this

theorem exp2_nonneg (x : EReal) : 0 ≤ Ideal.exp2 x := by
  induction x using EReal.rec with
  | bot => simp
  | top => simp
  | coe r => rw [Ideal.exp2_coe]; exact EReal.coe_nonneg.2 (Real.rpow_nonneg (by norm_num) r)

theorem exp2_ne_top {x : EReal} (h : x ≠ ⊤) : Ideal.exp2 x ≠ ⊤ := by
  induction x using EReal.rec with
  | bot => simp
  | top => exact absurd rfl h
  | coe r => rw [Ideal.exp2_coe]; exact EReal.coe_ne_top _

/-- Two to the power of a difference, through a number between. -/
theorem exp2_shift {a m m' : EReal} (ha : a ≤ m) (hm : m ≤ m') (h : m' ≠ ⊤) :
    Ideal.exp2 (m - m') * Ideal.exp2 (a - m) = Ideal.exp2 (a - m') := by
  induction a using EReal.rec with
  | bot => simp [EReal.bot_sub]
  | top => exact absurd (top_le_iff.1 (le_trans ha hm)) h
  | coe a =>
    induction m using EReal.rec with
    | bot => exact absurd (le_bot_iff.1 ha) (EReal.coe_ne_bot a)
    | top => exact absurd (top_le_iff.1 hm) h
    | coe m =>
      induction m' using EReal.rec with
      | bot => exact absurd (le_bot_iff.1 hm) (EReal.coe_ne_bot m)
      | top => exact absurd rfl h
      | coe m' =>
        rw [← EReal.coe_sub, ← EReal.coe_sub, ← EReal.coe_sub, Ideal.exp2_coe, Ideal.exp2_coe, Ideal.exp2_coe, ← EReal.coe_mul]
        refine congrArg _ ?_
        change (2 : ℝ) ^ (m - m') * (2 : ℝ) ^ (a - m) = (2 : ℝ) ^ (a - m')
        rw [← Real.rpow_add (by norm_num)]
        congr 1; ring

/-- A finite factor that is not negative goes into a sum. -/
theorem mul_sum_of {ι : Type} (S : Finset ι) (f : ι → EReal) {c : EReal} (h0 : 0 ≤ c) (ht : c ≠ ⊤) :
    c * ∑ k ∈ S, f k = ∑ k ∈ S, c * f k := by
  classical
  induction S using Finset.induction_on with
  | empty => simp
  | insert a S ha ih => rw [Finset.sum_insert ha, Finset.sum_insert ha, EReal.left_distrib_of_nonneg_of_ne_top h0 ht, ih]

/-- The weighted sum after a further block. -/
theorem ac_add {s : ℕ → EReal} (hs : ∀ k, s k ≠ ⊤) (v : ℕ → EReal) (n L : ℕ) :
    Ideal.exp2 (mx s n - mx s (n + L)) * ac s v n
      + ∑ k : Fin L, Ideal.exp2 (s (n + k.val) - mx s (n + L)) * v (n + k.val) = ac s v (n + L) := by
  have hc : Ideal.exp2 (mx s n - mx s (n + L)) ≠ ⊤ := by
    refine exp2_ne_top fun h => ?_
    have h1 : mx s n ≤ mx s (n + L) := mx_mono (by omega)
    have h2 := mx_ne_top hs n
    have h3 := mx_ne_top hs (n + L)
    generalize mx s n = a at *
    generalize mx s (n + L) = b at *
    induction a using EReal.rec with
    | bot => simp [EReal.bot_sub] at h
    | top => exact h2 rfl
    | coe a =>
      induction b using EReal.rec with
      | bot => exact absurd (le_bot_iff.1 h1) (EReal.coe_ne_bot a)
      | top => exact h3 rfl
      | coe b => rw [← EReal.coe_sub] at h; exact EReal.coe_ne_top _ h
  unfold ac
  rw [mul_sum_of _ _ (exp2_nonneg _) hc, Finset.sum_range_add, Finset.sum_range (fun x => Ideal.exp2 (s (n + x) - mx s (n + L)) * v (n + x))]
  congr 1
  refine Finset.sum_congr rfl fun k hk => ?_
  rw [← mul_assoc, exp2_shift (le_mx (Finset.mem_range.1 hk)) (mx_mono (by omega)) (mx_ne_top hs _)]

/-- Scores of minus infinity at the end change nothing. -/
theorem mx_tail {s : ℕ → EReal} {n N : ℕ} (h : n ≤ N) (hb : ∀ k, n ≤ k → s k = ⊥) : mx s N = mx s n := by
  refine le_antisymm (Finset.sup_le fun k hk => ?_) (mx_mono h)
  by_cases hkn : k < n
  · exact le_mx hkn
  · rw [hb k (not_lt.1 hkn)]; exact bot_le

theorem ac_tail {s : ℕ → EReal} (v : ℕ → EReal) {n N : ℕ} (h : n ≤ N) (hb : ∀ k, n ≤ k → s k = ⊥) : ac s v N = ac s v n := by
  unfold ac
  rw [mx_tail h hb]
  obtain ⟨d, rfl⟩ := Nat.exists_eq_add_of_le h
  rw [Finset.sum_range_add]
  refine (congrArg _ (Finset.sum_eq_zero fun k _ => ?_)).trans (add_zero _)
  rw [hb (n + k) (by omega), EReal.bot_sub, Ideal.exp2_bot, zero_mul]

/-- The softmax in base two, its division taken at the end, is the softmax in base e, each weight
    divided: the scores of the second are those of the first times the logarithm of two. -/
theorem softmax_eq {N : ℕ} (hN : 0 < N) (R : ℕ) (x : ℕ → ℝ) (s t v : ℕ → EReal)
    (hs : ∀ k, s k = if k ≤ R then (x k : EReal) else ⊥)
    (ht : ∀ k, t k = if k ≤ R then ((x k * Real.log 2 : ℝ) : EReal) else ⊥) :
    Ideal.div (ac s v N) (ac s (fun _ => 1) N)
      = ∑ k : Fin N, v k.val * Ideal.div (Ideal.exp (t k.val - mx t N)) (∑ j : Fin N, Ideal.exp (t j.val - mx t N)) := by
  have hl : 0 < Real.log 2 := Real.log_pos (by norm_num)
  have hst : ∀ k, s k ≠ ⊤ := fun k => by rw [hs]; split <;> simp
  obtain ⟨k0, hk0, e0⟩ := Finset.exists_mem_eq_sup (Finset.range N) ⟨0, Finset.mem_range.2 hN⟩ s
  have hM : ∃ M : ℝ, mx s N = (M : EReal) := by
    have h1 : (x 0 : EReal) ≤ mx s N := by
      have := le_mx (s := s) hN
      rwa [hs 0, if_pos (Nat.zero_le R)] at this
    have h2 := mx_ne_top hst N
    generalize mx s N = a at *
    induction a using EReal.rec with
    | bot => exact absurd (le_bot_iff.1 h1) (EReal.coe_ne_bot _)
    | top => exact absurd rfl h2
    | coe a => exact ⟨a, rfl⟩
  obtain ⟨M, hM⟩ := hM
  have hMt : mx t N = ((M * Real.log 2 : ℝ) : EReal) := by
    refine le_antisymm (Finset.sup_le fun k hk => ?_) ?_
    · have h := le_mx (s := s) (Finset.mem_range.1 hk)
      rw [hM, hs] at h
      rw [ht]
      split
      · next hkR =>
        rw [if_pos hkR, EReal.coe_le_coe_iff] at h
        exact EReal.coe_le_coe_iff.2 (mul_le_mul_of_nonneg_right h hl.le)
      · exact bot_le
    · have h : s k0 = (M : EReal) := e0.symm.trans hM
      have hkt := le_mx (s := t) (Finset.mem_range.1 hk0)
      rw [hs] at h
      rw [ht] at hkt
      split at h
      · next hkR =>
        rw [if_pos hkR, EReal.coe_eq_coe_iff.1 h] at hkt
        exact hkt
      · exact absurd h.symm (EReal.coe_ne_bot _)
  -- the weights are real numbers, the same in both bases
  let w : ℕ → ℝ := fun k => if k ≤ R then Real.exp ((x k - M) * Real.log 2) else 0
  have hw0 : ∀ k, 0 ≤ w k := fun k => by simp only [w]; split <;> positivity
  have hw2 : ∀ k, Ideal.exp2 (s k - mx s N) = (w k : EReal) := fun k => by
    rw [hM, hs]
    simp only [w]
    split
    · rw [← EReal.coe_sub, Ideal.exp2_coe]
      refine congrArg _ ?_
      change (2 : ℝ) ^ (x k - M) = _
      rw [Real.rpow_def_of_pos (by norm_num), mul_comm]
    · rw [EReal.bot_sub]; simp
  have hwe : ∀ k, Ideal.exp (t k - mx t N) = (w k : EReal) := fun k => by
    rw [hMt, ht]
    simp only [w]
    split
    · rw [← EReal.coe_sub, Ideal.exp_coe]
      refine congrArg _ ?_
      rw [sub_mul]
    · rw [EReal.bot_sub]; simp
  have hD : 0 < ∑ k ∈ Finset.range N, w k :=
    Finset.sum_pos' (fun k _ => hw0 k) ⟨0, Finset.mem_range.2 hN, by simp only [w, Nat.zero_le, if_true]; positivity⟩
  have hcoe : ∀ S : Finset ℕ, ((∑ k ∈ S, w k : ℝ) : EReal) = ∑ k ∈ S, (w k : EReal) := fun S => by
    classical
    induction S using Finset.induction_on with
    | empty => simp
    | insert a S ha ih => rw [Finset.sum_insert ha, Finset.sum_insert ha, EReal.coe_add, ih]
  have hden : ac s (fun _ => 1) N = ((∑ k ∈ Finset.range N, w k : ℝ) : EReal) := by
    unfold ac
    rw [hcoe]
    exact Finset.sum_congr rfl fun k _ => by rw [hw2, mul_one]
  have hden' : ∑ j : Fin N, Ideal.exp (t j.val - mx t N) = ((∑ k ∈ Finset.range N, w k : ℝ) : EReal) := by
    rw [hcoe, Finset.sum_range]
    exact Finset.sum_congr rfl fun k _ => hwe k.val
  rw [hden, hden', Ideal.div_coe hD.ne']
  unfold ac
  rw [mul_comm, mul_sum_of _ _ (EReal.coe_nonneg.2 (by positivity)) (EReal.coe_ne_top _), Finset.sum_range]
  refine Finset.sum_congr rfl fun k _ => ?_
  rw [hw2, hwe, Ideal.div_coe hD.ne', mul_comm (w k.val : EReal) (v k.val), mul_left_comm, mul_comm (((1 / _ : ℝ)) : EReal)]

end Cert.Att

end
-- ==== Proof.Step.lean ====
module

public import proofs.«01_k».proof.Proof.State
public import proofs.«01_k».proof.Proof.Softmax
public import Idealize.ShloMosaic.Lib.Pointwise

/-! What the running state holds, element by element, over the extended reals: the maximum and the
    weighted sum of Softmax.lean over the keys read so far. -/

@[expose] public section

set_option maxRecDepth 16384

noncomputable section

namespace Cert.KernelIdeal.Hand

open Cert.KernelIdeal Cert.KernelIdeal.Gen Cert.Att
open Idealize.ShloMosaic

theorem ofBits_ninf : Ideal.ofBits .f32 4286578688#32 = ⊥ := by simp [Ideal.ofBits, Ideal.ieee]

/-- The test of the causal mask. -/
theorem mask_at (k r o : ℕ) (hk : k < 4096) (hr : r < 4096) (ho : o < 4096) (x y : EReal) :
    Scalar.select (IntOp.cmpi .sle (BitVec.ofNat 32 k) (IntOp.addi (BitVec.ofNat 32 r) (BitVec.ofNat 32 o))) x y = if k ≤ r + o then x else y := by
  have h0 : ∀ n : ℕ, n < 2 ^ 31 → (BitVec.ofNat 32 n).toInt = (n : ℤ) := fun n hn => by
    rw [BitVec.toInt_eq_toNat_of_lt (by rw [BitVec.toNat_ofNat]; omega), BitVec.toNat_ofNat, Nat.mod_eq_of_lt (by omega)]
  have h1 := h0 k (by omega)
  have h2 : (BitVec.ofNat 32 r + BitVec.ofNat 32 o).toInt = ((r + o : ℕ) : ℤ) := by
    rw [← BitVec.ofNat_add, h0 _ (by omega)]
  simp only [IntOp.cmpi, IntOp.addi, Scalar.select, BitVec.sle, h1, h2]
  by_cases h : k ≤ r + o
  · rw [if_pos h, decide_eq_true (by exact_mod_cast h)]; rfl
  · rw [if_neg h, decide_eq_false (by exact_mod_cast h)]; rfl

theorem mask_fin {W : ℕ} (hW : W ≤ 1024) (k : Fin W) (r : Fin 256) (o : ℕ) (ho : o < 1024) (x y : EReal) :
    Scalar.select (IntOp.cmpi .sle (BitVec.ofNat 32 k.val) (IntOp.addi (BitVec.ofNat 32 r.val) (BitVec.ofNat 32 o))) x y = if k.val ≤ r.val + o then x else y :=
  mask_at k.val r.val o (by omega) (by omega) (by omega) x y

/-! ### A chunk of rows -/

theorem pay13_at (s : Vec Ideal S256x1024 .f32) (m : Vec Ideal S256x128 .f32) (r : Fin 256) (l : Fin 128) :
    k0_pay13 s m (ix2 r l) = max (m (ix2 r l)) (Finset.univ.fold max ⊥ fun k : Fin 1024 => s (ix2 r k)) := by
  pointwise [k0_pay13, k0_pay11, ofBits_ninf]

theorem cat256 (A : FVec Ideal S256x128 .f32) (c : Fin 256 → EReal) (h : ∀ r l, A (ix2 r l) = c r) (hh) :
    concatenate S256x256 1 [⟨S256x128, A⟩, ⟨S256x128, A⟩] hh = fun i => c (i 0) := by
  funext i
  idx_vars i
  pointwise
  simp only [h, dite_eq_ite, ite_self]

theorem cat512 (A : FVec Ideal S256x128 .f32) (c : Fin 256 → EReal) (h : ∀ r l, A (ix2 r l) = c r) (hh) :
    concatenate S256x512 1 [⟨S256x128, A⟩, ⟨S256x128, A⟩, ⟨S256x128, A⟩, ⟨S256x128, A⟩] hh = fun i => c (i 0) := by
  funext i
  idx_vars i
  pointwise
  simp only [h, dite_eq_ite, ite_self]

theorem cat768 (A : FVec Ideal S256x128 .f32) (c : Fin 256 → EReal) (h : ∀ r l, A (ix2 r l) = c r) (hh) :
    concatenate S256x768 1 [⟨S256x128, A⟩, ⟨S256x128, A⟩, ⟨S256x128, A⟩, ⟨S256x128, A⟩, ⟨S256x128, A⟩, ⟨S256x128, A⟩] hh = fun i => c (i 0) := by
  funext i
  idx_vars i
  pointwise
  simp only [h, dite_eq_ite, ite_self]

theorem cat1024 (A : FVec Ideal S256x128 .f32) (c : Fin 256 → EReal) (h : ∀ r l, A (ix2 r l) = c r) (hh) :
    concatenate S256x1024 1 [⟨S256x128, A⟩, ⟨S256x128, A⟩, ⟨S256x128, A⟩, ⟨S256x128, A⟩, ⟨S256x128, A⟩, ⟨S256x128, A⟩, ⟨S256x128, A⟩, ⟨S256x128, A⟩] hh = fun i => c (i 0) := by
  funext i
  idx_vars i
  pointwise
  simp only [h, dite_eq_ite, ite_self]

theorem pay12_at (s : Vec Ideal S256x1024 .f32) (m : Vec Ideal S256x128 .f32) (a : Vec Ideal S256x256 .f32) (v : Vec Ideal S1x1x1024x256 .bf16)
    (c : Fin 256 → EReal) (hm : ∀ r l, m (ix2 r l) = c r) (r : Fin 256) (l : Fin 256) :
    k0_pay12 s m a v (ix2 r l)
      = Ideal.exp2 (c r - max (c r) (Finset.univ.fold max ⊥ fun k : Fin 1024 => s (ix2 r k))) * a (ix2 r l)
        + ∑ k : Fin 1024, Ideal.exp2 ((s (ix2 r k)) - max (c r) (Finset.univ.fold max ⊥ fun k : Fin 1024 => s (ix2 r k))) * v (ix4 0 0 k l) := by
  have h : ∀ (r : Fin 256) (l : Fin 128), k0_pay11 s m (ix2 r l) = max (c r) (Finset.univ.fold max ⊥ fun k : Fin 1024 => s (ix2 r k)) := fun r l => by
    pointwise [k0_pay11, ofBits_ninf, hm]
    skip
  have h' : ∀ (r : Fin 256) (l : Fin 128), exp2 (subf m (k0_pay11 s m)) (ix2 r l) = Ideal.exp2 (c r - max (c r) (Finset.univ.fold max ⊥ fun k : Fin 1024 => s (ix2 r k))) := fun r l => by
    pointwise [h, hm]
    rfl
  unfold k0_pay12
  rw [cat1024 _ _ h, cat256 _ _ h']
  pointwise [ofBits_ninf]
  skip
  rfl

theorem pay68_at (s : Vec Ideal S256x256 .f32) (m : Vec Ideal S256x128 .f32) (a : Vec Ideal S256x256 .f32) (v : Vec Ideal S1x1x256x256 .bf16)
    (c : Fin 256 → EReal) (hm : ∀ r l, m (ix2 r l) = c r) (r : Fin 256) (l : Fin 256) :
    k0_pay68 s m a v (ix2 r l)
      = Ideal.exp2 (c r - max (c r) (Finset.univ.fold max ⊥ fun k : Fin 256 => if k.val ≤ r.val + 0 then s (ix2 r k) else ⊥)) * a (ix2 r l)
        + ∑ k : Fin 256, Ideal.exp2 ((if k.val ≤ r.val + 0 then s (ix2 r k) else ⊥) - max (c r) (Finset.univ.fold max ⊥ fun k : Fin 256 => if k.val ≤ r.val + 0 then s (ix2 r k) else ⊥)) * v (ix4 0 0 k l) := by
  have h : ∀ (r : Fin 256) (l : Fin 128), k0_pay67 s m (ix2 r l) = max (c r) (Finset.univ.fold max ⊥ fun k : Fin 256 => if k.val ≤ r.val + 0 then s (ix2 r k) else ⊥) := fun r l => by
    pointwise [k0_pay67, k0_pay66, ofBits_ninf, hm]
    simp only [mask_fin (W := 256) (by norm_num) _ _ 0 (by norm_num), Nat.add_zero]
  have h' : ∀ (r : Fin 256) (l : Fin 128), exp2 (subf m (k0_pay67 s m)) (ix2 r l) = Ideal.exp2 (c r - max (c r) (Finset.univ.fold max ⊥ fun k : Fin 256 => if k.val ≤ r.val + 0 then s (ix2 r k) else ⊥)) := fun r l => by
    pointwise [h, hm]
    rfl
  unfold k0_pay68
  rw [cat256 _ _ h, cat256 _ _ h']
  pointwise [k0_pay66, ofBits_ninf]
  simp only [mask_fin (W := 256) (by norm_num) _ _ 0 (by norm_num), Nat.add_zero]
  rfl

theorem pay72_at (s : Vec Ideal S256x512 .f32) (m : Vec Ideal S256x128 .f32) (a : Vec Ideal S256x256 .f32) (v : Vec Ideal S1x1x512x256 .bf16)
    (c : Fin 256 → EReal) (hm : ∀ r l, m (ix2 r l) = c r) (r : Fin 256) (l : Fin 256) :
    k0_pay72 s m a v (ix2 r l)
      = Ideal.exp2 (c r - max (c r) (Finset.univ.fold max ⊥ fun k : Fin 512 => if k.val ≤ r.val + 256 then s (ix2 r k) else ⊥)) * a (ix2 r l)
        + ∑ k : Fin 512, Ideal.exp2 ((if k.val ≤ r.val + 256 then s (ix2 r k) else ⊥) - max (c r) (Finset.univ.fold max ⊥ fun k : Fin 512 => if k.val ≤ r.val + 256 then s (ix2 r k) else ⊥)) * v (ix4 0 0 k l) := by
  have h : ∀ (r : Fin 256) (l : Fin 128), k0_pay71 s m (ix2 r l) = max (c r) (Finset.univ.fold max ⊥ fun k : Fin 512 => if k.val ≤ r.val + 256 then s (ix2 r k) else ⊥) := fun r l => by
    pointwise [k0_pay71, k0_pay70, ofBits_ninf, hm]
    simp only [mask_fin (W := 512) (by norm_num) _ _ 256 (by norm_num)]
  have h' : ∀ (r : Fin 256) (l : Fin 128), exp2 (subf m (k0_pay71 s m)) (ix2 r l) = Ideal.exp2 (c r - max (c r) (Finset.univ.fold max ⊥ fun k : Fin 512 => if k.val ≤ r.val + 256 then s (ix2 r k) else ⊥)) := fun r l => by
    pointwise [h, hm]
    rfl
  unfold k0_pay72
  rw [cat512 _ _ h, cat256 _ _ h']
  pointwise [k0_pay70, ofBits_ninf]
  simp only [mask_fin (W := 512) (by norm_num) _ _ 256 (by norm_num)]
  rfl

theorem pay77_at (s : Vec Ideal S256x768 .f32) (m : Vec Ideal S256x128 .f32) (a : Vec Ideal S256x256 .f32) (v : Vec Ideal S1x1x768x256 .bf16)
    (c : Fin 256 → EReal) (hm : ∀ r l, m (ix2 r l) = c r) (r : Fin 256) (l : Fin 256) :
    k0_pay77 s k0_pay74 m a v (ix2 r l)
      = Ideal.exp2 (c r - max (c r) (Finset.univ.fold max ⊥ fun k : Fin 768 => if k.val ≤ r.val + 512 then s (ix2 r k) else ⊥)) * a (ix2 r l)
        + ∑ k : Fin 768, Ideal.exp2 ((if k.val ≤ r.val + 512 then s (ix2 r k) else ⊥) - max (c r) (Finset.univ.fold max ⊥ fun k : Fin 768 => if k.val ≤ r.val + 512 then s (ix2 r k) else ⊥)) * v (ix4 0 0 k l) := by
  have h : ∀ (r : Fin 256) (l : Fin 128), k0_pay76 s k0_pay74 m (ix2 r l) = max (c r) (Finset.univ.fold max ⊥ fun k : Fin 768 => if k.val ≤ r.val + 512 then s (ix2 r k) else ⊥) := fun r l => by
    pointwise [k0_pay76, k0_pay75, k0_pay74, ofBits_ninf, hm]
    simp only [mask_fin (W := 768) (by norm_num) _ _ 512 (by norm_num)]
  have h' : ∀ (r : Fin 256) (l : Fin 128), exp2 (subf m (k0_pay76 s k0_pay74 m)) (ix2 r l) = Ideal.exp2 (c r - max (c r) (Finset.univ.fold max ⊥ fun k : Fin 768 => if k.val ≤ r.val + 512 then s (ix2 r k) else ⊥)) := fun r l => by
    pointwise [h, hm]
    rfl
  unfold k0_pay77
  rw [cat768 _ _ h, cat256 _ _ h']
  pointwise [k0_pay75, k0_pay74, ofBits_ninf]
  simp only [mask_fin (W := 768) (by norm_num) _ _ 512 (by norm_num)]
  rfl

theorem pay123_at (s : Vec Ideal S256x1024 .f32) (m : Vec Ideal S256x128 .f32) (a : Vec Ideal S256x256 .f32) (v : Vec Ideal S1x1x1024x256 .bf16)
    (c : Fin 256 → EReal) (hm : ∀ r l, m (ix2 r l) = c r) (r : Fin 256) (l : Fin 256) :
    k0_pay123 (k0_pay79 s) m a v (ix2 r l)
      = Ideal.exp2 (c r - max (c r) (Finset.univ.fold max ⊥ fun k : Fin 1024 => if k.val ≤ r.val + 768 then s (ix2 r k) else ⊥)) * a (ix2 r l)
        + ∑ k : Fin 1024, Ideal.exp2 ((if k.val ≤ r.val + 768 then s (ix2 r k) else ⊥) - max (c r) (Finset.univ.fold max ⊥ fun k : Fin 1024 => if k.val ≤ r.val + 768 then s (ix2 r k) else ⊥)) * v (ix4 0 0 k l) := by
  have h : ∀ (r : Fin 256) (l : Fin 128), k0_pay122 (k0_pay79 s) m (ix2 r l) = max (c r) (Finset.univ.fold max ⊥ fun k : Fin 1024 => if k.val ≤ r.val + 768 then s (ix2 r k) else ⊥) := fun r l => by
    pointwise [k0_pay122, k0_pay79, ofBits_ninf, hm]
    simp only [mask_fin (W := 1024) (by norm_num) _ _ 768 (by norm_num)]
  have h' : ∀ (r : Fin 256) (l : Fin 128), exp2 (subf m (k0_pay122 (k0_pay79 s) m)) (ix2 r l) = Ideal.exp2 (c r - max (c r) (Finset.univ.fold max ⊥ fun k : Fin 1024 => if k.val ≤ r.val + 768 then s (ix2 r k) else ⊥)) := fun r l => by
    pointwise [h, hm]
    rfl
  unfold k0_pay123
  rw [cat1024 _ _ h, cat256 _ _ h']
  pointwise [k0_pay79, ofBits_ninf]
  simp only [mask_fin (W := 1024) (by norm_num) _ _ 768 (by norm_num)]
  rfl

/-! ### Rows of the four chunks -/

theorem rowM0 (w0 w1 w2 w3 : Vec Ideal S256x128 .f32) (r : Fin 256) (l : Fin 128) :
    View.canon (Val := Elt Ideal) (pcsM w0 w1 w2 w3) (ix2 ⟨r.val, by omega⟩ l) = w0 (ix2 r l) := by
  have h := congrFun (ldM0 w0 w1 w2 w3) (ix2 r l)
  rw [← h]
  pointwise

theorem rowM1 (w0 w1 w2 w3 : Vec Ideal S256x128 .f32) (r : Fin 256) (l : Fin 128) :
    View.canon (Val := Elt Ideal) (pcsM w0 w1 w2 w3) (ix2 ⟨256 + r.val, by omega⟩ l) = w1 (ix2 r l) := by
  have h := congrFun (ldM1 w0 w1 w2 w3) (ix2 r l)
  rw [← h]
  pointwise

theorem rowM2 (w0 w1 w2 w3 : Vec Ideal S256x128 .f32) (r : Fin 256) (l : Fin 128) :
    View.canon (Val := Elt Ideal) (pcsM w0 w1 w2 w3) (ix2 ⟨512 + r.val, by omega⟩ l) = w2 (ix2 r l) := by
  have h := congrFun (ldM2 w0 w1 w2 w3) (ix2 r l)
  rw [← h]
  pointwise

theorem rowM3 (w0 w1 w2 w3 : Vec Ideal S256x128 .f32) (r : Fin 256) (l : Fin 128) :
    View.canon (Val := Elt Ideal) (pcsM w0 w1 w2 w3) (ix2 ⟨768 + r.val, by omega⟩ l) = w3 (ix2 r l) := by
  have h := congrFun (ldM3 w0 w1 w2 w3) (ix2 r l)
  rw [← h]
  pointwise

theorem rowA0 (w0 w1 w2 w3 : Vec Ideal S256x256 .f32) (r : Fin 256) (l : Fin 256) :
    View.canon (Val := Elt Ideal) (pcsA w0 w1 w2 w3) (ix2 ⟨r.val, by omega⟩ l) = w0 (ix2 r l) := by
  have h := congrFun (ldA0 w0 w1 w2 w3) (ix2 r l)
  rw [← h]
  pointwise

theorem rowA1 (w0 w1 w2 w3 : Vec Ideal S256x256 .f32) (r : Fin 256) (l : Fin 256) :
    View.canon (Val := Elt Ideal) (pcsA w0 w1 w2 w3) (ix2 ⟨256 + r.val, by omega⟩ l) = w1 (ix2 r l) := by
  have h := congrFun (ldA1 w0 w1 w2 w3) (ix2 r l)
  rw [← h]
  pointwise

theorem rowA2 (w0 w1 w2 w3 : Vec Ideal S256x256 .f32) (r : Fin 256) (l : Fin 256) :
    View.canon (Val := Elt Ideal) (pcsA w0 w1 w2 w3) (ix2 ⟨512 + r.val, by omega⟩ l) = w2 (ix2 r l) := by
  have h := congrFun (ldA2 w0 w1 w2 w3) (ix2 r l)
  rw [← h]
  pointwise

theorem rowA3 (w0 w1 w2 w3 : Vec Ideal S256x256 .f32) (r : Fin 256) (l : Fin 256) :
    View.canon (Val := Elt Ideal) (pcsA w0 w1 w2 w3) (ix2 ⟨768 + r.val, by omega⟩ l) = w3 (ix2 r l) := by
  have h := congrFun (ldA3 w0 w1 w2 w3) (ix2 r l)
  rw [← h]
  pointwise

/-- A row is a row of one of the four chunks. -/
theorem row_cases (R : Fin 1024) : ∃ r : Fin 256, R = ⟨r.val, by omega⟩ ∨ R = ⟨256 + r.val, by omega⟩ ∨ R = ⟨512 + r.val, by omega⟩ ∨ R = ⟨768 + r.val, by omega⟩ := by
  refine ⟨⟨R.val % 256, Nat.mod_lt _ (by norm_num)⟩, ?_⟩
  have := R.isLt
  simp only [Fin.ext_iff]
  omega

theorem stepM_at (s : Vec Ideal S1024x1024 .f32) (m : Vec Ideal S1024x128 .f32) (R : Fin 1024) (l : Fin 128) :
    stepM s m (ix2 R l) = max (m (ix2 R l)) (Finset.univ.fold max ⊥ fun k : Fin 1024 => s (ix2 R k)) := by
  obtain ⟨r, rfl | rfl | rfl | rfl⟩ := row_cases R
  · refine (rowM0 _ _ _ _ r l).trans ?_
    rw [pay13_at]
    pointwise
  · refine (rowM1 _ _ _ _ r l).trans ?_
    rw [pay13_at]
    pointwise
  · refine (rowM2 _ _ _ _ r l).trans ?_
    rw [pay13_at]
    pointwise
  · refine (rowM3 _ _ _ _ r l).trans ?_
    rw [pay13_at]
    pointwise

theorem stepA_at (s : Vec Ideal S1024x1024 .f32) (m : Vec Ideal S1024x128 .f32) (a : Vec Ideal S1024x256 .f32) (v : Vec Ideal S1x1x1024x256 .bf16)
    (c : Fin 1024 → EReal) (hm : ∀ R l, m (ix2 R l) = c R) (R : Fin 1024) (l : Fin 256) :
    stepA s m a v (ix2 R l)
      = Ideal.exp2 (c R - max (c R) (Finset.univ.fold max ⊥ fun k : Fin 1024 => s (ix2 R k))) * a (ix2 R l)
        + ∑ k : Fin 1024, Ideal.exp2 (s (ix2 R k) - max (c R) (Finset.univ.fold max ⊥ fun k : Fin 1024 => s (ix2 R k))) * v (ix4 0 0 k l) := by
  obtain ⟨r, rfl | rfl | rfl | rfl⟩ := row_cases R
  · refine (rowA0 _ _ _ _ r l).trans ?_
    rw [pay12_at _ _ _ _ (fun r => c ⟨r.val, by omega⟩) (fun r l => by pointwise; exact hm _ _)]
    pointwise
  · refine (rowA1 _ _ _ _ r l).trans ?_
    rw [pay12_at _ _ _ _ (fun r => c ⟨256 + r.val, by omega⟩) (fun r l => by pointwise; exact hm _ _)]
    pointwise
  · refine (rowA2 _ _ _ _ r l).trans ?_
    rw [pay12_at _ _ _ _ (fun r => c ⟨512 + r.val, by omega⟩) (fun r l => by pointwise; exact hm _ _)]
    pointwise
  · refine (rowA3 _ _ _ _ r l).trans ?_
    rw [pay12_at _ _ _ _ (fun r => c ⟨768 + r.val, by omega⟩) (fun r l => by pointwise; exact hm _ _)]
    pointwise

/-! ### The diagonal block -/

theorem diagA_at (s : Vec Ideal S1024x1024 .f32) (m : Vec Ideal S1024x128 .f32) (a : Vec Ideal S1024x256 .f32) (v : Vec Ideal S1x1x4096x256 .bf16) (j : Fin 4)
    (t w : ℕ → EReal) (ht : ∀ k, t k ≠ ⊤) (R : Fin 1024) (l : Fin 256) (c : Fin 1024 → EReal) (hm : ∀ R l, m (ix2 R l) = c R)
    (hc : c R = mx t (1024 * j.val)) (ha : a (ix2 R l) = ac t w (1024 * j.val))
    (hs : ∀ k : Fin 1024, t (1024 * j.val + k.val) = if k.val ≤ R.val then s (ix2 R k) else ⊥)
    (hb : ∀ k, 1024 * j.val + R.val < k → t k = ⊥)
    (hw : ∀ k (h : k < 4096), w k = v (ix4 0 0 ⟨k, h⟩ l)) :
    diagA s m a v j (ix2 R l) = ac t w 4096 := by
  have hj := j.isLt
  obtain ⟨r, rfl | rfl | rfl | rfl⟩ := row_cases R
  · refine (rowA0 _ _ _ _ r l).trans ?_
    rw [pay68_at _ _ _ _ (fun r => c ⟨r.val, by omega⟩) (fun r l => by pointwise; exact hm _ _)]
    rw [ac_tail (s := t) w (show 1024 * j.val + 256 ≤ 4096 by omega) (fun k hk => hb k (by simp only; omega)), ← ac_add ht w (1024 * j.val) 256, ← mx_add t (1024 * j.val) 256]
    have hw' : ∀ k : Fin 256, v (ix4 0 0 ⟨1024 * j.val + k.val, by omega⟩ l) = w (1024 * j.val + k.val) := fun k => (hw _ _).symm
    have e : ∀ k : Fin 256, (if k.val ≤ r.val then s (ix2 ⟨r.val, by omega⟩ ⟨k.val, by omega⟩) else ⊥) = t (1024 * j.val + k.val) := fun k => by
      have h := hs ⟨k.val, by omega⟩
      exact h.symm
    pointwise [blk256, offB]
    simp only [e, hw', hc, ha]
  · refine (rowA1 _ _ _ _ r l).trans ?_
    rw [pay72_at _ _ _ _ (fun r => c ⟨256 + r.val, by omega⟩) (fun r l => by pointwise; exact hm _ _)]
    rw [ac_tail (s := t) w (show 1024 * j.val + 512 ≤ 4096 by omega) (fun k hk => hb k (by simp only; omega)), ← ac_add ht w (1024 * j.val) 512, ← mx_add t (1024 * j.val) 512]
    have hw' : ∀ k : Fin 512, v (ix4 0 0 ⟨1024 * j.val + k.val, by omega⟩ l) = w (1024 * j.val + k.val) := fun k => (hw _ _).symm
    have e : ∀ k : Fin 512, (if k.val ≤ r.val + 256 then s (ix2 ⟨256 + r.val, by omega⟩ ⟨k.val, by omega⟩) else ⊥) = t (1024 * j.val + k.val) := fun k => by
      have h := hs ⟨k.val, by omega⟩
      simp only [Nat.add_comm 256 r.val] at h ⊢
      exact h.symm
    pointwise [blk512, offB]
    simp only [e, hw', hc, ha]
  · refine (rowA2 _ _ _ _ r l).trans ?_
    rw [pay77_at _ _ _ _ (fun r => c ⟨512 + r.val, by omega⟩) (fun r l => by pointwise; exact hm _ _)]
    rw [ac_tail (s := t) w (show 1024 * j.val + 768 ≤ 4096 by omega) (fun k hk => hb k (by simp only; omega)), ← ac_add ht w (1024 * j.val) 768, ← mx_add t (1024 * j.val) 768]
    have hw' : ∀ k : Fin 768, v (ix4 0 0 ⟨1024 * j.val + k.val, by omega⟩ l) = w (1024 * j.val + k.val) := fun k => (hw _ _).symm
    have e : ∀ k : Fin 768, (if k.val ≤ r.val + 512 then s (ix2 ⟨512 + r.val, by omega⟩ ⟨k.val, by omega⟩) else ⊥) = t (1024 * j.val + k.val) := fun k => by
      have h := hs ⟨k.val, by omega⟩
      simp only [Nat.add_comm 512 r.val] at h ⊢
      exact h.symm
    pointwise [blk768, offB]
    simp only [e, hw', hc, ha]
  · refine (rowA3 _ _ _ _ r l).trans ?_
    rw [pay123_at _ _ _ _ (fun r => c ⟨768 + r.val, by omega⟩) (fun r l => by pointwise; exact hm _ _)]
    rw [ac_tail (s := t) w (show 1024 * j.val + 1024 ≤ 4096 by omega) (fun k hk => hb k (by simp only; omega)), ← ac_add ht w (1024 * j.val) 1024, ← mx_add t (1024 * j.val) 1024]
    have hw' : ∀ k : Fin 1024, v (ix4 0 0 ⟨1024 * j.val + k.val, by omega⟩ l) = w (1024 * j.val + k.val) := fun k => (hw _ _).symm
    have e : ∀ k : Fin 1024, (if k.val ≤ r.val + 768 then s (ix2 ⟨768 + r.val, by omega⟩ k) else ⊥) = t (1024 * j.val + k.val) := fun k => by
      have h := hs ⟨k.val, by omega⟩
      simp only [Nat.add_comm 768 r.val] at h ⊢
      exact h.symm
    pointwise [blk, offB]
    simp only [e, hw', hc, ha]

end Cert.KernelIdeal.Hand

end
-- ==== Proof.Block.lean ====
module

public import proofs.«01_k».proof.Proof.Step

/-! The block of the result that one grid point stores, element by element: the weighted sum of all
    the values under the causal mask, over the sum of the weights. -/

@[expose] public section

set_option maxRecDepth 16384

noncomputable section

namespace Cert.KernelIdeal.Hand

open Cert.KernelIdeal Cert.KernelIdeal.Gen Cert.Att
open Idealize.ShloMosaic

variable (q : Vec Ideal S1x1x1024x256 .bf16) (k v : Vec Ideal S1x1x4096x256 .bf16)

/-- The score of row `R` of a query block against each key, and a column of the values. -/
def sc (R : Fin 1024) (n : ℕ) : EReal := if h : n < 4096 then ∑ d : Fin 256, q (ix4 0 0 R d) * k (ix4 0 0 ⟨n, h⟩ d) else ⊥
def vv (l : Fin 256) (n : ℕ) : EReal := if h : n < 4096 then v (ix4 0 0 ⟨n, h⟩ l) else 0

theorem scB_at (j : Fin 4) (R c : Fin 1024) : scB q k j (ix2 R c) = sc q k R (1024 * j.val + c.val) := by
  rw [sc, dif_pos (by omega)]
  pointwise [scB, k0_pay4, blk, offB]

theorem blk_vv (j : Fin 4) (c : Fin 1024) (l : Fin 256) : blk v j (ix4 0 0 c l) = vv v l (1024 * j.val + c.val) := by
  rw [vv, dif_pos (by omega)]
  pointwise [blk, offB]

theorem stM_at (n : ℕ) (hn : n ≤ 4) (R : Fin 1024) (l : Fin 128) : stM q k n (ix2 R l) = mx (sc q k R) (1024 * n) := by
  induction n with
  | zero => pointwise [stM, k0_pay117, ofBits_ninf]; rfl
  | succ n ih =>
    have e : (Fin.ofNat 4 n).val = n := Nat.mod_eq_of_lt (by omega)
    rw [stM, stepM_at, ih (by omega), show 1024 * (n + 1) = 1024 * n + 1024 from rfl, ← mx_add]
    simp only [scB_at, e]

theorem stA_at (hs : ∀ (R : Fin 1024) (n : ℕ), sc q k R n ≠ ⊤) (n : ℕ) (hn : n ≤ 4) (R : Fin 1024) (l : Fin 256) :
    stA q k v n (ix2 R l) = ac (sc q k R) (vv v l) (1024 * n) := by
  induction n with
  | zero => pointwise [stA, k0_pay118]; rfl
  | succ n ih =>
    have e : (Fin.ofNat 4 n).val = n := Nat.mod_eq_of_lt (by omega)
    rw [stA, stepA_at _ _ _ _ (fun R => mx (sc q k R) (1024 * n)) (fun R l => stM_at q k n (by omega) R l), ih (by omega),
      show 1024 * (n + 1) = 1024 * n + 1024 from rfl, ← ac_add (hs R), ← mx_add]
    simp only [scB_at, blk_vv, e]

/-- The scores under the causal mask of row `R` of query block `i`. -/
def msc (i : Fin 4) (R : Fin 1024) (n : ℕ) : EReal := if n ≤ 1024 * i.val + R.val then sc q k R n else ⊥

theorem outB_at (hs : ∀ (R : Fin 1024) (n : ℕ), sc q k R n ≠ ⊤) (i : Fin 4) (R : Fin 1024) (l : Fin 128) :
    outB q k v i (ix3 0 R l)
      = Ideal.div (ac (msc q k i R) (vv v ⟨l.val, by omega⟩) 4096) (ac (msc q k i R) (vv v ⟨128 + l.val, by omega⟩) 4096) := by
  have hi := i.isLt
  have hc : mx (sc q k R) (1024 * i.val) = mx (msc q k i R) (1024 * i.val) := mx_congr fun n hn => by rw [msc, if_pos (by omega)]
  have key : ∀ l : Fin 256, diagA (scB q k i) (stM q k i.val) (stA q k v i.val) v i (ix2 R l) = ac (msc q k i R) (vv v l) 4096 := fun l => by
    refine diagA_at _ _ _ _ i (msc q k i R) (vv v l) (fun n => ?_) R l (fun R => mx (sc q k R) (1024 * i.val))
      (fun R l => stM_at q k i.val (by omega) R l) hc ?_ (fun c => ?_) (fun n hn => ?_) (fun n h => ?_)
    · unfold msc; split
      · exact hs R n
      · simp
    · rw [stA_at q k v hs i.val (by omega)]
      exact ac_congr (fun n hn => by rw [msc, if_pos (by omega)]) (fun _ _ => rfl)
    · rw [msc, scB_at]
      simp only [Nat.add_le_add_iff_left]
    · rw [msc, if_neg (by omega)]
    · rw [vv, dif_pos h]
  unfold outB
  pointwise [outOf, k0_pay125]
  rw [key, key]

end Cert.KernelIdeal.Hand

end
-- ==== Proof.Host.lean ====
module

public import proofs.«01_k».proof.Proof.Run
public import proofs.«01_k».proof.Proof.Block
public import Idealize.ShloMosaic.Lib.Pipeline.ValueKit
public import Idealize.ShloMosaic.Lib.StableHlo.ReadAt

/-! What the host operations before the launch leave in the three operands, element by element, and
    the blocks of them that a grid point reads. -/

@[expose] public section

set_option maxRecDepth 16384

noncomputable section

namespace Cert.KernelIdeal.Hand

open Cert.KernelIdeal Cert.KernelIdeal.Gen Cert.Att
open Idealize.ShloMosaic Idealize.ShloMosaic.TcCoe

variable (m : (ℓ : Loc nD τ sig) → Buf (Elt Ideal) ℓ) (c : Dev nD)

/-- The queries' scale. -/
def scale2 : EReal := Ideal.div 1 (Ideal.sqrt (Ideal.ofBits .f32 0x43400000#32) * Ideal.log (Ideal.ofBits .f32 0x40000000#32))

/-- The three arguments as arrays. -/
abbrev argQ : Vec Ideal S4x4096x16x192 .f32 := m ((c : Thread nD τ).loc main_arg0)
abbrev argK : Vec Ideal S4x4096x16x192 .f32 := m ((c : Thread nD τ).loc main_arg1)
abbrev argV : Vec Ideal S4x4096x16x128 .f32 := m ((c : Thread nD τ).loc main_arg2)

abbrev opQ : Vec Ideal S4x16x4096x256 .bf16 := V m c main_v9
abbrev opK : Vec Ideal S4x16x4096x256 .bf16 := V m c main_v12
abbrev opV : Vec Ideal S4x16x4096x256 .bf16 := V m c main_v16

theorem opQ_at (b : Fin 4) (h : Fin 16) (n : Fin 4096) (d : Fin 256) :
    opQ m c (ix4 b h n d) = if hd : d.val < 192 then argQ m c (ix4 b n h ⟨d.val, hd⟩) * scale2 else (0 : EReal) := by
  unfold opQ V
  after_reads_at
  rfl
theorem opK_at (b : Fin 4) (h : Fin 16) (n : Fin 4096) (d : Fin 256) :
    opK m c (ix4 b h n d) = if hd : d.val < 192 then argK m c (ix4 b n h ⟨d.val, hd⟩) else (0 : EReal) := by
  unfold opK V
  after_reads_at
theorem opV_at (b : Fin 4) (h : Fin 16) (n : Fin 4096) (d : Fin 256) :
    opV m c (ix4 b h n d) = if hd : d.val < 128 then argV m c (ix4 b n h ⟨d.val, hd⟩) else (1 : EReal) := by
  unfold opV V
  after_reads_at

theorem idx_0 : ∀ t : Fin cfg0.N, win0_0.index t = ![(grid0.coords t 0).val, (grid0.coords t 1).val, (grid0.coords t 2).val, 0] := by
  decide +kernel
theorem idx_1 : ∀ t : Fin cfg0.N, win0_1.index t = ![(grid0.coords t 0).val, (grid0.coords t 1).val, 0, 0] := by
  decide +kernel
theorem idx_2 : ∀ t : Fin cfg0.N, win0_2.index t = ![(grid0.coords t 0).val, (grid0.coords t 1).val, 0, 0] := by
  decide +kernel
theorem idx_3 : ∀ t : Fin cfg0.N, win0_3.index t = ![(grid0.coords t 0).val, (grid0.coords t 2).val, (grid0.coords t 1).val] := by
  decide +kernel

/-- The row of the whole array that row `r` of a point's block is. -/
def rowOf (i : Fin 4) (r : Fin 1024) : Fin 4096 := ⟨1024 * i.val + r.val, by omega⟩
/-- The column of the result that column `l` of head `h` is. -/
def colOf (h : Fin 16) (l : Fin 128) : Fin 2048 := ⟨128 * h.val + l.val, by omega⟩

theorem iblk0_at (t : Fin cfg0.N) (r : Fin 1024) (d : Fin 256) :
    iblk m c 0 t (ix4 0 0 r d) = opQ m c (ix4 (grid0.coords t 0) (grid0.coords t 1) (rowOf (grid0.coords t 2) r) d) := by
  blk_point [iblk, V, idx_0 t, rowOf]
theorem iblk1_at (t : Fin cfg0.N) (n : Fin 4096) (d : Fin 256) :
    iblk m c 1 t (ix4 0 0 n d) = opK m c (ix4 (grid0.coords t 0) (grid0.coords t 1) n d) := by
  blk_point [iblk, V, idx_1 t]
theorem iblk2_at (t : Fin cfg0.N) (n : Fin 4096) (d : Fin 256) :
    iblk m c 2 t (ix4 0 0 n d) = opV m c (ix4 (grid0.coords t 0) (grid0.coords t 1) n d) := by
  blk_point [iblk, V, idx_2 t]

/-- The result is the array `G` when every block the points write is `G`'s. -/
theorem arr_of (G : Vec Ideal S4x4096x2048 .bf16)
    (hG : ∀ (t : Fin cfg0.N) (r : Fin 1024) (l : Fin 128),
      outB (iblk m c 0 t) (iblk m c 1 t) (iblk m c 2 t) (grid0.coords t 2) (ix3 0 r l)
        = G (ix3 (grid0.coords t 0) (rowOf (grid0.coords t 2) r) (colOf (grid0.coords t 1) l))) :
    (dats m 0 c).arrAt 3 (cfgs 0).N = G := by
  refine (dats m 0 c).arrAt_eq_of_covers 3 _ (by decide +kernel) fun t hf y => ?_
  blk_simp
  rw [after0_3]
  change S1x1024x128.Idx at y
  obtain ⟨z, r, l, rfl⟩ : ∃ (z : Fin 1) (r : Fin 1024) (l : Fin 128), y = ix3 z r l := by
    idx_vars y
    exact ⟨_, _, _, rfl⟩
  obtain rfl : z = 0 := Subsingleton.elim _ _
  refine (hG t r l).trans (congrArg G ?_)
  symm
  blk_point [idx_3 t, rowOf, colOf]
end Cert.KernelIdeal.Hand

end
-- ==== Proof.Ref.lean ====
module

public import proofs.«01_k».proof.Proof.Gen.ReferenceIdeal.Read
public import proofs.«01_k».proof.Proof.Gen.Pre_finite
public import proofs.«01_k».proof.Proof.Softmax
public import Idealize.ShloMosaic.Lib.Pointwise
public import Idealize.ShloMosaic.Lib.ReduceAll
public import Idealize.ShloMosaic.Lib.Tactic.WordOmega

/-! The reference's result, element by element, and what the precondition says of the arguments. -/

@[expose] public section

set_option maxRecDepth 16384

noncomputable section

namespace Cert.ReferenceIdeal.Hand

open Cert.ReferenceIdeal Cert.ReferenceIdeal.Gen Cert.ReferenceIdeal.Read Cert.Att
open Idealize.ShloMosaic

variable (x0 x1 : Vec Ideal S4x4096x16x192 .f32) (x2 : Vec Ideal S4x4096x16x128 .f32)

/-- The reference's scale. -/
def scale1 : EReal := Ideal.div 1 (Ideal.sqrt (Ideal.ofBits .f32 0x43400000#32))

/-- Row `n`'s masked scores. -/
def tq (b : Fin 4) (h : Fin 16) (n : Fin 4096) (k : ℕ) : EReal :=
  if k ≤ n.val then (if hk : k < 4096 then (∑ d : Fin 192, x0 (ix4 b n h d) * x1 (ix4 b ⟨k, hk⟩ h d)) * scale1 else ⊥) else ⊥

theorem ofBits_ninf : Ideal.ofBits .f32 4286578688#32 = ⊥ := by simp [Ideal.ofBits, Ideal.ieee]

theorem v12_at (b : Fin 4) (h : Fin 16) (n k : Fin 4096) :
    val_main_v12 (F := Ideal) x0 x1 (ix4 b h n k) = tq x0 x1 b h n k.val := by
  pointwise [val_main_v12, val_main_call0_v1, val_main_v5, val_main_call0_v2, val_main_v11, val_main_v9, val_main_v10, val_main_v7, val_main_v8, val_main_v2, val_main_v6, val_main_v3, val_main_v4, val_main_v1, val_main_v0, val_main_cst, val_main_cst_0, val_main_cst_1, val_main_call0_v0]
  have hn := n.isLt
  have hk := k.isLt
  have e : (id (constant (F := Ideal) S_ FTy.f32 4286578688#32) ix0) = (⊥ : EReal) := ofBits_ninf
  rw [e]
  unfold tq scale1
  by_cases hkn : k.val ≤ n.val
  · have : IntOp.cmpi CmpIPredicate.sle (BitVec.ofNat 32 ↑k) (BitVec.ofNat 32 ↑n) = 1#1 := by
      word_omega
    rw [this, if_pos hkn, dif_pos hk]; rfl
  · have : IntOp.cmpi CmpIPredicate.sle (BitVec.ofNat 32 ↑k) (BitVec.ofNat 32 ↑n) = 0#1 := by
      word_omega
    rw [this, if_neg hkn]; rfl

theorem fold_mx (f : ℕ → EReal) (N : ℕ) : Finset.fold max ⊥ (fun x : Fin N => f x.val) Finset.univ = mx f N := by
  rw [show Finset.fold max ⊥ (fun x : Fin N => f x.val) Finset.univ = Finset.univ.sup (fun x : Fin N => f x.val) from rfl]
  unfold mx
  refine le_antisymm (Finset.sup_le fun x _ => Finset.le_sup (f := f) (Finset.mem_range.2 x.isLt)) (Finset.sup_le fun x hx => ?_)
  exact Finset.le_sup (f := fun x : Fin N => f x.val) (Finset.mem_univ (⟨x, Finset.mem_range.1 hx⟩ : Fin N))

theorem v13_at (b : Fin 4) (h : Fin 16) (n : Fin 4096) :
    val_main_v13 (F := Ideal) x0 x1 (ix3 b h n) = mx (tq x0 x1 b h n) 4096 := by
  have e : val_main_v13 (F := Ideal) x0 x1 (ix3 b h n) = Finset.fold max (Ideal.ofBits FTy.f32 4286578688#32) (fun x => val_main_v12 x0 x1 (ix4 b h n x)) Finset.univ := by
    unfold val_main_v13
    generalize val_main_v12 (F := Ideal) x0 x1 = y
    pointwise [val_main_cst_2]
  rw [e, ofBits_ninf]
  simp only [v12_at]
  exact fold_mx _ 4096

theorem exp_of (y : FVec Ideal S4x16x4096x4096 .f32) (z : FVec Ideal S4x16x4096 .f32) (b : Fin 4) (h : Fin 16) (n k : Fin 4096) :
    Host.exp (subf y (broadcastInDim S4x16x4096x4096 ![0, 1, 2, 3] bcast_S4x16x4096x1_S4x16x4096x4096_0_1_2_3
      (broadcastInDim S4x16x4096x1 ![0, 1, 2] bcast_S4x16x4096_S4x16x4096x1_0_1_2 (maximumf (val_main_v14 (F := Ideal)) z)))) (ix4 b h n k)
      = Ideal.exp (y (ix4 b h n k) - max (Ideal.ofBits .f32 4286578688#32) (z (ix3 b h n))) := by
  pointwise [val_main_v14, val_main_cst_3]

theorem v19_at (b : Fin 4) (h : Fin 16) (n k : Fin 4096) :
    val_main_v19 (F := Ideal) x0 x1 (ix4 b h n k) = Ideal.exp (tq x0 x1 b h n k - mx (tq x0 x1 b h n) 4096) := by
  have e := exp_of (val_main_v12 (F := Ideal) x0 x1) (val_main_v13 (F := Ideal) x0 x1) b h n k
  rw [v12_at, v13_at, ofBits_ninf, bot_sup_eq] at e
  exact e

theorem v23_at (b : Fin 4) (h : Fin 16) (n k : Fin 4096) :
    val_main_v23 (F := Ideal) x0 x1 (ix4 b h n k) = Ideal.div (val_main_v19 (F := Ideal) x0 x1 (ix4 b h n k)) (∑ j : Fin 4096, val_main_v19 (F := Ideal) x0 x1 (ix4 b h n j)) := by
  unfold val_main_v23 val_main_v22 val_main_v21 val_main_v20
  generalize val_main_v19 (F := Ideal) x0 x1 = y
  pointwise [val_main_cst_4]

theorem v25_at (b : Fin 4) (n : Fin 4096) (h : Fin 16) (l : Fin 128) :
    val_main_v25 (F := Ideal) x0 x1 x2 (ix4 b n h l) = ∑ k : Fin 4096, x2 (ix4 b k h l) * val_main_v23 (F := Ideal) x0 x1 (ix4 b h n k) := by
  unfold val_main_v25 val_main_v24
  generalize val_main_v23 (F := Ideal) x0 x1 = y
  pointwise []

theorem v27_at (b : Fin 4) (n : Fin 4096) (h : Fin 16) (l : Fin 128) :
    val_main_v27 (F := Ideal) x0 x1 x2 (ix3 b n ⟨128 * h.val + l.val, by omega⟩) = ∑ k : Fin 4096, x2 (ix4 b k h l) *
      Ideal.div (Ideal.exp (tq x0 x1 b h n k - mx (tq x0 x1 b h n) 4096)) (∑ j : Fin 4096, Ideal.exp (tq x0 x1 b h n j - mx (tq x0 x1 b h n) 4096)) := by
  have e : val_main_v27 (F := Ideal) x0 x1 x2 (ix3 b n ⟨128 * h.val + l.val, by omega⟩) = val_main_v25 (F := Ideal) x0 x1 x2 (ix4 b n h l) := by
    unfold val_main_v27 val_main_v26
    generalize val_main_v25 (F := Ideal) x0 x1 x2 = y
    pointwise []
  rw [e, v25_at]
  simp only [v23_at, v19_at]

theorem real_of (x : FVec Ideal S4x4096x16x192 .f32) (i : S4x4096x16x192.Idx)
    (h : cmpf CmpFPredicate.olt (Host.absf x) (broadcastInDim S4x4096x16x192 ![] Cert.Pre_finite.Facts.bcast_S_S4x4096x16x192 (constant S_ FTy.f32 2139095040#32)) i = 1#1) :
    ∃ r : ℝ, x i = ↑r := by
  idx_vars i
  pointwise [] at h
  have h1 : max (x (ix4 i0 i1 i2 i3)) (-(x (ix4 i0 i1 i2 i3))) < (⊤ : EReal) := by
    have e : Ideal.ofBits FTy.f32 2139095040#32 = ⊤ := by simp [Ideal.ofBits, Ideal.ieee]
    rw [e] at h
    by_contra hc
    change BitVec.ofBool (decide (max (x (ix4 i0 i1 i2 i3)) (-(x (ix4 i0 i1 i2 i3))) < (⊤ : EReal))) = 1#1 at h
    rw [decide_eq_false hc] at h
    exact absurd h (by decide)
  generalize x (ix4 i0 i1 i2 i3) = a at h1
  induction a using EReal.rec with
  | bot => simp at h1
  | coe r => exact ⟨r, rfl⟩
  | top => simp at h1

theorem fin_of (h : Cert.Pre_finite.fn (F := Ideal) x0 x1 x2 = fun _ => 1#1) : (∀ i, ∃ r : ℝ, x0 i = ↑r) ∧ (∀ i, ∃ r : ℝ, x1 i = ↑r) := by
  have h0 := congrFun h ix0
  unfold Cert.Pre_finite.fn at h0
  obtain ⟨ha, hb⟩ := IntOp.andi_eq_one.1 h0
  exact ⟨fun i => real_of x0 i (Host.reduce_andi_all _ _ _ _ _ ha i), fun i => real_of x1 i (Host.reduce_andi_all _ _ _ _ _ hb i)⟩
end Cert.ReferenceIdeal.Hand

end
-- ==== Proof.Value.lean ====
module

public import proofs.«01_k».proof.Proof.Host
public import proofs.«01_k».proof.Proof.Ref

/-! One element of the launch's result against one element of the reference's. -/

@[expose] public section

set_option maxRecDepth 16384

noncomputable section

namespace Cert.KernelIdeal.Hand

open Cert.KernelIdeal Cert.KernelIdeal.Gen Cert.Att
open Cert.ReferenceIdeal.Hand (scale1 tq)
open Idealize.ShloMosaic Idealize.ShloMosaic.TcCoe

theorem f192 : Ideal.ofBits .f32 0x43400000#32 = ((192 : ℝ) : EReal) := by
  simp [Ideal.ofBits, Ideal.ieee]
  rw [← EReal.coe_mul]
  congr 1
  norm_num
theorem f2 : Ideal.ofBits .f32 0x40000000#32 = ((2 : ℝ) : EReal) := by
  simp [Ideal.ofBits, Ideal.ieee]
  rw [← EReal.coe_mul]
  congr 1
  norm_num

theorem scale1_eq : scale1 = ((1 / √192 : ℝ) : EReal) := by
  have h : √(192 : ℝ) ≠ 0 := (Real.sqrt_pos.2 (by norm_num)).ne'
  rw [scale1, f192, Ideal.sqrt_coe, if_neg (by norm_num), Ideal.div_coe h, one_mul]

theorem scale2_eq : scale2 = ((1 / (√192 * Real.log 2) : ℝ) : EReal) := by
  have h : √(192 : ℝ) ≠ 0 := (Real.sqrt_pos.2 (by norm_num)).ne'
  have h' : Real.log 2 ≠ 0 := (Real.log_pos (by norm_num)).ne'
  rw [scale2, f192, f2, Ideal.sqrt_coe, if_neg (by norm_num), Ideal.log_coe, if_neg (by norm_num), ← EReal.coe_mul,
    Ideal.div_coe (mul_ne_zero h h'), one_mul]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the padded width is the sum over the unpadded one. -/
theorem sum_pad (f : Fin 192 → EReal) : ∑ d : Fin 256, (if hd : d.val < 192 then f ⟨d.val, hd⟩ else 0) = ∑ d : Fin 192, f d := by
  refine (Fin.sum_univ_add (a := 192) (b := 64) (fun d : Fin (192 + 64) => if hd : d.val < 192 then f ⟨d.val, hd⟩ else 0)).trans ?_
  have h1 : ∀ d : Fin 192, (if hd : (Fin.castAdd 64 d).val < 192 then f ⟨(Fin.castAdd 64 d).val, hd⟩ else 0) = f d := fun d => dif_pos d.isLt
  have h2 : ∀ d : Fin 64, (if hd : (Fin.natAdd 192 d).val < 192 then f ⟨(Fin.natAdd 192 d).val, hd⟩ else (0 : EReal)) = 0 := fun d =>
    dif_neg (by simp)
  rw [Finset.sum_congr rfl fun d _ => h1 d, Finset.sum_congr rfl fun d _ => h2 d, Finset.sum_const_zero, add_zero]

section
variable (Q K : Vec Ideal S4x4096x16x192 .f32) (W : Vec Ideal S4x4096x16x128 .f32)
variable (qr kr : S4x4096x16x192.Idx → ℝ) (hq : ∀ i, Q i = ((qr i : ℝ) : EReal)) (hk : ∀ i, K i = ((kr i : ℝ) : EReal))
variable (q : Vec Ideal S1x1x1024x256 .bf16) (k v : Vec Ideal S1x1x4096x256 .bf16) (b : Fin 4) (h : Fin 16) (i : Fin 4)
variable (hqb : ∀ (R : Fin 1024) (d : Fin 256), q (ix4 0 0 R d) = if hd : d.val < 192 then Q (ix4 b (rowOf i R) h ⟨d.val, hd⟩) * scale2 else (0 : EReal))
variable (hkb : ∀ (n : Fin 4096) (d : Fin 256), k (ix4 0 0 n d) = if hd : d.val < 192 then K (ix4 b n h ⟨d.val, hd⟩) else (0 : EReal))
variable (hvb : ∀ (n : Fin 4096) (d : Fin 256), v (ix4 0 0 n d) = if hd : d.val < 128 then W (ix4 b n h ⟨d.val, hd⟩) else (1 : EReal))

include hq hk hqb hkb in
theorem sc_at (R : Fin 1024) (n : ℕ) (hn : n < 4096) :
    sc q k R n
      = (((∑ d : Fin 192, qr (ix4 b (rowOf i R) h d) * kr (ix4 b ⟨n, hn⟩ h d)) * (1 / (√192 * Real.log 2)) : ℝ) : EReal) := by
  rw [sc, dif_pos hn]
  have e : ∀ d : Fin 256, q (ix4 0 0 R d) * k (ix4 0 0 ⟨n, hn⟩ d)
      = if hd : d.val < 192 then ((qr (ix4 b (rowOf i R) h ⟨d.val, hd⟩) * (1 / (√192 * Real.log 2)) * kr (ix4 b ⟨n, hn⟩ h ⟨d.val, hd⟩) : ℝ) : EReal) else 0 := fun d => by
    rw [hqb, hkb]
    split_ifs with hd
    · rw [hq, hk, scale2_eq, ← EReal.coe_mul, ← EReal.coe_mul]
    · exact mul_zero _
  rw [Finset.sum_congr rfl fun d _ => e d]
  refine (sum_pad (fun d => ((qr (ix4 b (rowOf i R) h d) * (1 / (√192 * Real.log 2)) * kr (ix4 b ⟨n, hn⟩ h d) : ℝ) : EReal))).trans ?_
  rw [← coe_sum, Finset.sum_mul]
  congr 1
  exact Finset.sum_congr rfl fun d _ => by ring

include hq hk in
theorem tq_at (n : Fin 4096) (j : ℕ) (hjn : j ≤ n.val) (hj : j < 4096) :
    tq Q K b h n j = (((∑ d : Fin 192, qr (ix4 b n h d) * kr (ix4 b ⟨j, hj⟩ h d)) * (1 / √192) : ℝ) : EReal) := by
  unfold tq
  rw [if_pos hjn, dif_pos hj, scale1_eq, EReal.coe_mul, coe_sum]
  congr 1
  exact Finset.sum_congr rfl fun d _ => by rw [hq, hk, ← EReal.coe_mul]

include hq hk hqb hkb hvb in
theorem core (R : Fin 1024) (l : Fin 128) :
    outB q k v i (ix3 0 R l)
      = Cert.ReferenceIdeal.Read.val_main_v27 (F := Ideal) Q K W (ix3 b (rowOf i R) (colOf h l)) := by
  have hlog : Real.log 2 ≠ 0 := (Real.log_pos (by norm_num)).ne'
  have hs : ∀ (R : Fin 1024) (n : ℕ), sc q k R n ≠ ⊤ := fun R n => by
    by_cases hn : n < 4096
    · rw [sc_at Q K qr kr hq hk q k b h i hqb hkb R n hn]; exact EReal.coe_ne_top _
    · rw [sc, dif_neg hn]; exact bot_ne_top
  have hrow : (rowOf i R).val = 1024 * i.val + R.val := rfl
  have hrlt := (rowOf i R).isLt
  refine (outB_at _ _ _ hs i R l).trans ?_
  refine Eq.trans ?_ (Cert.ReferenceIdeal.Hand.v27_at Q K W b (rowOf i R) h l).symm
  let x : ℕ → ℝ := fun n => if hn : n < 4096 then (∑ d : Fin 192, qr (ix4 b (rowOf i R) h d) * kr (ix4 b ⟨n, hn⟩ h d)) * (1 / (√192 * Real.log 2)) else 0
  let w : ℕ → EReal := fun n => if hn : n < 4096 then W (ix4 b ⟨n, hn⟩ h l) else 0
  have h1 : ∀ n, msc q k i R n = if n ≤ (rowOf i R).val then ((x n : ℝ) : EReal) else ⊥ := fun n => by
    unfold msc
    rw [← hrow]
    by_cases hn : n ≤ (rowOf i R).val
    · rw [if_pos hn, if_pos hn, sc_at Q K qr kr hq hk q k b h i hqb hkb R n (by omega)]
      simp only [x]
      rw [dif_pos (by omega)]
    · rw [if_neg hn, if_neg hn]
  have h2 : ∀ n, tq Q K b h (rowOf i R) n = if n ≤ (rowOf i R).val then ((x n * Real.log 2 : ℝ) : EReal) else ⊥ := fun n => by
    by_cases hn : n ≤ (rowOf i R).val
    · rw [if_pos hn, tq_at Q K qr kr hq hk b h _ n hn (by omega)]
      simp only [x]
      rw [dif_pos (by omega)]
      congr 1
      field_simp
    · unfold tq
      rw [if_neg hn, if_neg hn]
  have key := softmax_eq (N := 4096) (by norm_num) (rowOf i R).val x (msc q k i R) (tq Q K b h (rowOf i R)) w h1 h2
  have h3 : ac (msc q k i R) (vv v ⟨l.val, by omega⟩) 4096 = ac (msc q k i R) w 4096 := ac_congr (fun _ _ => rfl) fun n hn => by
    simp only [w]
    rw [vv, dif_pos hn, hvb, dif_pos l.isLt, dif_pos hn]
  have h4 : ac (msc q k i R) (vv v ⟨128 + l.val, by omega⟩) 4096 = ac (msc q k i R) (fun _ => 1) 4096 := ac_congr (fun _ _ => rfl) fun n hn => by
    rw [vv, dif_pos hn, hvb, dif_neg (by simp)]
  rw [h3, h4, key]
  refine Finset.sum_congr rfl fun j _ => ?_
  simp only [w]
  rw [dif_pos j.isLt]
end

variable (m : (ℓ : Loc nD τ sig) → Buf (Elt Ideal) ℓ) (c : Dev nD)

/-- An element of a point's block is the reference's element at its place. -/
theorem block_eq (hq : ∀ i, ∃ r : ℝ, argQ m c i = (r : EReal)) (hk : ∀ i, ∃ r : ℝ, argK m c i = (r : EReal))
    (t : Fin cfg0.N) (R : Fin 1024) (l : Fin 128) :
    outB (iblk m c 0 t) (iblk m c 1 t) (iblk m c 2 t) (grid0.coords t 2) (ix3 0 R l)
      = Cert.ReferenceIdeal.Read.val_main_v27 (F := Ideal) (argQ m c) (argK m c) (argV m c)
          (ix3 (grid0.coords t 0) (rowOf (grid0.coords t 2) R) (colOf (grid0.coords t 1) l)) := by
  choose qr hq using hq
  choose kr hk using hk
  exact core (argQ m c) (argK m c) (argV m c) qr kr hq hk (iblk m c 0 t) (iblk m c 1 t) (iblk m c 2 t) (grid0.coords t 0) (grid0.coords t 1) (grid0.coords t 2)
    (fun R d => (iblk0_at m c t R d).trans (opQ_at m c _ _ _ d)) (fun n d => (iblk1_at m c t n d).trans (opK_at m c _ _ n d))
    (fun n d => (iblk2_at m c t n d).trans (opV_at m c _ _ n d)) R l

end Cert.KernelIdeal.Hand

end
-- ==== Proof.Same.lean ====
module

public import proofs.«01_k».proof.KernelIdeal
public import proofs.«01_k».proof.Kernel

/-! The kernel and its ideal program have the same text, so over any float values they are one program. -/

@[expose] public section

set_option maxRecDepth 16384

namespace Cert.Kernel.Hand

open Idealize.ShloMosaic Idealize.SL.Sem

variable {F : FTy → Type} [FloatOps F] [hK : Kernel.Facts] [hI : KernelIdeal.Facts]

/-- The two body tables have the same rows. -/
theorem defs₀_eq : (Kernel.defs₀ (F := F)) = KernelIdeal.defs₀ (F := F) := by
  unfold Kernel.defs₀ KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem defs_eq : (Kernel.defs (F := F)) = KernelIdeal.defs (F := F) :=
  congrArg (Pipeline.defs (Kernel.pcfgs (F := F))) defs₀_eq

theorem main_eq : (Kernel.main (F := F)) = KernelIdeal.main (F := F) := rfl

end Cert.Kernel.Hand
-- ==== Proof.InProj.lean ====
module

public import proofs.«01_k».proof.Proof.Gen.Kernel2Ideal.Frame
public import proofs.«01_k».proof.Proof.Gen.Reference2Ideal.Read
public import Idealize.ShloMosaic.Lib.Pipeline.ValueKit
public import Idealize.ShloMosaic.Lib.Pipeline.ReadBack
public import Idealize.ShloMosaic.Lib.StableHlo.ReadAt
public import Idealize.ShloMosaic.Lib.Pointwise
public import Idealize.ShloMosaic.Lib.Tactic.WordOmega

/-! The main part of the input projection: every element the launch leaves is the row's product with
    its column of the weights, and so is the reference's. -/

@[expose] public section

set_option maxRecDepth 16384

noncomputable section

namespace Cert.Kernel2Ideal.Hand

open Cert.Kernel2Ideal Cert.Kernel2Ideal.Gen
open Idealize.ShloMosaic Idealize.ShloMosaic.TcCoe

variable (m : (ℓ : Loc nD τ sig) → Buf (Elt Ideal) ℓ) (c : Dev nD)

/-- The two arguments as arrays. -/
abbrev argX : Vec Ideal S4x4096x2048 .f32 := m ((c : Thread nD τ).loc main_arg0)
abbrev argW : Vec Ideal S2048x13408 .f32 := m ((c : Thread nD τ).loc main_arg1)

abbrev opX : Vec Ideal S16384x2048 .f32 := V m c main_v4
abbrev opW : Vec Ideal S2048x12288 .bf16 := V m c main_v3

/-- The column of the weights that column `l` of the result takes. -/
def colW (l : Fin 12288) : Fin 13408 := if l.val < 8192 then ⟨1088 + l.val, by omega⟩ else ⟨1120 + l.val, by omega⟩

theorem opX_at (R : Fin 16384) (d : Fin 2048) :
    opX m c (ix2 R d) = argX m c (ix3 ⟨R.val / 4096, by omega⟩ ⟨R.val % 4096, by omega⟩ d) := by
  unfold opX V
  after_reads_at
theorem opW_at (d : Fin 2048) (l : Fin 12288) : opW m c (ix2 d l) = argW m c (ix2 d (colW l)) := by
  unfold opW V colW
  after_reads_at
  split
  · rw [StableHlo.upto]
    after_reads_at
  · rw [StableHlo.upto]
    after_reads_at
    exact congrArg (fun q => argW m c (ix2 d q)) (Fin.ext (by show 9312 + (l.val - 8192) = 1120 + l.val; omega))

theorem idx_0 : ∀ t : Fin cfg0.N, win0_0.index t = ![t.val / 6, 0] := by decide +kernel
theorem idx_1 : ∀ t : Fin cfg0.N, win0_1.index t = ![0, t.val % 6] := by decide +kernel
theorem idx_2 : ∀ t : Fin cfg0.N, win0_2.index t = ![t.val / 6, t.val % 6] := by decide +kernel

theorem lt_N (t : Fin cfg0.N) : t.val < 96 := t.isLt

/-- The row of the whole array that row `r` of a block of rows is, and the column that column `l` of a
    block of columns is. -/
def rowOf (i : Fin 16) (r : Fin 1024) : Fin 16384 := ⟨1024 * i.val + r.val, by omega⟩
def colOf (j : Fin 6) (l : Fin 2048) : Fin 12288 := ⟨2048 * j.val + l.val, by omega⟩
/-- A point's block of rows and block of columns. -/
def pi (n : ℕ) (h : n < cfg0.N) : Fin 16 := ⟨n / 6, by have h : n < 96 := h; omega⟩
def pj (n : ℕ) : Fin 6 := ⟨n % 6, by omega⟩

theorem iblk0_at (t : Fin cfg0.N) (r : Fin 1024) (d : Fin 2048) :
    iblk m c 0 t (ix2 r d) = opX m c (ix2 (rowOf (pi t.val t.isLt) r) d) := by
  blk_point [iblk, V, idx_0 t, rowOf, pi]
theorem iblk1_at (t : Fin cfg0.N) (d l : Fin 2048) :
    iblk m c 1 t (ix2 d l) = opW m c (ix2 d (colOf (pj t.val) l)) := by
  blk_point [iblk, V, idx_1 t, colOf, pj]

theorem pay1_at (x : Vec Ideal S1024x2048 .f32) (r : Fin 1024) (d : Fin 2048) : k0_pay1 (F := Ideal) x (ix2 r d) = x (ix2 r d) := by
  pointwise [k0_pay1]
theorem pay2_at (x : Vec Ideal S1024x2048 .bf16) (w : Vec Ideal S2048x2048 .bf16) (r : Fin 1024) (l : Fin 2048) :
    k0_pay2 (F := Ideal) x w (ix2 r l) = ∑ d : Fin 2048, x (ix2 r d) * w (ix2 d l) := by
  pointwise [k0_pay2]

/-- The scratch after a point: the point's rows. -/
theorem scr_at (r : Fin 1024) (d : Fin 2048) : ∀ (n : ℕ) (h : n < cfg0.N),
    (outsAt0 m c n h).2 (ix2 r d) = opX m c (ix2 (rowOf (pi n h) r) d) := by
  intro n
  induction n with
  | zero =>
    intro h
    rw [outsAt0_A m c ⟨0, h⟩ (Nat.zero_mod 6)]
    frame_out
    exact (pay1_at _ r d).trans (iblk0_at m c ⟨0, h⟩ r d)
  | succ n ih =>
    intro h
    by_cases h0 : (n + 1) % 6 = 0
    · rw [outsAt0_A m c ⟨n + 1, h⟩ h0]
      frame_out
      exact (pay1_at _ r d).trans (iblk0_at m c ⟨n + 1, h⟩ r d)
    · rw [outsAt0_B m c ⟨n + 1, h⟩ h0]
      refine (ih (Nat.lt_of_succ_lt h)).trans ?_
      have e : pi n (Nat.lt_of_succ_lt h) = pi (n + 1) h := Fin.ext (by simp only [pi]; omega)
      rw [e]

/-- The block of the result a point leaves. -/
theorem out_at (t : Fin cfg0.N) (r : Fin 1024) (l : Fin 2048) :
    (outsAt0 m c t.val t.isLt).1 (ix2 r l)
      = ∑ d : Fin 2048, opX m c (ix2 (rowOf (pi t.val t.isLt) r) d) * opW m c (ix2 d (colOf (pj t.val) l)) := by
  by_cases h0 : t.val % 6 = 0
  · rw [outsAt0_A m c t h0]
    frame_out
    refine (pay2_at _ _ r l).trans (Finset.sum_congr rfl fun d _ => ?_)
    rw [pay1_at]
    exact congrArg₂ (· * ·) (iblk0_at m c t r d) (iblk1_at m c t d l)
  · rw [outsAt0_B m c t h0]
    frame_out
    refine (pay2_at _ _ r l).trans (Finset.sum_congr rfl fun d _ => ?_)
    rw [read_unread_whole, scr_at]
    refine congrArg₂ (· * ·) ?_ (iblk1_at m c t d l)
    have e : pi (t.val - 1) (Nat.lt_of_le_of_lt (Nat.sub_le _ _) t.isLt) = pi t.val t.isLt := Fin.ext (by simp only [pi]; omega)
    rw [e]

/-- The result is the array `G` when every block the points write is `G`'s. -/
theorem arr_of (G : Vec Ideal S16384x12288 .f32)
    (hG : ∀ (R : Fin 16384) (l : Fin 12288), G (ix2 R l) = ∑ d : Fin 2048, argX m c (ix3 ⟨R.val / 4096, by omega⟩ ⟨R.val % 4096, by omega⟩ d) * argW m c (ix2 d (colW l))) :
    (dats m 0 c).arrAt 2 (cfgs 0).N = G := by
  refine (dats m 0 c).arrAt_eq_of_covers 2 _ (by decide +kernel) fun t hf y => ?_
  blk_simp
  rw [after0_2]
  change S1024x2048.Idx at y
  obtain ⟨r, l, rfl⟩ : ∃ (r : Fin 1024) (l : Fin 2048), y = ix2 r l := by
    idx_vars y
    exact ⟨_, _, rfl⟩
  refine (out_at m c t r l).trans ?_
  refine (Finset.sum_congr rfl fun d _ => congrArg₂ (· * ·) (opX_at m c _ d) (opW_at m c d _)).trans ?_
  refine (hG (rowOf (pi t.val t.isLt) r) (colOf (pj t.val) l)).symm.trans (congrArg G ?_)
  symm
  blk_point [idx_2 t, rowOf, colOf, pi, pj]

/-- The reference's result, element by element. -/
theorem ref_at (x : Vec Ideal S4x4096x2048 .f32) (w : Vec Ideal S2048x13408 .f32) (R : Fin 16384) (l : Fin 12288) :
    Cert.Reference2Ideal.Read.val_main_v13 (F := Ideal) x w (ix2 R l)
      = ∑ d : Fin 2048, x (ix3 ⟨R.val / 4096, by omega⟩ ⟨R.val % 4096, by omega⟩ d) * w (ix2 d (colW l)) := by
  have e : Cert.Reference2Ideal.Read.val_main_v13 (F := Ideal) x w (ix2 R l)
      = Cert.Reference2Ideal.Read.val_main_v0 (F := Ideal) x w (ix3 ⟨R.val / 4096, by omega⟩ ⟨R.val % 4096, by omega⟩ (colW l)) := by
    unfold Cert.Reference2Ideal.Read.val_main_v13 Cert.Reference2Ideal.Read.val_main_v12 Cert.Reference2Ideal.Read.val_main_v4
      Cert.Reference2Ideal.Read.val_main_v5 Cert.Reference2Ideal.Read.val_main_v6 Cert.Reference2Ideal.Read.val_main_v7
      Cert.Reference2Ideal.Read.val_main_v10 Cert.Reference2Ideal.Read.val_main_v11
    generalize Cert.Reference2Ideal.Read.val_main_v0 (F := Ideal) x w = y
    pointwise []
    split_ifs <;>
    · refine congrArg (fun q => y (ix3 _ _ q)) (Fin.ext ?_)
      unfold colW
      split <;> simp only [] <;> omega
  rw [e]
  pointwise [Cert.Reference2Ideal.Read.val_main_v0]

end Cert.Kernel2Ideal.Hand

end
-- ==== Proof.Merge.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.StableHlo.ReadAt
public import Idealize.ShloMosaic.Lib.Pointwise
public import Idealize.ShloMosaic.Lib.Tactic.WordOmega

/-! The merge of the two mixers' outputs: every element the launch leaves, and the reference's. -/

@[expose] public section

set_option maxRecDepth 16384

noncomputable section

namespace Cert.Kernel3Ideal.Hand

open Cert.Kernel3Ideal Cert.Kernel3Ideal.Gen
open Idealize.ShloMosaic Idealize.ShloMosaic.TcCoe

variable (m : (ℓ : Loc nD τ sig) → Buf (Elt Ideal) ℓ) (c : Dev nD)

/-- The arguments as arrays. -/
abbrev argA : Vec Ideal S4x4096x2048 .f32 := m ((c : Thread nD τ).loc main_arg0)
abbrev argB : Vec Ideal S4x4096x2048 .f32 := m ((c : Thread nD τ).loc main_arg1)
abbrev argGa : Vec Ideal S4x4096x2048 .f32 := m ((c : Thread nD τ).loc main_arg2)
abbrev argGb : Vec Ideal S4x4096x2048 .f32 := m ((c : Thread nD τ).loc main_arg3)
abbrev argWa : Vec Ideal S2048x2048 .f32 := m ((c : Thread nD τ).loc main_arg4)
abbrev argWb : Vec Ideal S2048x2048 .f32 := m ((c : Thread nD τ).loc main_arg5)

abbrev opA : Vec Ideal S16384x2048 .bf16 := V m c main_v5
abbrev opB : Vec Ideal S16384x2048 .bf16 := V m c main_v7
abbrev opG : Vec Ideal S16384x12288 .f32 := V m c main_v3
abbrev opWa : Vec Ideal S2048x2048 .bf16 := V m c main_v8
abbrev opWb : Vec Ideal S2048x2048 .bf16 := V m c main_v9

/-- Row `R` of the rows laid end to end, at column `d`. -/
def at3 (x : Vec Ideal S4x4096x2048 .f32) (R : Fin 16384) (d : Fin 2048) : EReal :=
  x (ix3 ⟨R.val / 4096, by omega⟩ ⟨R.val % 4096, by omega⟩ d)

theorem opA_at (R : Fin 16384) (d : Fin 2048) : opA m c (ix2 R d) = at3 (argA m c) R d := by
  unfold opA V at3
  after_reads_at
theorem opB_at (R : Fin 16384) (d : Fin 2048) : opB m c (ix2 R d) = at3 (argB m c) R d := by
  unfold opB V at3
  after_reads_at
theorem opWa_at (d l : Fin 2048) : opWa m c (ix2 d l) = argWa m c (ix2 d l) := by
  unfold opWa V
  after_reads_at
theorem opWb_at (d l : Fin 2048) : opWb m c (ix2 d l) = argWb m c (ix2 d l) := by
  unfold opWb V
  after_reads_at
theorem opGa_at (R : Fin 16384) (d : Fin 2048) : opG m c (ix2 R ⟨8192 + d.val, by omega⟩) = at3 (argGa m c) R d := by
  unfold opG V at3
  after_reads_at
  after_reads_at
theorem opGb_at (R : Fin 16384) (d : Fin 2048) : opG m c (ix2 R ⟨10240 + d.val, by omega⟩) = at3 (argGb m c) R d := by
  unfold opG V at3
  after_reads_at
  rw [dif_neg (by omega), dif_neg (by omega)]
  after_reads_at
  exact congrArg (fun q => argGb m c (ix3 ⟨R.val / 4096, by omega⟩ ⟨R.val % 4096, by omega⟩ q)) (Fin.ext (by show 10240 + d.val - 8192 - 2048 = d.val; omega))

theorem half : Ideal.ofBits .f32 0x3F000000#32 = ((1 / 2 : ℝ) : EReal) := by
  simp [Ideal.ofBits, Ideal.ieee]
  rw [← EReal.coe_mul]
  congr 1
  norm_num
theorem one : Ideal.ofBits .f32 0x3F800000#32 = 1 := by
  simp [Ideal.ofBits, Ideal.ieee]
  rw [← EReal.coe_mul]
  norm_num

/-- The logistic function by the hyperbolic tangent, for every extended real. -/
theorem sigmoid_eq (x : EReal) :
    ((1 / 2 : ℝ) : EReal) * Ideal.tanh (((1 / 2 : ℝ) : EReal) * x) + ((1 / 2 : ℝ) : EReal) = Ideal.div 1 (1 + Ideal.exp (-x)) := by
  change _ = Ideal.logistic x
  induction x using EReal.rec with
  | bot =>
    rw [EReal.coe_mul_bot_of_pos (by norm_num), Ideal.tanh_bot, Ideal.logistic_bot, show (-1 : EReal) = ((-1 : ℝ) : EReal) from rfl, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-(1 / 2 * r)) = (Real.exp (1 / 2 * r))⁻¹ := Real.exp_neg _
    have h2 : Real.exp (-r) = (Real.exp (1 / 2 * r))⁻¹ * (Real.exp (1 / 2 * r))⁻¹ := by
      rw [← Real.exp_neg, ← Real.exp_add]; congr 1; ring
    have h3 := Real.exp_pos (1 / 2 * r)
    rw [h1, h2]
    generalize Real.exp (1 / 2 * r) = e at h3
    field_simp
    ring

/-- The merge at one element. -/
def mrg (ga gb sa sb : EReal) : EReal := Ideal.div 1 (1 + Ideal.exp (-ga)) * sa + Ideal.div 1 (1 + Ideal.exp (-gb)) * sb

theorem pay_at (a b : Vec Ideal S512x2048 .bf16) (wa wb : Vec Ideal S2048x1024 .bf16) (ga gb : Vec Ideal S512x1024 .f32) (r : Fin 512) (l : Fin 1024) :
    k0_pay1 (F := Ideal) a wa b wb ga gb (ix2 r l)
      = mrg (ga (ix2 r l)) (gb (ix2 r l)) (∑ d : Fin 2048, a (ix2 r d) * wa (ix2 d l)) (∑ d : Fin 2048, b (ix2 r d) * wb (ix2 d l)) := by
  unfold mrg
  rw [← sigmoid_eq, ← sigmoid_eq, ← half]
  pointwise [k0_pay1]

theorem idx_0 : ∀ t : Fin cfg0.N, win0_0.index t = ![(grid0.coords t 1).val, 0] := by decide +kernel
theorem idx_1 : ∀ t : Fin cfg0.N, win0_1.index t = ![(grid0.coords t 1).val, 0] := by decide +kernel
theorem idx_2 : ∀ t : Fin cfg0.N, win0_2.index t = ![(grid0.coords t 1).val, 8 + (grid0.coords t 0).val] := by decide +kernel
theorem idx_3 : ∀ t : Fin cfg0.N, win0_3.index t = ![(grid0.coords t 1).val, 10 + (grid0.coords t 0).val] := by decide +kernel
theorem idx_4 : ∀ t : Fin cfg0.N, win0_4.index t = ![0, (grid0.coords t 0).val] := by decide +kernel
theorem idx_5 : ∀ t : Fin cfg0.N, win0_5.index t = ![0, (grid0.coords t 0).val] := by decide +kernel
theorem idx_6 : ∀ t : Fin cfg0.N, win0_6.index t = ![(grid0.coords t 1).val, (grid0.coords t 0).val] := by decide +kernel

/-- The row and the column of the whole array that a block's row and column are. -/
def rowOf (i : Fin 32) (r : Fin 512) : Fin 16384 := ⟨512 * i.val + r.val, by omega⟩
def colOf (j : Fin 2) (l : Fin 1024) : Fin 2048 := ⟨1024 * j.val + l.val, by omega⟩

theorem iblk0_at (t : Fin cfg0.N) (r : Fin 512) (d : Fin 2048) :
    iblk m c 0 t (ix2 r d) = opA m c (ix2 (rowOf (grid0.coords t 1) r) d) := by
  blk_point [iblk, V, idx_0 t, rowOf]
theorem iblk1_at (t : Fin cfg0.N) (r : Fin 512) (d : Fin 2048) :
    iblk m c 1 t (ix2 r d) = opB m c (ix2 (rowOf (grid0.coords t 1) r) d) := by
  blk_point [iblk, V, idx_1 t, rowOf]
theorem iblk2_at (t : Fin cfg0.N) (r : Fin 512) (l : Fin 1024) :
    iblk m c 2 t (ix2 r l) = opG m c (ix2 (rowOf (grid0.coords t 1) r) ⟨8192 + (colOf (grid0.coords t 0) l).val, by omega⟩) := by
  blk_point [iblk, V, idx_2 t, rowOf, colOf]
theorem iblk3_at (t : Fin cfg0.N) (r : Fin 512) (l : Fin 1024) :
    iblk m c 3 t (ix2 r l) = opG m c (ix2 (rowOf (grid0.coords t 1) r) ⟨10240 + (colOf (grid0.coords t 0) l).val, by omega⟩) := by
  blk_point [iblk, V, idx_3 t, rowOf, colOf]
theorem iblk4_at (t : Fin cfg0.N) (d : Fin 2048) (l : Fin 1024) :
    iblk m c 4 t (ix2 d l) = opWa m c (ix2 d (colOf (grid0.coords t 0) l)) := by
  blk_point [iblk, V, idx_4 t, colOf]
theorem iblk5_at (t : Fin cfg0.N) (d : Fin 2048) (l : Fin 1024) :
    iblk m c 5 t (ix2 d l) = opWb m c (ix2 d (colOf (grid0.coords t 0) l)) := by
  blk_point [iblk, V, idx_5 t, colOf]

/-- The block of the result a point leaves. -/
theorem out_at (t : Fin cfg0.N) (r : Fin 512) (l : Fin 1024) :
    (dats m 0 c).after 6 t (ix2 r l)
      = mrg (at3 (argGa m c) (rowOf (grid0.coords t 1) r) (colOf (grid0.coords t 0) l)) (at3 (argGb m c) (rowOf (grid0.coords t 1) r) (colOf (grid0.coords t 0) l))
        (∑ d : Fin 2048, at3 (argA m c) (rowOf (grid0.coords t 1) r) d * argWa m c (ix2 d (colOf (grid0.coords t 0) l)))
        (∑ d : Fin 2048, at3 (argB m c) (rowOf (grid0.coords t 1) r) d * argWb m c (ix2 d (colOf (grid0.coords t 0) l))) := by
  rw [after0_6]
  frame_out
  refine (pay_at _ _ _ _ _ _ r l).trans ?_
  congr 1
  · exact (iblk2_at m c t r l).trans (opGa_at m c _ _)
  · exact (iblk3_at m c t r l).trans (opGb_at m c _ _)
  · exact Finset.sum_congr rfl fun d _ => congrArg₂ (· * ·) ((iblk0_at m c t r d).trans (opA_at m c _ _)) ((iblk4_at m c t d l).trans (opWa_at m c _ _))
  · exact Finset.sum_congr rfl fun d _ => congrArg₂ (· * ·) ((iblk1_at m c t r d).trans (opB_at m c _ _)) ((iblk5_at m c t d l).trans (opWb_at m c _ _))

/-- The result is the array `G` when `G` is the merge at every element. -/
theorem arr_of (G : Vec Ideal S16384x2048 .bf16)
    (hG : ∀ (R : Fin 16384) (l : Fin 2048), G (ix2 R l) = mrg (at3 (argGa m c) R l) (at3 (argGb m c) R l)
        (∑ d : Fin 2048, at3 (argA m c) R d * argWa m c (ix2 d l)) (∑ d : Fin 2048, at3 (argB m c) R d * argWb m c (ix2 d l))) :
    (dats m 0 c).arrAt 6 cfg0.N = G := by
  refine (dats m 0 c).arrAt_eq_of_covers 6 _ (by decide +kernel) fun t hf y => ?_
  blk_simp
  change S512x1024.Idx at y
  obtain ⟨r, l, rfl⟩ : ∃ (r : Fin 512) (l : Fin 1024), y = ix2 r l := by
    idx_vars y
    exact ⟨_, _, rfl⟩
  refine (out_at m c t r l).trans ?_
  refine (hG (rowOf (grid0.coords t 1) r) (colOf (grid0.coords t 0) l)).symm.trans (congrArg G ?_)
  symm
  blk_point [idx_6 t, rowOf, colOf]

open Cert.Reference3Ideal Cert.Reference3Ideal.Read in
/-- The reference's result, element by element. -/
theorem ref_at (a b ga gb : Vec Ideal Cert.Kernel3Ideal.S4x4096x2048 .f32) (wa wb : Vec Ideal Cert.Kernel3Ideal.S2048x2048 .f32) (R : Fin 16384) (l : Fin 2048) :
    Cert.Reference3Ideal.Read.val_main_v18 (F := Ideal) a b ga gb wa wb (ix2 R l)
      = mrg (at3 ga R l) (at3 gb R l) (∑ d : Fin 2048, at3 a R d * wa (ix2 d l)) (∑ d : Fin 2048, at3 b R d * wb (ix2 d l)) := by
  unfold mrg
  rw [← one]
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1, val_main_cst_2, at3]

end Cert.Kernel3Ideal.Hand

end
-- ==== Proof.ProjLn.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.StableHlo.ReadAt
public import Idealize.ShloMosaic.Lib.Pointwise
public import Idealize.ShloMosaic.Lib.Tactic.WordOmega

/-! The output projection with its residual and layer norm: every element the launch leaves, and the
    reference's. -/

@[expose] public section

set_option maxRecDepth 16384

noncomputable section

namespace Cert.Kernel4Ideal.Hand

open Cert.Kernel4Ideal Cert.Kernel4Ideal.Gen
open Idealize.ShloMosaic Idealize.ShloMosaic.TcCoe

variable (m : (ℓ : Loc nD τ sig) → Buf (Elt Ideal) ℓ) (c : Dev nD)

/-- The arguments as arrays. -/
abbrev argA : Vec Ideal S4x4096x2048 .f32 := m ((c : Thread nD τ).loc main_arg0)
abbrev argW : Vec Ideal S2048x2048 .f32 := m ((c : Thread nD τ).loc main_arg1)
abbrev argX : Vec Ideal S4x4096x2048 .f32 := m ((c : Thread nD τ).loc main_arg2)
abbrev argG : Vec Ideal S2048 .f32 := m ((c : Thread nD τ).loc main_arg3)
abbrev argB : Vec Ideal S2048 .f32 := m ((c : Thread nD τ).loc main_arg4)

abbrev opA : Vec Ideal S16384x2048 .bf16 := V m c main_v1
abbrev opW : Vec Ideal S2048x2048 .bf16 := V m c main_v2
abbrev opX : Vec Ideal S16384x2048 .f32 := V m c main_v3
abbrev opG : Vec Ideal S1x2048 .f32 := V m c main_v4
abbrev opB : Vec Ideal S1x2048 .f32 := V m c main_v5

/-- Row `R` of the rows laid end to end, at column `d`. -/
def at3 (x : Vec Ideal S4x4096x2048 .f32) (R : Fin 16384) (d : Fin 2048) : EReal :=
  x (ix3 ⟨R.val / 4096, by omega⟩ ⟨R.val % 4096, by omega⟩ d)

theorem opA_at (R : Fin 16384) (d : Fin 2048) : opA m c (ix2 R d) = at3 (argA m c) R d := by
  unfold opA V at3
  after_reads_at
theorem opW_at (d l : Fin 2048) : opW m c (ix2 d l) = argW m c (ix2 d l) := by
  unfold opW V
  after_reads_at
theorem opX_at (R : Fin 16384) (d : Fin 2048) : opX m c (ix2 R d) = at3 (argX m c) R d := by
  unfold opX V at3
  after_reads_at
theorem opG_at (d : Fin 2048) : opG m c (ix2 0 d) = argG m c (ix1 d) := by
  unfold opG V
  after_reads_at
theorem opB_at (d : Fin 2048) : opB m c (ix2 0 d) = argB m c (ix1 d) := by
  unfold opB V
  after_reads_at

/-- The mean of a row. -/
def mean (y : Fin 2048 → EReal) : EReal := Ideal.div (∑ l : Fin 2048, y l) (Ideal.ofBits .f32 0x45000000#32)
/-- The layer norm of a row at one column. -/
def ln (y : Fin 2048 → EReal) (g b : EReal) (l : Fin 2048) : EReal :=
  (y l - mean y) * Ideal.rsqrt (mean (fun j => (y j - mean y) * (y j - mean y)) + Ideal.ofBits .f32 0x3727C5AC#32) * g + b
/-- The residual sum at one element. -/
def res (x : EReal) (s : EReal) : EReal := Ideal.ofBits .f32 0x3FB504F3#32 * x + s

theorem pay_at (a : Vec Ideal S512x2048 .bf16) (w : Vec Ideal S2048x2048 .bf16) (x : Vec Ideal S512x2048 .f32) (g b : Vec Ideal S1x2048 .f32) (r : Fin 512) (l : Fin 2048) :
    k0_pay1 (F := Ideal) x a w g b (ix2 r l)
      = ln (fun j => res (x (ix2 r j)) (∑ d : Fin 2048, a (ix2 r d) * w (ix2 d j))) (g (ix2 0 l)) (b (ix2 0 l)) l := by
  pointwise [k0_pay1, ln, mean, res]

theorem pay2_at (a : Vec Ideal S512x2048 .bf16) (w : Vec Ideal S2048x2048 .bf16) (x : Vec Ideal S512x2048 .f32) (g b : Vec Ideal S1x2048 .f32) (r : Fin 512) (l : Fin 2048) :
    k0_pay2 (F := Ideal) x a w g b (ix2 r l) = k0_pay1 (F := Ideal) x a w g b (ix2 r l) := rfl

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel
theorem idx_3 : ∀ t : Fin cfg0.N, win0_3.index t = ![0, 0] := by decide +kernel
theorem idx_4 : ∀ t : Fin cfg0.N, win0_4.index t = ![0, 0] := by decide +kernel
theorem idx_5 : ∀ t : Fin cfg0.N, win0_5.index t = ![t.val, 0] := by decide +kernel
theorem idx_6 : ∀ t : Fin cfg0.N, win0_6.index t = ![t.val, 0] := by decide +kernel

/-- The row of the whole array that a point's row is. -/
def rowOf (t : Fin cfg0.N) (r : Fin 512) : Fin 16384 := ⟨512 * t.val + r.val, by have h : t.val < 32 := t.isLt; omega⟩

theorem iblk0_at (t : Fin cfg0.N) (r : Fin 512) (d : Fin 2048) : iblk m c 0 t (ix2 r d) = opA m c (ix2 (rowOf t r) d) := by
  blk_point [iblk, V, idx_0 t, rowOf]
theorem iblk1_at (t : Fin cfg0.N) (d l : Fin 2048) : iblk m c 1 t (ix2 d l) = opW m c (ix2 d l) := by
  blk_point [iblk, V, idx_1 t]
theorem iblk2_at (t : Fin cfg0.N) (r : Fin 512) (d : Fin 2048) : iblk m c 2 t (ix2 r d) = opX m c (ix2 (rowOf t r) d) := by
  blk_point [iblk, V, idx_2 t, rowOf]
theorem iblk3_at (t : Fin cfg0.N) (d : Fin 2048) : iblk m c 3 t (ix2 0 d) = opG m c (ix2 0 d) := by
  blk_point [iblk, V, idx_3 t]
theorem iblk4_at (t : Fin cfg0.N) (d : Fin 2048) : iblk m c 4 t (ix2 0 d) = opB m c (ix2 0 d) := by
  blk_point [iblk, V, idx_4 t]

/-- The result at one element, from the arguments. -/
def val (a : Vec Ideal S4x4096x2048 .f32) (w : Vec Ideal S2048x2048 .f32) (x : Vec Ideal S4x4096x2048 .f32) (g b : Vec Ideal S2048 .f32) (R : Fin 16384) (l : Fin 2048) : EReal :=
  ln (fun j => res (at3 x R j) (∑ d : Fin 2048, at3 a R d * w (ix2 d j))) (g (ix1 l)) (b (ix1 l)) l

theorem blk_eq (t : Fin cfg0.N) (r : Fin 512) (l : Fin 2048) :
    k0_pay1 (F := Ideal) (iblk m c 2 t) (iblk m c 0 t) (iblk m c 1 t) (iblk m c 3 t) (iblk m c 4 t) (ix2 r l)
      = val (argA m c) (argW m c) (argX m c) (argG m c) (argB m c) (rowOf t r) l := by
  refine (pay_at _ _ _ _ _ r l).trans ?_
  unfold val
  congr 1
  · funext j
    refine congrArg₂ res ((iblk2_at m c t r j).trans (opX_at m c _ _)) (Finset.sum_congr rfl fun d _ => congrArg₂ (· * ·) ?_ ?_)
    · exact (iblk0_at m c t r d).trans (opA_at m c _ _)
    · exact (iblk1_at m c t d j).trans (opW_at m c _ _)
  · exact (iblk3_at m c t l).trans (opG_at m c _)
  · exact (iblk4_at m c t l).trans (opB_at m c _)

/-- The first result is the array `G` when `G` is the layer norm at every element. -/
theorem arr_of5 (G : Vec Ideal S16384x2048 .f32)
    (hG : ∀ (R : Fin 16384) (l : Fin 2048), G (ix2 R l) = val (argA m c) (argW m c) (argX m c) (argG m c) (argB m c) R l) :
    (dats m 0 c).arrAt 5 cfg0.N = G := by
  refine (dats m 0 c).arrAt_eq_of_covers 5 _ (by decide +kernel) fun t hf y => ?_
  blk_simp
  rw [after0_5]
  frame_out
  change S512x2048.Idx at y
  obtain ⟨r, l, rfl⟩ : ∃ (r : Fin 512) (l : Fin 2048), y = ix2 r l := by
    idx_vars y
    exact ⟨_, _, rfl⟩
  refine (blk_eq m c t r l).trans ((hG (rowOf t r) l).symm.trans (congrArg G ?_))
  symm
  blk_point [idx_5 t, rowOf]

/-- And the second. -/
theorem arr_of6 (G : Vec Ideal S16384x2048 .bf16)
    (hG : ∀ (R : Fin 16384) (l : Fin 2048), G (ix2 R l) = val (argA m c) (argW m c) (argX m c) (argG m c) (argB m c) R l) :
    (dats m 0 c).arrAt 6 cfg0.N = G := by
  refine (dats m 0 c).arrAt_eq_of_covers 6 _ (by decide +kernel) fun t hf y => ?_
  blk_simp
  rw [after0_6]
  frame_out
  change S512x2048.Idx at y
  obtain ⟨r, l, rfl⟩ : ∃ (r : Fin 512) (l : Fin 2048), y = ix2 r l := by
    idx_vars y
    exact ⟨_, _, rfl⟩
  refine (pay2_at _ _ _ _ _ r l).trans ((blk_eq m c t r l).trans ((hG (rowOf t r) l).symm.trans (congrArg G ?_)))
  symm
  blk_point [idx_6 t, rowOf]

section
open Cert.Reference4Ideal.Read
variable (a : Vec Ideal S4x4096x2048 .f32) (w : Vec Ideal S2048x2048 .f32) (x : Vec Ideal S4x4096x2048 .f32) (g b : Vec Ideal S2048 .f32)

theorem v3_at (B : Fin 4) (n : Fin 4096) (l : Fin 2048) :
    val_main_v3 (F := Ideal) a w x (ix3 B n l) = res (x (ix3 B n l)) (∑ d : Fin 2048, a (ix3 B n d) * w (ix2 d l)) := by
  pointwise [val_main_v3, val_main_v2, val_main_v1, val_main_v0, val_main_cst, res]
theorem v7_at (B : Fin 4) (n : Fin 4096) :
    val_main_v7 (F := Ideal) a w x (ix3 B n 0) = mean fun l => val_main_v3 (F := Ideal) a w x (ix3 B n l) := by
  unfold val_main_v7 val_main_v5 val_main_v4
  generalize val_main_v3 (F := Ideal) a w x = y
  pointwise [val_main_v6, val_main_cst_1, val_main_cst_0, mean]
theorem v9_at (B : Fin 4) (n : Fin 4096) (l : Fin 2048) :
    val_main_v9 (F := Ideal) a w x (ix3 B n l) = val_main_v3 (F := Ideal) a w x (ix3 B n l) - val_main_v7 (F := Ideal) a w x (ix3 B n 0) := by
  unfold val_main_v9 val_main_v8
  generalize val_main_v3 (F := Ideal) a w x = y
  generalize val_main_v7 (F := Ideal) a w x = z
  pointwise []
theorem v14_at (B : Fin 4) (n : Fin 4096) :
    val_main_v14 (F := Ideal) a w x (ix3 B n 0) = mean fun l => val_main_v9 (F := Ideal) a w x (ix3 B n l) * val_main_v9 (F := Ideal) a w x (ix3 B n l) := by
  unfold val_main_v14 val_main_v12 val_main_v11 val_main_v10
  generalize val_main_v9 (F := Ideal) a w x = y
  pointwise [val_main_v13, val_main_cst_3, val_main_cst_2, mean]
theorem v27_at (B : Fin 4) (n : Fin 4096) (l : Fin 2048) :
    val_main_v27 (F := Ideal) a w x g b (ix3 B n l)
      = (val_main_v3 (F := Ideal) a w x (ix3 B n l) - val_main_v7 (F := Ideal) a w x (ix3 B n 0))
        * Ideal.rsqrt (val_main_v14 (F := Ideal) a w x (ix3 B n 0) + Ideal.ofBits .f32 0x3727C5AC#32) * g (ix1 l) + b (ix1 l) := by
  unfold val_main_v27 val_main_v24 val_main_v21 val_main_v20 val_main_v19 val_main_v18 val_main_v16 val_main_v15
  generalize val_main_v3 (F := Ideal) a w x = y
  generalize val_main_v7 (F := Ideal) a w x = z
  generalize val_main_v14 (F := Ideal) a w x = u
  pointwise [val_main_v17, val_main_cst_4, val_main_v26, val_main_v25, val_main_v23, val_main_v22]

/-- The reference's first result, element by element. -/
theorem ref_at (R : Fin 16384) (l : Fin 2048) : val_main_v28 (F := Ideal) a w x g b (ix2 R l) = val a w x g b R l := by
  have e : val_main_v28 (F := Ideal) a w x g b (ix2 R l) = val_main_v27 (F := Ideal) a w x g b (ix3 ⟨R.val / 4096, by omega⟩ ⟨R.val % 4096, by omega⟩ l) := by
    unfold val_main_v28
    generalize val_main_v27 (F := Ideal) a w x g b = y
    pointwise []
  rw [e, v27_at, v14_at]
  simp only [v9_at, v7_at, v3_at]
  rfl
/-- And its second. -/
theorem ref2_at (R : Fin 16384) (l : Fin 2048) : val_main_v29 (F := Ideal) a w x g b (ix2 R l) = val a w x g b R l :=
  (show val_main_v29 (F := Ideal) a w x g b (ix2 R l) = val_main_v28 (F := Ideal) a w x g b (ix2 R l) from rfl).trans (ref_at a w x g b R l)
end

end Cert.Kernel4Ideal.Hand

end
-- ==== Proof.InSmall.lean ====
module

public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack
public import Idealize.ShloMosaic.Lib.StableHlo.ReadAt
public import Idealize.ShloMosaic.Lib.Pointwise
public import Idealize.ShloMosaic.Lib.Tactic.WordOmega

/-! The small part of the input projection: every element the launch leaves is the row's product with
    its column of the weights, or zero in the unused columns, and so is the reference's. -/

@[expose] public section

set_option maxRecDepth 16384

noncomputable section

namespace Cert.Kernel5Ideal.Hand

open Cert.Kernel5Ideal Cert.Kernel5Ideal.Gen
open Idealize.ShloMosaic Idealize.ShloMosaic.TcCoe

variable (m : (ℓ : Loc nD τ sig) → Buf (Elt Ideal) ℓ) (c : Dev nD)

/-- The two arguments as arrays. -/
abbrev argX : Vec Ideal S4x4096x2048 .f32 := m ((c : Thread nD τ).loc main_arg0)
abbrev argW : Vec Ideal S2048x13408 .f32 := m ((c : Thread nD τ).loc main_arg1)

abbrev opX : Vec Ideal S16384x2048 .f32 := V m c main_v6
abbrev opW : Vec Ideal S2048x1280 .bf16 := V m c main_v7

/-- The column of the weights that column `l` of the result takes: the latents and the rotary key, the
    key's second half, its first half, the two small gates. -/
def colW (l : Fin 1280) : Fin 13408 :=
  if l.val < 1088 then ⟨l.val, by omega⟩ else if l.val < 1120 then ⟨l.val - 32, by omega⟩
  else if l.val < 1152 then ⟨l.val - 96, by omega⟩ else ⟨l.val + 8128, by omega⟩

theorem colW_val (l : Fin 1280) : (colW l).val = if l.val < 1088 then l.val else if l.val < 1120 then l.val - 32
    else if l.val < 1152 then l.val - 96 else l.val + 8128 := by
  unfold colW
  split_ifs <;> rfl

/-- Row `R` of the rows laid end to end, at column `d`. -/
def at3 (x : Vec Ideal S4x4096x2048 .f32) (R : Fin 16384) (d : Fin 2048) : EReal :=
  x (ix3 ⟨R.val / 4096, by omega⟩ ⟨R.val % 4096, by omega⟩ d)

/-- The product of row `R` with column `l`: zero in the columns from 1184 on, which are not used. -/
def val (x : Vec Ideal S4x4096x2048 .f32) (w : Vec Ideal S2048x13408 .f32) (R : Fin 16384) (l : Fin 1280) : EReal :=
  if l.val < 1184 then ∑ d : Fin 2048, at3 x R d * w (ix2 d (colW l)) else 0

theorem opX_at (R : Fin 16384) (d : Fin 2048) : opX m c (ix2 R d) = at3 (argX m c) R d := by
  unfold opX V at3
  after_reads_at

theorem opW_at (d : Fin 2048) (l : Fin 1280) :
    opW m c (ix2 d l) = if l.val < 1184 then argW m c (ix2 d (colW l)) else 0 := by
  unfold opW V
  after_reads_at
  have hc := colW_val l
  by_cases h1 : l.val < 1088
  · rw [if_pos h1] at hc
    rw [dif_pos (show _ by omega), if_pos (show l.val < 1184 by omega), StableHlo.upto]
    after_reads_at
    exact congrArg (fun q => argW m c (ix2 d q)) (Fin.ext ((show l.val = _ by omega).trans hc.symm))
  by_cases h2 : l.val < 1120
  · rw [if_neg h1, if_pos h2] at hc
    rw [dif_neg (show ¬_ by omega), dif_pos (show _ by omega), if_pos (show l.val < 1184 by omega), StableHlo.upto]
    after_reads_at
    exact congrArg (fun q => argW m c (ix2 d q)) (Fin.ext ((show 1056 + (l.val - 1088) = _ by omega).trans hc.symm))
  by_cases h3 : l.val < 1152
  · rw [if_neg h1, if_neg h2, if_pos h3] at hc
    rw [dif_neg (show ¬_ by omega), dif_neg (show ¬_ by omega), dif_pos (show _ by omega), if_pos (show l.val < 1184 by omega), StableHlo.upto]
    after_reads_at
    exact congrArg (fun q => argW m c (ix2 d q)) (Fin.ext ((show 1024 + (l.val - 1088 - 32) = _ by omega).trans hc.symm))
  by_cases h4 : l.val < 1184
  · rw [if_neg h1, if_neg h2, if_neg h3] at hc
    rw [dif_neg (show ¬_ by omega), dif_neg (show ¬_ by omega), dif_neg (show ¬_ by omega), dif_pos (show _ by omega), if_pos (show l.val < 1184 by omega), StableHlo.upto]
    after_reads_at
    exact congrArg (fun q => argW m c (ix2 d q)) (Fin.ext ((show 9280 + (l.val - 1088 - 32 - 32) = _ by omega).trans hc.symm))
  · rw [dif_neg (show ¬_ by omega), dif_neg (show ¬_ by omega), dif_neg (show ¬_ by omega), dif_neg (show ¬_ by omega), if_neg h4, StableHlo.upto]
    after_reads_at

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel

theorem lt_N (t : Fin cfg0.N) : t.val < 16 := t.isLt

/-- The row of the whole array that row `r` of a block of rows is. -/
def rowOf (i : Fin cfg0.N) (r : Fin 1024) : Fin 16384 := ⟨1024 * i.val + r.val, by have := lt_N i; omega⟩

theorem iblk0_at (t : Fin cfg0.N) (r : Fin 1024) (d : Fin 2048) :
    iblk m c 0 t (ix2 r d) = opX m c (ix2 (rowOf t r) d) := by
  blk_point [iblk, V, idx_0 t, rowOf]
theorem iblk1_at (t : Fin cfg0.N) (d : Fin 2048) (l : Fin 1280) :
    iblk m c 1 t (ix2 d l) = opW m c (ix2 d l) := by
  blk_point [iblk, V, idx_1 t]

theorem pay1_at (x : Vec Ideal S1024x2048 .f32) (r : Fin 1024) (d : Fin 2048) : k0_pay1 (F := Ideal) x (ix2 r d) = x (ix2 r d) := by
  pointwise [k0_pay1]
theorem pay2_at (x : Vec Ideal S1024x2048 .bf16) (w : Vec Ideal S2048x1280 .bf16) (r : Fin 1024) (l : Fin 1280) :
    k0_pay2 (F := Ideal) x w (ix2 r l) = ∑ d : Fin 2048, x (ix2 r d) * w (ix2 d l) := by
  pointwise [k0_pay2]

/-- The block of the result a point leaves. -/
theorem out_at (t : Fin cfg0.N) (r : Fin 1024) (l : Fin 1280) :
    outsAt0 m c t (ix2 r l) = val (argX m c) (argW m c) (rowOf t r) l := by
  unfold outsAt0
  frame_out
  refine (pay2_at _ _ r l).trans ?_
  unfold val
  have e : ∀ d : Fin 2048, k0_pay1 (F := Ideal) (iblk m c 0 t) (ix2 r d) * iblk m c 1 t (ix2 d l)
      = at3 (argX m c) (rowOf t r) d * (if l.val < 1184 then argW m c (ix2 d (colW l)) else 0) := fun d =>
    congrArg₂ (· * ·) ((pay1_at _ r d).trans ((iblk0_at m c t r d).trans (opX_at m c _ d))) ((iblk1_at m c t d l).trans (opW_at m c d l))
  refine (Finset.sum_congr rfl fun d _ => e d).trans ?_
  split
  · rfl
  · exact Finset.sum_eq_zero fun d _ => mul_zero _

/-- The result is the array `G` when every element is `G`'s. -/
theorem arr_of (G : Vec Ideal S16384x1280 .f32)
    (hG : ∀ (R : Fin 16384) (l : Fin 1280), G (ix2 R l) = val (argX m c) (argW m c) R l) :
    (dats m 0 c).arrAt 2 cfg0.N = G := by
  refine (dats m 0 c).arrAt_eq_of_covers 2 _ (by decide +kernel) fun t hf y => ?_
  blk_simp
  rw [after0_2]
  change S1024x1280.Idx at y
  obtain ⟨r, l, rfl⟩ : ∃ (r : Fin 1024) (l : Fin 1280), y = ix2 r l := by
    idx_vars y
    exact ⟨_, _, rfl⟩
  refine (out_at m c t r l).trans ((hG (rowOf t r) l).symm.trans (congrArg G ?_))
  symm
  blk_point [idx_2 t, rowOf]

set_option maxHeartbeats 2000000 in
/-- The reference's result, element by element. -/
theorem ref_at (x : Vec Ideal S4x4096x2048 .f32) (w : Vec Ideal S2048x13408 .f32) (R : Fin 16384) (l : Fin 1280) :
    Cert.Reference5Ideal.Read.val_main_v16 (F := Ideal) x w (ix2 R l) = val x w R l := by
  have e : Cert.Reference5Ideal.Read.val_main_v16 (F := Ideal) x w (ix2 R l)
      = if l.val < 1184 then Cert.Reference5Ideal.Read.val_main_v0 (F := Ideal) x w (ix3 ⟨R.val / 4096, by omega⟩ ⟨R.val % 4096, by omega⟩ (colW l)) else 0 := by
    unfold Cert.Reference5Ideal.Read.val_main_v16 Cert.Reference5Ideal.Read.val_main_v15 Cert.Reference5Ideal.Read.val_main_v1
      Cert.Reference5Ideal.Read.val_main_v2 Cert.Reference5Ideal.Read.val_main_v12 Cert.Reference5Ideal.Read.val_main_v13
      Cert.Reference5Ideal.Read.val_main_v3 Cert.Reference5Ideal.Read.val_main_v8 Cert.Reference5Ideal.Read.val_main_v9
      Cert.Reference5Ideal.Read.val_main_v14 Cert.Reference5Ideal.Read.val_main_cst
    generalize Cert.Reference5Ideal.Read.val_main_v0 (F := Ideal) x w = y
    pointwise []
    have hc := colW_val l
    by_cases h1 : l.val < 512
    · rw [if_pos (show l.val < 1088 by omega)] at hc
      rw [dif_pos (show _ by omega), if_pos (show l.val < 1184 by omega)]
      exact congrArg (fun q => y (ix3 _ _ q)) (Fin.ext ((show l.val = _ by omega).trans hc.symm))
    by_cases h2 : l.val < 1024
    · rw [if_pos (show l.val < 1088 by omega)] at hc
      rw [dif_neg (show ¬_ by omega), dif_pos (show _ by omega), if_pos (show l.val < 1184 by omega)]
      exact congrArg (fun q => y (ix3 _ _ q)) (Fin.ext ((show 512 + (l.val - 512) = _ by omega).trans hc.symm))
    by_cases h3 : l.val < 1088
    · rw [if_pos (show l.val < 1088 by omega)] at hc
      rw [dif_neg (show ¬_ by omega), dif_neg (show ¬_ by omega), dif_pos (show _ by omega), if_pos (show l.val < 1184 by omega)]
      exact congrArg (fun q => y (ix3 _ _ q)) (Fin.ext ((show 1024 + (l.val - 512 - 512) = _ by omega).trans hc.symm))
    by_cases h4 : l.val < 1120
    · rw [if_neg (show ¬ l.val < 1088 by omega), if_pos h4] at hc
      rw [dif_neg (show ¬_ by omega), dif_neg (show ¬_ by omega), dif_neg (show ¬_ by omega), dif_pos (show _ by omega), if_pos (show l.val < 1184 by omega)]
      exact congrArg (fun q => y (ix3 _ _ q)) (Fin.ext ((show 1024 + (32 + (l.val - 512 - 512 - 64)) = _ by omega).trans hc.symm))
    by_cases h5 : l.val < 1152
    · rw [if_neg (show ¬ l.val < 1088 by omega), if_neg h4, if_pos h5] at hc
      rw [dif_neg (show ¬_ by omega), dif_neg (show ¬_ by omega), dif_neg (show ¬_ by omega), dif_neg (show ¬_ by omega), dif_pos (show _ by omega), if_pos (show l.val < 1184 by omega)]
      exact congrArg (fun q => y (ix3 _ _ q)) (Fin.ext ((show 1024 + (l.val - 512 - 512 - 64 - 32) = _ by omega).trans hc.symm))
    by_cases h6 : l.val < 1168
    · rw [if_neg (show ¬ l.val < 1088 by omega), if_neg h4, if_neg h5] at hc
      rw [dif_neg (show ¬_ by omega), dif_neg (show ¬_ by omega), dif_neg (show ¬_ by omega), dif_neg (show ¬_ by omega), dif_neg (show ¬_ by omega), dif_pos (show _ by omega), if_pos (show l.val < 1184 by omega)]
      exact congrArg (fun q => y (ix3 _ _ q)) (Fin.ext ((show 9280 + (l.val - 512 - 512 - 64 - 32 - 32) = _ by omega).trans hc.symm))
    by_cases h7 : l.val < 1184
    · rw [if_neg (show ¬ l.val < 1088 by omega), if_neg h4, if_neg h5] at hc
      rw [dif_neg (show ¬_ by omega), dif_neg (show ¬_ by omega), dif_neg (show ¬_ by omega), dif_neg (show ¬_ by omega), dif_neg (show ¬_ by omega), dif_neg (show ¬_ by omega), dif_pos (show _ by omega), if_pos (show l.val < 1184 by omega)]
      exact congrArg (fun q => y (ix3 _ _ q)) (Fin.ext ((show 9296 + (l.val - 512 - 512 - 64 - 32 - 32 - 16) = _ by omega).trans hc.symm))
    · rw [dif_neg (show ¬_ by omega), dif_neg (show ¬_ by omega), dif_neg (show ¬_ by omega), dif_neg (show ¬_ by omega), dif_neg (show ¬_ by omega), dif_neg (show ¬_ by omega), dif_neg (show ¬_ by omega), if_neg h7]
  rw [e]
  unfold val
  split
  · pointwise [Cert.Reference5Ideal.Read.val_main_v0, at3]
  · rfl

end Cert.Kernel5Ideal.Hand

end
-- ==== Proof.MemKv.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack
public import Idealize.ShloMosaic.Lib.StableHlo.ReadAt
public import Idealize.ShloMosaic.Lib.Pointwise
public import Idealize.ShloMosaic.Lib.Tactic.WordOmega

/-! The memory's keys and values: every element the launch leaves is a row's product with a column of
    the weights, and so is the reference's. -/

@[expose] public section

set_option maxRecDepth 16384

noncomputable section

namespace Cert.Kernel6Ideal.Hand

open Cert.Kernel6Ideal Cert.Kernel6Ideal.Gen
open Idealize.ShloMosaic Idealize.ShloMosaic.TcCoe

variable (m : (ℓ : Loc nD τ sig) → Buf (Elt Ideal) ℓ) (c : Dev nD)

/-- The two arguments as arrays. -/
abbrev argX : Vec Ideal S4x256x2048 .f32 := m ((c : Thread nD τ).loc main_arg0)
abbrev argW : Vec Ideal S2048x1024 .f32 := m ((c : Thread nD τ).loc main_arg1)

abbrev opX : Vec Ideal S1024x2048 .f32 := V m c main_v0
abbrev opW : Vec Ideal S2048x1024 .bf16 := V m c main_v1

/-- The product of row `R` of the memory's rows laid end to end with column `l`. -/
def val (x : Vec Ideal S4x256x2048 .f32) (w : Vec Ideal S2048x1024 .f32) (R l : Fin 1024) : EReal :=
  ∑ d : Fin 2048, x (ix3 ⟨R.val / 256, by omega⟩ ⟨R.val % 256, by omega⟩ d) * w (ix2 d l)

theorem opX_at (R : Fin 1024) (d : Fin 2048) :
    opX m c (ix2 R d) = argX m c (ix3 ⟨R.val / 256, by omega⟩ ⟨R.val % 256, by omega⟩ d) := by
  unfold opX V
  after_reads_at
theorem opW_at (d : Fin 2048) (l : Fin 1024) : opW m c (ix2 d l) = argW m c (ix2 d l) := by
  unfold opW V
  after_reads_at

theorem idx_0 : ∀ t : Fin cfg0.N, win0_0.index t = ![0, 0] := by decide +kernel
theorem idx_1 : ∀ t : Fin cfg0.N, win0_1.index t = ![0, 0] := by decide +kernel
theorem idx_2 : ∀ t : Fin cfg0.N, win0_2.index t = ![0, 0] := by decide +kernel

theorem iblk0_at (t : Fin cfg0.N) (r : Fin 1024) (d : Fin 2048) : iblk m c 0 t (ix2 r d) = opX m c (ix2 r d) := by
  blk_point [iblk, V, idx_0 t]
theorem iblk1_at (t : Fin cfg0.N) (d : Fin 2048) (l : Fin 1024) : iblk m c 1 t (ix2 d l) = opW m c (ix2 d l) := by
  blk_point [iblk, V, idx_1 t]

theorem pay1_at (x : Vec Ideal S1024x2048 .f32) (r : Fin 1024) (d : Fin 2048) : k0_pay1 (F := Ideal) x (ix2 r d) = x (ix2 r d) := by
  pointwise [k0_pay1]
theorem pay2_at (x : Vec Ideal S1024x2048 .bf16) (w : Vec Ideal S2048x1024 .bf16) (r l : Fin 1024) :
    k0_pay2 (F := Ideal) x w (ix2 r l) = ∑ d : Fin 2048, x (ix2 r d) * w (ix2 d l) := by
  pointwise [k0_pay2]

/-- The block of the result the one point leaves. -/
theorem out_at (t : Fin cfg0.N) (r l : Fin 1024) : outsAt0 m c t (ix2 r l) = val (argX m c) (argW m c) r l := by
  unfold outsAt0
  frame_out
  exact (pay2_at _ _ r l).trans (Finset.sum_congr rfl fun d _ =>
    congrArg₂ (· * ·) ((pay1_at _ r d).trans ((iblk0_at m c t r d).trans (opX_at m c r d))) ((iblk1_at m c t d l).trans (opW_at m c d l)))

/-- The result is the array `G` when every element is `G`'s. -/
theorem arr_of (G : Vec Ideal S1024x1024 .bf16)
    (hG : ∀ R l : Fin 1024, G (ix2 R l) = val (argX m c) (argW m c) R l) :
    (dats m 0 c).arrAt 2 cfg0.N = G := by
  refine (dats m 0 c).arrAt_eq_of_covers 2 _ (by decide +kernel) fun t hf y => ?_
  blk_simp
  rw [after0_2]
  change S1024x1024.Idx at y
  obtain ⟨r, l, rfl⟩ : ∃ (r l : Fin 1024), y = ix2 r l := by
    idx_vars y
    exact ⟨_, _, rfl⟩
  refine (out_at m c t r l).trans ((hG r l).symm.trans (congrArg G ?_))
  symm
  blk_point [idx_2 t]

/-- The reference's result, element by element. -/
theorem ref_at (x : Vec Ideal S4x256x2048 .f32) (w : Vec Ideal S2048x1024 .f32) (R l : Fin 1024) :
    Cert.Reference6Ideal.Read.val_main_v2 (F := Ideal) x w (ix2 R l) = val x w R l := by
  pointwise [Cert.Reference6Ideal.Read.val_main_v2, Cert.Reference6Ideal.Read.val_main_v1, Cert.Reference6Ideal.Read.val_main_v0, val]

end Cert.Kernel6Ideal.Hand

end
-- ==== Proof.PrepOut.lean ====
module

public import proofs.«01_k».proof.Proof.Gen.Kernel7Ideal.Value
public import Idealize.ShloMosaic.Lib.Pipeline.ValueKit
public import Idealize.ShloMosaic.Lib.StableHlo.ReadAt
public import Idealize.ShloMosaic.Lib.Pointwise
public import Idealize.ShloMosaic.Lib.Tactic.WordOmega

/-! The latent attention's preparation: what one point's body leaves in its three blocks. -/

@[expose] public section

set_option maxRecDepth 16384

noncomputable section

namespace Cert.Kernel7Ideal.Hand

open Cert.Kernel7Ideal Cert.Kernel7Ideal.Gen
open Idealize.ShloMosaic Idealize.ShloMosaic.TcCoe

variable (m : (ℓ : Loc nD τ sig) → Buf (Elt Ideal) ℓ) (c : Dev nD)

/-- The attention's scale. -/
def sc : EReal := Ideal.ofBits .f32 0x3DD53B95#32
/-- A row's projection to one column of a head. -/
def hp (x : FVec Ideal S512x512 .bf16) (w : Vec Ideal S16x512x256 .bf16) (h : Fin 16) (r : Fin 512) (l : Fin 256) : EReal :=
  ∑ k : Fin 512, x (ix2 r k) * w (ix3 h k l)
/-- The rotary part: the lower half's products and the upper half's, added; zero beyond the half. -/
def rot (u cs : Fin 128 → EReal) (i : Fin 128) : EReal :=
  if hi : i.val < 64 then u i * cs i + u ⟨i.val + 64, by omega⟩ * cs ⟨i.val + 64, by omega⟩ else 0

def QV (x : FVec Ideal S512x512 .bf16) (cs : FVec Ideal S512x128 .f32) (w : Vec Ideal S16x512x256 .bf16) (h : Fin 16) (r : Fin 512) (l : Fin 256) : EReal :=
  if hl : l.val < 128 then hp x w h r l * sc
  else rot (fun i => hp x w h r ⟨128 + i.val, by omega⟩ * sc) (fun i => cs (ix2 r i)) ⟨l.val - 128, by omega⟩
def KV (x : FVec Ideal S512x512 .bf16) (p : FVec Ideal S512x128 .bf16) (w : Vec Ideal S16x512x256 .bf16) (h : Fin 16) (r : Fin 512) (l : Fin 256) : EReal :=
  if hl : l.val < 128 then hp x w h r l else p (ix2 r ⟨l.val - 128, by omega⟩)
def VV (x : FVec Ideal S512x512 .bf16) (w : Vec Ideal S16x512x256 .bf16) (h : Fin 16) (r : Fin 512) (l : Fin 256) : EReal :=
  if hl : l.val < 128 then hp x w h r ⟨128 + l.val, by omega⟩ else 1

theorem ix_of (n : Nat) (h : Fin 16) (r : Fin 512) (j : S1x1x512x128.Idx) (e1 : h.val = n + (j 1).val) (e2 : r.val = (j 2).val) :
    ∃ q : Fin 128, j = ix4 0 0 r q ∧ (j 3).val = q.val ∧ h.val = n := by
  have h1 : (j 1).val < 1 := (j 1).isLt
  refine ⟨⟨(j 3).val, (j 3).isLt⟩, ?_, rfl, by omega⟩
  funext a
  fin_cases a
  · exact Fin.ext (by have h0 : (j 0).val < 1 := (j 0).isLt; show (j 0).val = 0; omega)
  · exact Fin.ext (by show (j 1).val = 0; omega)
  · exact Fin.ext e2.symm
  · rfl

theorem ld_at (w : Vec Ideal S16x512x256 .bf16) (n : Nat) (inb) (h : Fin 16) (k : Fin 512) (l : Fin 256) (e : h.val = n) :
    View.ld w (Rect.unit ![n, 0, 0] ![1, 512, 256] inb) (ix3 0 k l) = w (ix3 h k l) := by
  subst e
  pointwise []

theorem qn_at (x : FVec Ideal S512x512 .bf16) (w : Vec Ideal S1x512x256 .bf16) (r : Fin 512) (l : Fin 128) :
    k0_pay10 (F := Ideal) x w (ix4 0 0 r l) = (∑ k : Fin 512, x (ix2 r k) * w (ix3 0 k ⟨l.val, by omega⟩)) * sc := by
  pointwise [k0_pay10, k0_pay9, sc]
theorem lt64 : ∀ l : Fin 128, IntOp.cmpi CmpIPredicate.slt (BitVec.ofNat 32 l.val) 64#32 = if l.val < 64 then 1#1 else 0#1 := by decide +kernel

theorem qr_at (x : FVec Ideal S512x512 .bf16) (cs : FVec Ideal S512x128 .f32) (w : Vec Ideal S1x512x256 .bf16) (r : Fin 512) (l : Fin 128) :
    k0_pay11 (F := Ideal) x cs (iota Kind.tc S512x128 32 [1] iota_S512x128_d1_w32) w (ix4 0 0 r l)
      = rot (fun i => (∑ k : Fin 512, x (ix2 r k) * w (ix3 0 k ⟨128 + i.val, by omega⟩)) * sc) (fun i => cs (ix2 r i)) l := by
  unfold k0_pay11
  have e : ∀ i : Fin 256, k0_pay9 (F := Ideal) x w (ix2 r i) = (∑ k : Fin 512, x (ix2 r k) * w (ix3 0 k i)) * sc := fun i => by
    pointwise [k0_pay9, sc]
  simp only [← e]
  generalize k0_pay9 (F := Ideal) x w = y
  pointwise [rot]
  rw [lt64 l]
  by_cases hl : l.val < 64
  · have hq : (l.val + 128 - 64) % 128 = l.val + 64 := by omega
    simp only [if_pos hl, dif_pos hl, hq]
    rfl
  · simp only [if_neg hl, dif_neg hl]
    rfl
theorem kp_at (cs : FVec Ideal S512x128 .f32) (w : Vec Ideal S1x512x128 .f32) (r : Fin 512) (l : Fin 128) :
    k0_pay7 (F := Ideal) cs (iota Kind.tc S512x128 32 [1] iota_S512x128_d1_w32) w (ix2 r l)
      = rot (fun i => w (ix3 0 r i)) (fun i => cs (ix2 r i)) l := by
  pointwise [k0_pay7, rot]
  rw [lt64 l]
  by_cases hl : l.val < 64
  · have hq : (l.val + 128 - 64) % 128 = l.val + 64 := by omega
    simp only [if_pos hl, dif_pos hl, hq]
    rfl
  · simp only [if_neg hl, dif_neg hl]
    rfl
theorem kn_at (x : FVec Ideal S512x512 .bf16) (w : Vec Ideal S1x512x256 .bf16) (r : Fin 512) (l : Fin 128) :
    k0_pay13 (F := Ideal) x w (ix4 0 0 r l) = ∑ k : Fin 512, x (ix2 r k) * w (ix3 0 k ⟨l.val, by omega⟩) := by
  pointwise [k0_pay13, k0_pay12]
theorem vn_at (x : FVec Ideal S512x512 .bf16) (w : Vec Ideal S1x512x256 .bf16) (r : Fin 512) (l : Fin 128) :
    k0_pay15 (F := Ideal) x w (ix4 0 0 r l) = ∑ k : Fin 512, x (ix2 r k) * w (ix3 0 k ⟨128 + l.val, by omega⟩) := by
  pointwise [k0_pay15, k0_pay12]
theorem kc_at (p : FVec Ideal S512x128 .bf16) (r : Fin 512) (l : Fin 128) : k0_pay14 (F := Ideal) p (ix4 0 0 r l) = p (ix2 r l) := by
  pointwise [k0_pay14]
theorem one_at (r : Fin 512) (l : Fin 128) : k0_pay16 (F := Ideal) (k0_pay8 (F := Ideal)) (ix4 0 0 r l) = 1 := by
  pointwise [k0_pay16, k0_pay8]

theorem qn_piece (x : FVec Ideal S512x512 .bf16) (cs : FVec Ideal S512x128 .f32) (w : Vec Ideal S16x512x256 .bf16) (n : Nat) (inb) (h : Fin 16) (r : Fin 512) (l : Fin 256)
    (j : S1x1x512x128.Idx) (e1 : h.val = n + (j 1).val) (e2 : r.val = (j 2).val) (e3 : l.val = (j 3).val) :
    k0_pay10 (F := Ideal) x (View.ld w (Rect.unit ![n, 0, 0] ![1, 512, 256] inb)) j = QV x cs w h r l := by
  obtain ⟨q, ej, e3q, eh⟩ := ix_of n h r j e1 e2
  have el : l = ⟨q.val, by omega⟩ := Fin.ext (e3.trans e3q)
  rw [ej, qn_at, QV, dif_pos (by omega), hp, el]
  exact congrArg (· * sc) (Finset.sum_congr rfl fun k _ => congrArg (x (ix2 r k) * ·) (ld_at w n inb h k _ eh))
theorem qr_piece (x : FVec Ideal S512x512 .bf16) (cs : FVec Ideal S512x128 .f32) (w : Vec Ideal S16x512x256 .bf16) (n : Nat) (inb) (h : Fin 16) (r : Fin 512) (l : Fin 256)
    (j : S1x1x512x128.Idx) (e1 : h.val = n + (j 1).val) (e2 : r.val = (j 2).val) (e3 : l.val = 128 + (j 3).val) :
    k0_pay11 (F := Ideal) x cs (iota Kind.tc S512x128 32 [1] iota_S512x128_d1_w32) (View.ld w (Rect.unit ![n, 0, 0] ![1, 512, 256] inb)) j = QV x cs w h r l := by
  obtain ⟨q, ej, e3q, eh⟩ := ix_of n h r j e1 e2
  have el : (⟨l.val - 128, by omega⟩ : Fin 128) = q := Fin.ext (by show l.val - 128 = q.val; omega)
  rw [ej, qr_at, QV, dif_neg (by omega), el]
  exact congrArg (fun f => rot f _ _) (funext fun i => congrArg (· * sc) (Finset.sum_congr rfl fun k _ => congrArg (x (ix2 r k) * ·) (ld_at w n inb h k _ eh)))
theorem kn_piece (x : FVec Ideal S512x512 .bf16) (p : FVec Ideal S512x128 .bf16) (w : Vec Ideal S16x512x256 .bf16) (n : Nat) (inb) (h : Fin 16) (r : Fin 512) (l : Fin 256)
    (j : S1x1x512x128.Idx) (e1 : h.val = n + (j 1).val) (e2 : r.val = (j 2).val) (e3 : l.val = (j 3).val) :
    k0_pay13 (F := Ideal) x (View.ld w (Rect.unit ![n, 0, 0] ![1, 512, 256] inb)) j = KV x p w h r l := by
  obtain ⟨q, ej, e3q, eh⟩ := ix_of n h r j e1 e2
  have el : l = ⟨q.val, by omega⟩ := Fin.ext (e3.trans e3q)
  rw [ej, kn_at, KV, dif_pos (by omega), hp, el]
  exact Finset.sum_congr rfl fun k _ => congrArg (x (ix2 r k) * ·) (ld_at w n inb h k _ eh)
theorem kc_piece (x : FVec Ideal S512x512 .bf16) (p : FVec Ideal S512x128 .bf16) (w : Vec Ideal S16x512x256 .bf16) (n : Nat) (h : Fin 16) (r : Fin 512) (l : Fin 256)
    (j : S1x1x512x128.Idx) (e1 : h.val = n + (j 1).val) (e2 : r.val = (j 2).val) (e3 : l.val = 128 + (j 3).val) :
    k0_pay14 (F := Ideal) p j = KV x p w h r l := by
  obtain ⟨q, ej, e3q, eh⟩ := ix_of n h r j e1 e2
  have el : (⟨l.val - 128, by omega⟩ : Fin 128) = q := Fin.ext (by show l.val - 128 = q.val; omega)
  rw [ej, kc_at, KV, dif_neg (by omega), el]
theorem vn_piece (x : FVec Ideal S512x512 .bf16) (w : Vec Ideal S16x512x256 .bf16) (n : Nat) (inb) (h : Fin 16) (r : Fin 512) (l : Fin 256)
    (j : S1x1x512x128.Idx) (e1 : h.val = n + (j 1).val) (e2 : r.val = (j 2).val) (e3 : l.val = (j 3).val) :
    k0_pay15 (F := Ideal) x (View.ld w (Rect.unit ![n, 0, 0] ![1, 512, 256] inb)) j = VV x w h r l := by
  obtain ⟨q, ej, e3q, eh⟩ := ix_of n h r j e1 e2
  have el : l = ⟨q.val, by omega⟩ := Fin.ext (e3.trans e3q)
  rw [ej, vn_at, VV, dif_pos (by omega), hp]
  exact Finset.sum_congr rfl fun k _ => congrArg (x (ix2 r k) * ·)
    ((ld_at w n inb h k _ eh).trans (congrArg (fun z => w (ix3 h k z)) (Fin.ext (by show 128 + q.val = 128 + l.val; omega))))
theorem one_piece (x : FVec Ideal S512x512 .bf16) (w : Vec Ideal S16x512x256 .bf16) (n : Nat) (h : Fin 16) (r : Fin 512) (l : Fin 256)
    (j : S1x1x512x128.Idx) (e1 : h.val = n + (j 1).val) (e2 : r.val = (j 2).val) (e3 : l.val = 128 + (j 3).val) :
    k0_pay16 (F := Ideal) (k0_pay8 (F := Ideal)) j = VV x w h r l := by
  obtain ⟨q, ej, e3q, eh⟩ := ix_of n h r j e1 e2
  rw [ej, one_at, VV, dif_neg (by omega)]

set_option maxHeartbeats 4000000 in
/-- A block of the first result. -/
theorem out8 (t : Fin cfg0.N) (h : Fin 16) (r : Fin 512) (l : Fin 256) : (outsAt0 m c t).1 (ix4 0 h r l)
    = QV (k0_pay4 (F := Ideal) (X0_0 m c t) (iblk m c 4 t)) (k0_pay6 (F := Ideal) (iblk m c 3 t)) (iblk m c 6 t) h r l := by
  unfold outsAt0 X0_0
  frame_out
  generalize k0_pay4 (F := Ideal) _ _ = cq
  generalize k0_pay6 (F := Ideal) _ = cs
  generalize iblk m c 6 t = w
  canon_tiles x h
  case piece0 => exact qr_piece cq cs w 15 _ h r l x h1 h2 h3
  case piece1 => exact qn_piece cq cs w 15 _ h r l x h1 h2 h3
  case piece2 => exact qr_piece cq cs w 14 _ h r l x h1 h2 h3
  case piece3 => exact qn_piece cq cs w 14 _ h r l x h1 h2 h3
  case piece4 => exact qr_piece cq cs w 13 _ h r l x h1 h2 h3
  case piece5 => exact qn_piece cq cs w 13 _ h r l x h1 h2 h3
  case piece6 => exact qr_piece cq cs w 12 _ h r l x h1 h2 h3
  case piece7 => exact qn_piece cq cs w 12 _ h r l x h1 h2 h3
  case piece8 => exact qr_piece cq cs w 11 _ h r l x h1 h2 h3
  case piece9 => exact qn_piece cq cs w 11 _ h r l x h1 h2 h3
  case piece10 => exact qr_piece cq cs w 10 _ h r l x h1 h2 h3
  case piece11 => exact qn_piece cq cs w 10 _ h r l x h1 h2 h3
  case piece12 => exact qr_piece cq cs w 9 _ h r l x h1 h2 h3
  case piece13 => exact qn_piece cq cs w 9 _ h r l x h1 h2 h3
  case piece14 => exact qr_piece cq cs w 8 _ h r l x h1 h2 h3
  case piece15 => exact qn_piece cq cs w 8 _ h r l x h1 h2 h3
  case piece16 => exact qr_piece cq cs w 7 _ h r l x h1 h2 h3
  case piece17 => exact qn_piece cq cs w 7 _ h r l x h1 h2 h3
  case piece18 => exact qr_piece cq cs w 6 _ h r l x h1 h2 h3
  case piece19 => exact qn_piece cq cs w 6 _ h r l x h1 h2 h3
  case piece20 => exact qr_piece cq cs w 5 _ h r l x h1 h2 h3
  case piece21 => exact qn_piece cq cs w 5 _ h r l x h1 h2 h3
  case piece22 => exact qr_piece cq cs w 4 _ h r l x h1 h2 h3
  case piece23 => exact qn_piece cq cs w 4 _ h r l x h1 h2 h3
  case piece24 => exact qr_piece cq cs w 3 _ h r l x h1 h2 h3
  case piece25 => exact qn_piece cq cs w 3 _ h r l x h1 h2 h3
  case piece26 => exact qr_piece cq cs w 2 _ h r l x h1 h2 h3
  case piece27 => exact qn_piece cq cs w 2 _ h r l x h1 h2 h3
  case piece28 => exact qr_piece cq cs w 1 _ h r l x h1 h2 h3
  case piece29 => exact qn_piece cq cs w 1 _ h r l x h1 h2 h3
  case piece30 => exact qr_piece cq cs w 0 _ h r l x (h1.trans (Nat.zero_add _).symm) h2 h3
  case piece31 => exact qn_piece cq cs w 0 _ h r l x (h1.trans (Nat.zero_add _).symm) h2 h3

set_option maxHeartbeats 4000000 in
/-- A block of the second. -/
theorem out9 (t : Fin cfg0.N) (h : Fin 16) (r : Fin 512) (l : Fin 256) : (outsAt0 m c t).2.1 (ix4 0 h r l)
    = KV (k0_pay5 (F := Ideal) (X0_1 m c t) (iblk m c 5 t))
        (k0_pay7 (F := Ideal) (k0_pay6 (F := Ideal) (iblk m c 3 t)) (iota Kind.tc S512x128 32 [1] iota_S512x128_d1_w32) (iblk m c 2 t)) (iblk m c 7 t) h r l := by
  unfold outsAt0 X0_1
  frame_out
  generalize k0_pay5 (F := Ideal) _ _ = ck
  generalize k0_pay7 (F := Ideal) _ _ _ = p
  generalize iblk m c 7 t = w
  canon_tiles x h
  case piece0 => exact kc_piece ck p w 15 h r l x h1 h2 h3
  case piece1 => exact kn_piece ck p w 15 _ h r l x h1 h2 h3
  case piece2 => exact kc_piece ck p w 14 h r l x h1 h2 h3
  case piece3 => exact kn_piece ck p w 14 _ h r l x h1 h2 h3
  case piece4 => exact kc_piece ck p w 13 h r l x h1 h2 h3
  case piece5 => exact kn_piece ck p w 13 _ h r l x h1 h2 h3
  case piece6 => exact kc_piece ck p w 12 h r l x h1 h2 h3
  case piece7 => exact kn_piece ck p w 12 _ h r l x h1 h2 h3
  case piece8 => exact kc_piece ck p w 11 h r l x h1 h2 h3
  case piece9 => exact kn_piece ck p w 11 _ h r l x h1 h2 h3
  case piece10 => exact kc_piece ck p w 10 h r l x h1 h2 h3
  case piece11 => exact kn_piece ck p w 10 _ h r l x h1 h2 h3
  case piece12 => exact kc_piece ck p w 9 h r l x h1 h2 h3
  case piece13 => exact kn_piece ck p w 9 _ h r l x h1 h2 h3
  case piece14 => exact kc_piece ck p w 8 h r l x h1 h2 h3
  case piece15 => exact kn_piece ck p w 8 _ h r l x h1 h2 h3
  case piece16 => exact kc_piece ck p w 7 h r l x h1 h2 h3
  case piece17 => exact kn_piece ck p w 7 _ h r l x h1 h2 h3
  case piece18 => exact kc_piece ck p w 6 h r l x h1 h2 h3
  case piece19 => exact kn_piece ck p w 6 _ h r l x h1 h2 h3
  case piece20 => exact kc_piece ck p w 5 h r l x h1 h2 h3
  case piece21 => exact kn_piece ck p w 5 _ h r l x h1 h2 h3
  case piece22 => exact kc_piece ck p w 4 h r l x h1 h2 h3
  case piece23 => exact kn_piece ck p w 4 _ h r l x h1 h2 h3
  case piece24 => exact kc_piece ck p w 3 h r l x h1 h2 h3
  case piece25 => exact kn_piece ck p w 3 _ h r l x h1 h2 h3
  case piece26 => exact kc_piece ck p w 2 h r l x h1 h2 h3
  case piece27 => exact kn_piece ck p w 2 _ h r l x h1 h2 h3
  case piece28 => exact kc_piece ck p w 1 h r l x h1 h2 h3
  case piece29 => exact kn_piece ck p w 1 _ h r l x h1 h2 h3
  case piece30 => exact kc_piece ck p w 0 h r l x (h1.trans (Nat.zero_add _).symm) h2 h3
  case piece31 => exact kn_piece ck p w 0 _ h r l x (h1.trans (Nat.zero_add _).symm) h2 h3

set_option maxHeartbeats 4000000 in
/-- A block of the third. -/
theorem out10 (t : Fin cfg0.N) (h : Fin 16) (r : Fin 512) (l : Fin 256) : (outsAt0 m c t).2.2 (ix4 0 h r l)
    = VV (k0_pay5 (F := Ideal) (X0_1 m c t) (iblk m c 5 t)) (iblk m c 7 t) h r l := by
  unfold outsAt0 X0_1
  frame_out
  generalize k0_pay5 (F := Ideal) _ _ = ck
  generalize iblk m c 7 t = w
  canon_tiles x h
  case piece0 => exact one_piece ck w 15 h r l x h1 h2 h3
  case piece1 => exact vn_piece ck w 15 _ h r l x h1 h2 h3
  case piece2 => exact one_piece ck w 14 h r l x h1 h2 h3
  case piece3 => exact vn_piece ck w 14 _ h r l x h1 h2 h3
  case piece4 => exact one_piece ck w 13 h r l x h1 h2 h3
  case piece5 => exact vn_piece ck w 13 _ h r l x h1 h2 h3
  case piece6 => exact one_piece ck w 12 h r l x h1 h2 h3
  case piece7 => exact vn_piece ck w 12 _ h r l x h1 h2 h3
  case piece8 => exact one_piece ck w 11 h r l x h1 h2 h3
  case piece9 => exact vn_piece ck w 11 _ h r l x h1 h2 h3
  case piece10 => exact one_piece ck w 10 h r l x h1 h2 h3
  case piece11 => exact vn_piece ck w 10 _ h r l x h1 h2 h3
  case piece12 => exact one_piece ck w 9 h r l x h1 h2 h3
  case piece13 => exact vn_piece ck w 9 _ h r l x h1 h2 h3
  case piece14 => exact one_piece ck w 8 h r l x h1 h2 h3
  case piece15 => exact vn_piece ck w 8 _ h r l x h1 h2 h3
  case piece16 => exact one_piece ck w 7 h r l x h1 h2 h3
  case piece17 => exact vn_piece ck w 7 _ h r l x h1 h2 h3
  case piece18 => exact one_piece ck w 6 h r l x h1 h2 h3
  case piece19 => exact vn_piece ck w 6 _ h r l x h1 h2 h3
  case piece20 => exact one_piece ck w 5 h r l x h1 h2 h3
  case piece21 => exact vn_piece ck w 5 _ h r l x h1 h2 h3
  case piece22 => exact one_piece ck w 4 h r l x h1 h2 h3
  case piece23 => exact vn_piece ck w 4 _ h r l x h1 h2 h3
  case piece24 => exact one_piece ck w 3 h r l x h1 h2 h3
  case piece25 => exact vn_piece ck w 3 _ h r l x h1 h2 h3
  case piece26 => exact one_piece ck w 2 h r l x h1 h2 h3
  case piece27 => exact vn_piece ck w 2 _ h r l x h1 h2 h3
  case piece28 => exact one_piece ck w 1 h r l x h1 h2 h3
  case piece29 => exact vn_piece ck w 1 _ h r l x h1 h2 h3
  case piece30 => exact one_piece ck w 0 h r l x (h1.trans (Nat.zero_add _).symm) h2 h3
  case piece31 => exact vn_piece ck w 0 _ h r l x (h1.trans (Nat.zero_add _).symm) h2 h3

end Cert.Kernel7Ideal.Hand

end
-- ==== Proof.PrepVal.lean ====
module

public import proofs.«01_k».proof.Proof.PrepOut

/-! The latent attention's preparation: its three results as functions of the arguments. -/

@[expose] public section

set_option maxRecDepth 16384

noncomputable section

namespace Cert.Kernel7Ideal.Hand

open Cert.Kernel7Ideal Cert.Kernel7Ideal.Gen
open Idealize.ShloMosaic Idealize.ShloMosaic.TcCoe

/-- The mean of the squares of a row. -/
def msq (y : Fin 512 → EReal) : EReal := Ideal.div (∑ l : Fin 512, y l * y l) (Ideal.ofBits .f32 0x44000000#32)
/-- The norm of a row at one column, of gain `g`. -/
def rn (y : Fin 512 → EReal) (g : EReal) (l : Fin 512) : EReal :=
  y l * Ideal.rsqrt (msq y + Ideal.ofBits .f32 0x358637BD#32) * g
def rms (x : Vec Ideal S4x4096x512 .f32) (g : Vec Ideal S512 .f32) (b : Fin 4) (s : Fin 4096) (k : Fin 512) : EReal :=
  rn (fun j => x (ix3 b s j)) (g (ix1 k)) k
/-- A column of a head of the queries, and of the keys and values. -/
def qcol (x : Vec Ideal S4x4096x512 .f32) (g : Vec Ideal S512 .f32) (w : Vec Ideal S512x3072 .f32) (b : Fin 4) (h : Fin 16) (s : Fin 4096) (l : Fin 192) : EReal :=
  ∑ k : Fin 512, rms x g b s k * w (ix2 k ⟨192 * h.val + l.val, by omega⟩)
def kcol (x : Vec Ideal S4x4096x512 .f32) (g : Vec Ideal S512 .f32) (w : Vec Ideal S512x4096 .f32) (b : Fin 4) (h : Fin 16) (s : Fin 4096) (l : Fin 256) : EReal :=
  ∑ k : Fin 512, rms x g b s k * w (ix2 k ⟨256 * h.val + l.val, by omega⟩)
/-- The angle of a position at a frequency. -/
def ang (p : IVec S4x4096 32) (b : Fin 4) (s : Fin 4096) (i : Nat) : EReal :=
  FloatOps.sitofp (F := Ideal) FTy.f32 (p (ix2 b s)) * Ideal.pow (Ideal.ofBits FTy.f32 1176256512#32)
    (Ideal.div (-FloatOps.sitofp (F := Ideal) FTy.f32 (BitVec.ofNat 32 i)) (Ideal.ofBits FTy.f32 1107296256#32))
/-- The rotation of a vector by its angles, half against half. -/
def rt (x : Fin 64 → EReal) (a : Nat → EReal) (i : Fin 64) : EReal :=
  if hi : i.val < 32 then x i * Ideal.cos (a i.val) - x ⟨i.val + 32, by omega⟩ * Ideal.sin (a i.val)
  else x ⟨i.val - 32, by omega⟩ * Ideal.sin (a (i.val - 32)) + x i * Ideal.cos (a (i.val - 32))

def Qf (x : Vec Ideal S4x4096x512 .f32) (p : IVec S4x4096 32) (g : Vec Ideal S512 .f32) (w : Vec Ideal S512x3072 .f32) (b : Fin 4) (h : Fin 16) (s : Fin 4096) (l : Fin 256) : EReal :=
  if h0 : l.val < 128 then qcol x g w b h s ⟨l.val, by omega⟩ * sc
  else if h1 : l.val < 192 then rt (fun i => qcol x g w b h s ⟨128 + i.val, by omega⟩) (ang p b s) ⟨l.val - 128, by omega⟩ * sc
  else 0
def Kf (x : Vec Ideal S4x4096x512 .f32) (y : Vec Ideal S4x4096x64 .f32) (p : IVec S4x4096 32) (g : Vec Ideal S512 .f32) (w : Vec Ideal S512x4096 .f32) (b : Fin 4) (h : Fin 16) (s : Fin 4096) (l : Fin 256) : EReal :=
  if h0 : l.val < 128 then kcol x g w b h s l
  else if h1 : l.val < 192 then rt (fun i => y (ix3 b s i)) (ang p b s) ⟨l.val - 128, by omega⟩
  else 0
def Vf (x : Vec Ideal S4x4096x512 .f32) (g : Vec Ideal S512 .f32) (w : Vec Ideal S512x4096 .f32) (b : Fin 4) (h : Fin 16) (s : Fin 4096) (l : Fin 256) : EReal :=
  if h0 : l.val < 128 then kcol x g w b h s ⟨128 + l.val, by omega⟩ else 1

/-- A vector of 64 lanes, and after it the same with its halves exchanged. -/
def dup (x : Fin 64 → EReal) (j : Fin 128) : EReal :=
  if h0 : j.val < 64 then x ⟨j.val, h0⟩ else if h1 : j.val < 96 then x ⟨j.val - 32, by omega⟩ else x ⟨j.val - 96, by omega⟩
/-- The table of cosines and signed sines. -/
def csv (a : Nat → EReal) (j : Fin 128) : EReal :=
  if j.val < 64 then Ideal.cos (a (j.val % 32)) else if j.val < 96 then -Ideal.sin (a (j.val % 32)) else Ideal.sin (a (j.val % 32))

theorem rot_dup (x : Fin 64 → EReal) (a : Nat → EReal) (j : Fin 128) :
    rot (dup x) (csv a) j = if h : j.val < 64 then rt x a ⟨j.val, h⟩ else 0 := by
  unfold rot
  by_cases h0 : j.val < 64
  · rw [dif_pos h0, dif_pos h0]
    unfold dup csv rt
    rw [dif_pos h0, if_pos h0, dif_neg (show ¬ j.val + 64 < 64 by omega), if_neg (show ¬ j.val + 64 < 64 by omega)]
    by_cases h1 : j.val < 32
    · rw [dif_pos (show j.val + 64 < 96 by omega), if_pos (show j.val + 64 < 96 by omega), dif_pos h1]
      have e1 : j.val % 32 = j.val := by omega
      have e2 : (j.val + 64) % 32 = j.val := by omega
      rw [e1, e2, mul_neg, ← sub_eq_add_neg]
      rfl
    · rw [dif_neg (show ¬ j.val + 64 < 96 by omega), if_neg (show ¬ j.val + 64 < 96 by omega), dif_neg h1]
      have e1 : j.val % 32 = j.val - 32 := by omega
      have e2 : (j.val + 64) % 32 = j.val - 32 := by omega
      rw [e1, e2, add_comm]
      congr 1
  · rw [dif_neg h0, dif_neg h0]

theorem sc_nonneg : 0 ≤ sc ∧ sc ≠ ⊤ := by
  have e : sc = (((13974421 : ℝ) / 134217728 : ℝ) : EReal) := by
    unfold sc
    simp [Ideal.ofBits, Ideal.ieee]
    rw [← EReal.coe_mul]
    congr 1
    norm_num
  rw [e]
  exact ⟨EReal.coe_nonneg.mpr (by norm_num), EReal.coe_ne_top _⟩

theorem add_sc (u v : EReal) : (u + v) * sc = u * sc + v * sc :=
  EReal.right_distrib_of_nonneg_of_ne_top sc_nonneg.1 sc_nonneg.2 u v

theorem rt_sc (x : Fin 64 → EReal) (a : Nat → EReal) (i : Fin 64) : rt (fun k => x k * sc) a i = rt x a i * sc := by
  unfold rt
  by_cases h : i.val < 32
  · rw [dif_pos h, dif_pos h, sub_eq_add_neg, sub_eq_add_neg, add_sc, neg_mul, mul_right_comm, mul_right_comm (x _) sc]
  · rw [dif_neg h, dif_neg h, add_sc, mul_right_comm, mul_right_comm (x _) sc]

theorem dup_mul (x : Fin 64 → EReal) (e : EReal) (j : Fin 128) : dup x j * e = dup (fun i => x i * e) j := by
  unfold dup
  split_ifs <;> rfl
theorem dup_sum (x : Fin 512 → Fin 64 → EReal) (y : Fin 512 → EReal) (j : Fin 128) :
    ∑ k : Fin 512, y k * dup (x k) j = dup (fun i => ∑ k : Fin 512, y k * x k i) j := by
  unfold dup
  split_ifs <;> rfl

end Cert.Kernel7Ideal.Hand
-- ==== Proof.PrepOps.lean ====
module

public import proofs.«01_k».proof.Proof.PrepVal

/-! The latent attention's preparation: the launch's operands at an index. -/

@[expose] public section

set_option maxRecDepth 16384

noncomputable section

namespace Cert.Kernel7Ideal.Hand

open Cert.Kernel7Ideal Cert.Kernel7Ideal.Gen
open Idealize.ShloMosaic Idealize.ShloMosaic.TcCoe

variable (m : (ℓ : Loc nD τ sig) → Buf (Elt Ideal) ℓ) (c : Dev nD)

/-- The arguments as arrays. -/
abbrev argCq : Vec Ideal S4x4096x512 .f32 := m ((c : Thread nD τ).loc main_arg0)
abbrev argCkv : Vec Ideal S4x4096x512 .f32 := m ((c : Thread nD τ).loc main_arg1)
abbrev argKr : Vec Ideal S4x4096x64 .f32 := m ((c : Thread nD τ).loc main_arg2)
abbrev argPos : IVec S4x4096 32 := m ((c : Thread nD τ).loc main_arg3)
abbrev argQn : Vec Ideal S512 .f32 := m ((c : Thread nD τ).loc main_arg4)
abbrev argKn : Vec Ideal S512 .f32 := m ((c : Thread nD τ).loc main_arg5)
abbrev argWq : Vec Ideal S512x3072 .f32 := m ((c : Thread nD τ).loc main_arg6)
abbrev argWkv : Vec Ideal S512x4096 .f32 := m ((c : Thread nD τ).loc main_arg7)

abbrev opSmall : Vec Ideal S4x4096x1280 .f32 := V m c main_v3
abbrev opWq : Vec Ideal S16x512x256 .bf16 := V m c main_v11
abbrev opWkv : Vec Ideal S16x512x256 .bf16 := V m c main_v14
abbrev opCs : Vec Ideal S4x4096x128 .f32 := V m c main_v45
abbrev opQn : Vec Ideal S1x512 .f32 := V m c main_v46
abbrev opKn : Vec Ideal S1x512 .f32 := V m c main_v47

theorem opQn_at (k : Fin 512) : opQn m c (ix2 0 k) = argQn m c (ix1 k) := by
  unfold opQn V
  after_reads_at
theorem opKn_at (k : Fin 512) : opKn m c (ix2 0 k) = argKn m c (ix1 k) := by
  unfold opKn V
  after_reads_at
theorem opWkv_at (h : Fin 16) (k : Fin 512) (l : Fin 256) : opWkv m c (ix3 h k l) = argWkv m c (ix2 k ⟨256 * h.val + l.val, by omega⟩) := by
  unfold opWkv V
  after_reads_at
  exact congrArg (fun q => argWkv m c (ix2 k q)) (Fin.ext (by show h.val * 256 + l.val = 256 * h.val + l.val; omega))

set_option maxHeartbeats 2000000 in
theorem opSmall0_at (b : Fin 4) (s : Fin 4096) (l : Fin 512) : opSmall m c (ix3 b s ⟨l.val, by omega⟩) = argCq m c (ix3 b s l) := by
  unfold opSmall V
  after_reads_at
set_option maxHeartbeats 2000000 in
theorem opSmall1_at (b : Fin 4) (s : Fin 4096) (l : Fin 512) : opSmall m c (ix3 b s ⟨512 + l.val, by omega⟩) = argCkv m c (ix3 b s l) := by
  unfold opSmall V
  after_reads_at
set_option maxHeartbeats 4000000 in
theorem opSmall2_at (b : Fin 4) (s : Fin 4096) (j : Fin 128) :
    opSmall m c (ix3 b s ⟨1024 + j.val, by omega⟩) = dup (fun i => argKr m c (ix3 b s i)) j := by
  unfold opSmall V dup
  after_reads_at
  rw [dif_neg (show ¬_ by omega), dif_neg (show ¬_ by omega)]
  by_cases h0 : j.val < 64
  · rw [dif_pos (show _ by omega), dif_pos h0]
    exact congrArg (fun q => argKr m c (ix3 b s q)) (Fin.ext (show 1024 + j.val - 512 - 512 = j.val by omega))
  by_cases h1 : j.val < 96
  · rw [dif_neg (show ¬_ by omega), dif_pos (show _ by omega), dif_neg h0, dif_pos h1]
    after_reads_at
    exact congrArg (fun q => argKr m c (ix3 b s q)) (Fin.ext (show 32 + (1024 + j.val - 512 - 512 - 64) = j.val - 32 by omega))
  · rw [dif_neg (show ¬_ by omega), dif_neg (show ¬_ by omega), dif_pos (show _ by omega), dif_neg h0, dif_neg h1]
    after_reads_at
    exact congrArg (fun q => argKr m c (ix3 b s q)) (Fin.ext (show (1024 + j.val - 512 - 512 - 64 - 32) = j.val - 96 by omega))

set_option maxHeartbeats 2000000 in
theorem opWq0_at (h : Fin 16) (k : Fin 512) (l : Fin 256) (hl : l.val < 192) :
    opWq m c (ix3 h k l) = argWq m c (ix2 k ⟨192 * h.val + l.val, by omega⟩) := by
  unfold opWq V
  after_reads_at
  rw [dif_pos (show _ by omega), StableHlo.upto]
  after_reads_at
  exact congrArg (fun q => argWq m c (ix2 k q)) (Fin.ext (by show h.val * 192 + l.val = 192 * h.val + l.val; omega))

set_option maxHeartbeats 4000000 in
theorem opWq1a_at (h : Fin 16) (k : Fin 512) (j : Fin 128) (h0 : j.val < 64) :
    opWq m c (ix3 h k ⟨128 + j.val, by omega⟩) = dup (fun i => argWq m c (ix2 k ⟨192 * h.val + (128 + i.val), by omega⟩)) j := by
  have e := opWq0_at m c h k ⟨128 + j.val, by omega⟩ (by show 128 + j.val < 192; omega)
  rw [e, dup, dif_pos h0]

theorem opWq1b_at (h : Fin 16) (k : Fin 512) (i : Fin 32) :
    opWq m c (ix3 h k ⟨192 + i.val, by omega⟩) = argWq m c (ix2 k ⟨192 * h.val + (160 + i.val), by omega⟩) := by
  unfold opWq V
  after_reads_at
  rw [StableHlo.upto]
  after_reads_at
  exact congrArg (fun q => argWq m c (ix2 k q)) (Fin.ext (by show h.val * 192 + (128 + (32 + i.val)) = 192 * h.val + (160 + i.val); omega))
theorem opWq1c_at (h : Fin 16) (k : Fin 512) (i : Fin 32) :
    opWq m c (ix3 h k ⟨224 + i.val, by omega⟩) = argWq m c (ix2 k ⟨192 * h.val + (128 + i.val), by omega⟩) := by
  unfold opWq V
  after_reads_at
  rw [StableHlo.upto]
  after_reads_at
  refine (dif_neg (by omega)).trans ((dif_neg (by omega)).trans ?_)
  exact congrArg (fun q => argWq m c (ix2 k q)) (Fin.ext (by show h.val * 192 + (128 + (224 + i.val - 192 - 32)) = 192 * h.val + (128 + i.val); omega))
theorem opWq1_at (h : Fin 16) (k : Fin 512) (j : Fin 128) :
    opWq m c (ix3 h k ⟨128 + j.val, by omega⟩) = dup (fun i => argWq m c (ix2 k ⟨192 * h.val + (128 + i.val), by omega⟩)) j := by
  by_cases h0 : j.val < 64
  · exact opWq1a_at m c h k j h0
  unfold dup
  refine Eq.trans ?_ (dif_neg h0).symm
  by_cases h1 : j.val < 96
  · refine Eq.trans ?_ (dif_pos h1).symm
    refine (congrArg (fun q => opWq m c (ix3 h k q)) (Fin.ext (by show 128 + j.val = 192 + (j.val - 64); omega))).trans
      ((opWq1b_at m c h k ⟨j.val - 64, by omega⟩).trans (congrArg (fun q => argWq m c (ix2 k q)) (Fin.ext ?_)))
    show 192 * h.val + (160 + (j.val - 64)) = 192 * h.val + (128 + (j.val - 32))
    omega
  · refine Eq.trans ?_ (dif_neg h1).symm
    refine (congrArg (fun q => opWq m c (ix3 h k q)) (Fin.ext (by show 128 + j.val = 224 + (j.val - 96); omega))).trans
      (opWq1c_at m c h k ⟨j.val - 96, by omega⟩)

theorem neg_one : Ideal.ofBits FTy.f32 3212836864#32 = -1 := by
  simp [Ideal.ofBits, Ideal.ieee]
  rw [← EReal.coe_mul, ← EReal.coe_one]
  congr 1
  norm_num
theorem sgn : ∀ l : Fin 128, IntOp.andi (IntOp.cmpi CmpIPredicate.sge (BitVec.ofNat 32 l.val) 64#32) (IntOp.cmpi CmpIPredicate.slt (BitVec.ofNat 32 l.val) 96#32)
    = if 64 ≤ l.val ∧ l.val < 96 then 1#1 else 0#1 := by decide +kernel

set_option maxHeartbeats 2000000 in
theorem opCs_at (b : Fin 4) (s : Fin 4096) (l : Fin 128) : opCs m c (ix3 b s l) = csv (ang (argPos m c) b s) l := by
  unfold opCs V csv ang
  after_reads_at
  rw [lt64 l]
  simp only [id]
  pointwise []
  rw [sgn l, neg_one]
  by_cases h0 : l.val < 64
  · rw [if_pos h0, if_pos h0]
    rfl
  by_cases h1 : l.val < 96
  · rw [if_neg h0, if_neg h0, if_pos ⟨by omega, h1⟩, if_pos h1]
    exact (mul_neg _ _).trans (congrArg Neg.neg (mul_one _))
  · rw [if_neg h0, if_neg h0, if_neg (by omega), if_neg h1]
    exact mul_one _

end Cert.Kernel7Ideal.Hand
-- ==== Proof.PrepRun.lean ====
module

public import proofs.«01_k».proof.Proof.PrepOps

/-! The latent attention's preparation: the launch's three arrays. -/

@[expose] public section

set_option maxRecDepth 16384

noncomputable section

namespace Cert.Kernel7Ideal.Hand

open Cert.Kernel7Ideal Cert.Kernel7Ideal.Gen
open Idealize.ShloMosaic Idealize.ShloMosaic.TcCoe

variable (m : (ℓ : Loc nD τ sig) → Buf (Elt Ideal) ℓ) (c : Dev nD)

theorem pay4_at (x : Vec Ideal S1x512x512 .f32) (g : Vec Ideal S1x512 .f32) (r k : Fin 512) :
    k0_pay4 (F := Ideal) x g (ix2 r k) = rn (fun j => x (ix3 0 r j)) (g (ix2 0 k)) k := by
  pointwise [k0_pay4, rn, msq]
theorem pay5_at (x : Vec Ideal S1x512x512 .f32) (g : Vec Ideal S1x512 .f32) (r k : Fin 512) :
    k0_pay5 (F := Ideal) x g (ix2 r k) = rn (fun j => x (ix3 0 r j)) (g (ix2 0 k)) k := by
  pointwise [k0_pay5, rn, msq]
theorem pay6_at (x : Vec Ideal S1x512x128 .f32) (r : Fin 512) (l : Fin 128) : k0_pay6 (F := Ideal) x (ix2 r l) = x (ix3 0 r l) := by
  pointwise [k0_pay6]

theorem idx_0 : ∀ t : Fin cfg0.N, win0_0.index t = ![t.val / 8, t.val % 8, 0] := by decide +kernel
theorem idx_1 : ∀ t : Fin cfg0.N, win0_1.index t = ![t.val / 8, t.val % 8, 1] := by decide +kernel
theorem idx_2 : ∀ t : Fin cfg0.N, win0_2.index t = ![t.val / 8, t.val % 8, 8] := by decide +kernel
theorem idx_3 : ∀ t : Fin cfg0.N, win0_3.index t = ![t.val / 8, t.val % 8, 0] := by decide +kernel
theorem idx_4 : ∀ t : Fin cfg0.N, win0_4.index t = ![0, 0] := by decide +kernel
theorem idx_5 : ∀ t : Fin cfg0.N, win0_5.index t = ![0, 0] := by decide +kernel
theorem idx_6 : ∀ t : Fin cfg0.N, win0_6.index t = ![0, 0, 0] := by decide +kernel
theorem idx_7 : ∀ t : Fin cfg0.N, win0_7.index t = ![0, 0, 0] := by decide +kernel
theorem idx_8 : ∀ t : Fin cfg0.N, win0_8.index t = ![t.val / 8, 0, t.val % 8, 0] := by decide +kernel
theorem idx_9 : ∀ t : Fin cfg0.N, win0_9.index t = ![t.val / 8, 0, t.val % 8, 0] := by decide +kernel
theorem idx_10 : ∀ t : Fin cfg0.N, win0_10.index t = ![t.val / 8, 0, t.val % 8, 0] := by decide +kernel

/-- The batch and the rows of a point. -/
def bOf (t : Fin cfg0.N) : Fin 4 := ⟨t.val / 8, by have h : t.val < 32 := t.isLt; omega⟩
def sOf (t : Fin cfg0.N) (r : Fin 512) : Fin 4096 := ⟨512 * (t.val % 8) + r.val, by omega⟩

theorem x0_at (t : Fin cfg0.N) (r d : Fin 512) : X0_0 m c t (ix3 0 r d) = opSmall m c (ix3 (bOf t) (sOf t r) ⟨d.val, by omega⟩) := by
  unfold X0_0 Pipeline.Window.fill
  rw [dif_pos (moved0_0 t _)]
  blk_point [iblk, V, idx_0 t, bOf, sOf]
theorem x1_at (t : Fin cfg0.N) (r d : Fin 512) : X0_1 m c t (ix3 0 r d) = opSmall m c (ix3 (bOf t) (sOf t r) ⟨512 + d.val, by omega⟩) := by
  unfold X0_1 Pipeline.Window.fill
  rw [dif_pos (moved0_1 t _)]
  blk_point [iblk, V, idx_1 t, bOf, sOf]
theorem iblk2_at (t : Fin cfg0.N) (r : Fin 512) (d : Fin 128) : iblk m c 2 t (ix3 0 r d) = opSmall m c (ix3 (bOf t) (sOf t r) ⟨1024 + d.val, by omega⟩) := by
  blk_point [iblk, V, idx_2 t, bOf, sOf]
theorem iblk3_at (t : Fin cfg0.N) (r : Fin 512) (d : Fin 128) : iblk m c 3 t (ix3 0 r d) = opCs m c (ix3 (bOf t) (sOf t r) d) := by
  blk_point [iblk, V, idx_3 t, bOf, sOf]
theorem iblk4_at (t : Fin cfg0.N) (k : Fin 512) : iblk m c 4 t (ix2 0 k) = opQn m c (ix2 0 k) := by
  blk_point [iblk, V, idx_4 t]
theorem iblk5_at (t : Fin cfg0.N) (k : Fin 512) : iblk m c 5 t (ix2 0 k) = opKn m c (ix2 0 k) := by
  blk_point [iblk, V, idx_5 t]
theorem iblk6_at (t : Fin cfg0.N) (h : Fin 16) (k : Fin 512) (l : Fin 256) : iblk m c 6 t (ix3 h k l) = opWq m c (ix3 h k l) := by
  blk_point [iblk, V, idx_6 t]
theorem iblk7_at (t : Fin cfg0.N) (h : Fin 16) (k : Fin 512) (l : Fin 256) : iblk m c 7 t (ix3 h k l) = opWkv m c (ix3 h k l) := by
  blk_point [iblk, V, idx_7 t]

/-- The normed latents, the angles' table and the two projections of a point. -/
abbrev cqn (t : Fin cfg0.N) : FVec Ideal S512x512 .bf16 := k0_pay4 (F := Ideal) (X0_0 m c t) (iblk m c 4 t)
abbrev ckn (t : Fin cfg0.N) : FVec Ideal S512x512 .bf16 := k0_pay5 (F := Ideal) (X0_1 m c t) (iblk m c 5 t)
abbrev csb (t : Fin cfg0.N) : FVec Ideal S512x128 .f32 := k0_pay6 (F := Ideal) (iblk m c 3 t)

theorem cqn_at (t : Fin cfg0.N) (r k : Fin 512) : cqn m c t (ix2 r k) = rms (argCq m c) (argQn m c) (bOf t) (sOf t r) k := by
  refine (pay4_at _ _ r k).trans (congrArg₂ (fun y g => rn y g k) (funext fun j => ?_) ?_)
  · exact (x0_at m c t r j).trans (opSmall0_at m c _ _ j)
  · exact (iblk4_at m c t k).trans (opQn_at m c k)
theorem ckn_at (t : Fin cfg0.N) (r k : Fin 512) : ckn m c t (ix2 r k) = rms (argCkv m c) (argKn m c) (bOf t) (sOf t r) k := by
  refine (pay5_at _ _ r k).trans (congrArg₂ (fun y g => rn y g k) (funext fun j => ?_) ?_)
  · exact (x1_at m c t r j).trans (opSmall1_at m c _ _ j)
  · exact (iblk5_at m c t k).trans (opKn_at m c k)
theorem csb_at (t : Fin cfg0.N) (r : Fin 512) : (fun i : Fin 128 => csb m c t (ix2 r i)) = csv (ang (argPos m c) (bOf t) (sOf t r)) :=
  funext fun i => (pay6_at _ r i).trans ((iblk3_at m c t r i).trans (opCs_at m c _ _ i))

theorem hq0_at (t : Fin cfg0.N) (h : Fin 16) (r : Fin 512) (l : Fin 192) :
    hp (cqn m c t) (iblk m c 6 t) h r ⟨l.val, by omega⟩ = qcol (argCq m c) (argQn m c) (argWq m c) (bOf t) h (sOf t r) l :=
  Finset.sum_congr rfl fun k _ => congrArg₂ (· * ·) (cqn_at m c t r k) ((iblk6_at m c t h k _).trans (opWq0_at m c h k ⟨l.val, by omega⟩ l.isLt))
theorem hq1_at (t : Fin cfg0.N) (h : Fin 16) (r : Fin 512) (j : Fin 128) :
    hp (cqn m c t) (iblk m c 6 t) h r ⟨128 + j.val, by omega⟩
      = dup (fun i => qcol (argCq m c) (argQn m c) (argWq m c) (bOf t) h (sOf t r) ⟨128 + i.val, by omega⟩) j :=
  (Finset.sum_congr rfl fun k _ => congrArg₂ (· * ·) (cqn_at m c t r k) ((iblk6_at m c t h k _).trans (opWq1_at m c h k j))).trans (dup_sum _ _ j)
theorem hk_at (t : Fin cfg0.N) (h : Fin 16) (r : Fin 512) (l : Fin 256) :
    hp (ckn m c t) (iblk m c 7 t) h r l = kcol (argCkv m c) (argKn m c) (argWkv m c) (bOf t) h (sOf t r) l :=
  Finset.sum_congr rfl fun k _ => congrArg₂ (· * ·) (ckn_at m c t r k) ((iblk7_at m c t h k _).trans (opWkv_at m c h k l))

/-- A block of the first result, from the arguments. -/
theorem qout (t : Fin cfg0.N) (h : Fin 16) (r : Fin 512) (l : Fin 256) : (outsAt0 m c t).1 (ix4 0 h r l)
    = Qf (argCq m c) (argPos m c) (argQn m c) (argWq m c) (bOf t) h (sOf t r) l := by
  refine (out8 m c t h r l).trans ?_
  unfold QV Qf
  by_cases h0 : l.val < 128
  · rw [dif_pos h0, dif_pos h0]
    exact congrArg (· * sc) (hq0_at m c t h r ⟨l.val, by omega⟩)
  · rw [dif_neg h0, dif_neg h0]
    have e1 : (fun i : Fin 128 => hp (cqn m c t) (iblk m c 6 t) h r ⟨128 + i.val, by omega⟩ * sc)
        = dup (fun i => qcol (argCq m c) (argQn m c) (argWq m c) (bOf t) h (sOf t r) ⟨128 + i.val, by omega⟩ * sc) :=
      funext fun j => (congrArg (· * sc) (hq1_at m c t h r j)).trans (dup_mul _ _ j)
    refine (congrArg₂ (fun u v => rot u v ⟨l.val - 128, by omega⟩) e1 (csb_at m c t r)).trans ?_
    refine (rot_dup _ _ _).trans ?_
    by_cases h1 : l.val < 192
    · rw [dif_pos (show l.val - 128 < 64 by omega), dif_pos h1]
      exact rt_sc _ _ _
    · rw [dif_neg (show ¬ l.val - 128 < 64 by omega), dif_neg h1]
/-- A block of the second. -/
theorem kout (t : Fin cfg0.N) (h : Fin 16) (r : Fin 512) (l : Fin 256) : (outsAt0 m c t).2.1 (ix4 0 h r l)
    = Kf (argCkv m c) (argKr m c) (argPos m c) (argKn m c) (argWkv m c) (bOf t) h (sOf t r) l := by
  refine (out9 m c t h r l).trans ?_
  unfold KV Kf
  by_cases h0 : l.val < 128
  · rw [dif_pos h0, dif_pos h0]
    exact hk_at m c t h r l
  · rw [dif_neg h0, dif_neg h0]
    have e1 : (fun i : Fin 128 => iblk m c 2 t (ix3 0 r i)) = dup (fun i => argKr m c (ix3 (bOf t) (sOf t r) i)) :=
      funext fun j => (iblk2_at m c t r j).trans (opSmall2_at m c _ _ j)
    refine (kp_at _ _ r _).trans ?_
    refine (congrArg₂ (fun u v => rot u v ⟨l.val - 128, by omega⟩) e1 (csb_at m c t r)).trans ?_
    refine (rot_dup _ _ _).trans ?_
    by_cases h1 : l.val < 192
    · rw [dif_pos (show l.val - 128 < 64 by omega), dif_pos h1]
    · rw [dif_neg (show ¬ l.val - 128 < 64 by omega), dif_neg h1]
/-- A block of the third. -/
theorem vout (t : Fin cfg0.N) (h : Fin 16) (r : Fin 512) (l : Fin 256) : (outsAt0 m c t).2.2 (ix4 0 h r l)
    = Vf (argCkv m c) (argKn m c) (argWkv m c) (bOf t) h (sOf t r) l := by
  refine (out10 m c t h r l).trans ?_
  unfold VV Vf
  by_cases h0 : l.val < 128
  · rw [dif_pos h0, dif_pos h0]
    exact hk_at m c t h r _
  · rw [dif_neg h0, dif_neg h0]

/-- The three arrays after the run. -/
theorem arr_of8 (G : Vec Ideal S4x16x4096x256 .bf16)
    (hG : ∀ b h s l, G (ix4 b h s l) = Qf (argCq m c) (argPos m c) (argQn m c) (argWq m c) b h s l) : (dats m 0 c).arrAt 8 cfg0.N = G := by
  refine (dats m 0 c).arrAt_eq_of_covers 8 _ (by decide +kernel) fun t hf y => ?_
  blk_simp
  rw [after0_8]
  change S1x16x512x256.Idx at y
  obtain ⟨h, r, l, rfl⟩ : ∃ (h : Fin 16) (r : Fin 512) (l : Fin 256), y = ix4 0 h r l := by
    idx_vars y
    obtain rfl : y0 = 0 := Fin.ext (by omega)
    exact ⟨_, _, _, rfl⟩
  refine (qout m c t h r l).trans ((hG (bOf t) h (sOf t r) l).symm.trans (congrArg G ?_))
  symm
  blk_point [idx_8 t, bOf, sOf]
theorem arr_of9 (G : Vec Ideal S4x16x4096x256 .bf16)
    (hG : ∀ b h s l, G (ix4 b h s l) = Kf (argCkv m c) (argKr m c) (argPos m c) (argKn m c) (argWkv m c) b h s l) : (dats m 0 c).arrAt 9 cfg0.N = G := by
  refine (dats m 0 c).arrAt_eq_of_covers 9 _ (by decide +kernel) fun t hf y => ?_
  blk_simp
  rw [after0_9]
  change S1x16x512x256.Idx at y
  obtain ⟨h, r, l, rfl⟩ : ∃ (h : Fin 16) (r : Fin 512) (l : Fin 256), y = ix4 0 h r l := by
    idx_vars y
    obtain rfl : y0 = 0 := Fin.ext (by omega)
    exact ⟨_, _, _, rfl⟩
  refine (kout m c t h r l).trans ((hG (bOf t) h (sOf t r) l).symm.trans (congrArg G ?_))
  symm
  blk_point [idx_9 t, bOf, sOf]
theorem arr_of10 (G : Vec Ideal S4x16x4096x256 .bf16)
    (hG : ∀ b h s l, G (ix4 b h s l) = Vf (argCkv m c) (argKn m c) (argWkv m c) b h s l) : (dats m 0 c).arrAt 10 cfg0.N = G := by
  refine (dats m 0 c).arrAt_eq_of_covers 10 _ (by decide +kernel) fun t hf y => ?_
  blk_simp
  rw [after0_10]
  change S1x16x512x256.Idx at y
  obtain ⟨h, r, l, rfl⟩ : ∃ (h : Fin 16) (r : Fin 512) (l : Fin 256), y = ix4 0 h r l := by
    idx_vars y
    obtain rfl : y0 = 0 := Fin.ext (by omega)
    exact ⟨_, _, _, rfl⟩
  refine (vout m c t h r l).trans ((hG (bOf t) h (sOf t r) l).symm.trans (congrArg G ?_))
  symm
  blk_point [idx_10 t, bOf, sOf]

end Cert.Kernel7Ideal.Hand
-- ==== Proof.PrepRef.lean ====
module

public import proofs.«01_k».proof.Proof.PrepVal
public import proofs.«01_k».proof.Proof.Gen.Reference7Ideal.Read

/-! The latent attention's preparation: the reference's three results, element by element. -/

@[expose] public section

set_option maxRecDepth 16384

noncomputable section

namespace Cert.Kernel7Ideal.Hand

open Cert.Kernel7Ideal Cert.Kernel7Ideal.Gen
open Idealize.ShloMosaic Idealize.ShloMosaic.TcCoe
open Cert.Reference7Ideal.Read

variable (x : Vec Ideal S4x4096x512 .f32) (y : Vec Ideal S4x4096x64 .f32) (p : IVec S4x4096 32) (g : Vec Ideal S512 .f32)
  (wq : Vec Ideal S512x3072 .f32) (wk : Vec Ideal S512x4096 .f32)

theorem v4_at (b : Fin 4) (s : Fin 4096) : val_main_v4 (F := Ideal) x (ix3 b s 0) = msq fun l => x (ix3 b s l) := by
  pointwise [val_main_v4, val_main_v3, val_main_v2, val_main_v1, val_main_v0, val_main_cst, val_main_cst_0, msq]
theorem v12_at (b : Fin 4) (s : Fin 4096) (k : Fin 512) : val_main_v12 (F := Ideal) x g (ix3 b s k) = rms x g b s k := by
  unfold rms rn
  rw [← v4_at]
  unfold val_main_v12 val_main_v9 val_main_v8 val_main_v7 val_main_v6
  generalize val_main_v4 (F := Ideal) x = z
  pointwise [val_main_v5, val_main_cst_1, val_main_v11, val_main_v10]
theorem v27_at (b : Fin 4) (s : Fin 4096) (k : Fin 512) : val_main_v27 (F := Ideal) x g (ix3 b s k) = rms x g b s k :=
  (show val_main_v27 (F := Ideal) x g (ix3 b s k) = val_main_v12 (F := Ideal) x g (ix3 b s k) from rfl).trans (v12_at x g b s k)
theorem v14_at (b : Fin 4) (s : Fin 4096) (h : Fin 16) (l : Fin 192) : val_main_v14 (F := Ideal) x g wq (ix4 b s h l) = qcol x g wq b h s l := by
  unfold qcol
  simp only [← v12_at]
  unfold val_main_v14 val_main_v13
  generalize val_main_v12 (F := Ideal) x g = z
  pointwise []
  exact Finset.sum_congr rfl fun k _ => congrArg (fun q => z (ix3 b s k) * wq (ix2 k q)) (Fin.ext (by show h.val * 192 + l.val = 192 * h.val + l.val; omega))
theorem v29_at (b : Fin 4) (s : Fin 4096) (h : Fin 16) (l : Fin 256) : val_main_v29 (F := Ideal) x g wk (ix4 b s h l) = kcol x g wk b h s l := by
  unfold kcol
  simp only [← v27_at]
  unfold val_main_v29 val_main_v28
  generalize val_main_v27 (F := Ideal) x g = z
  pointwise []
  exact Finset.sum_congr rfl fun k _ => congrArg (fun q => z (ix3 b s k) * wk (ix2 k q)) (Fin.ext (by show h.val * 256 + l.val = 256 * h.val + l.val; omega))
theorem v43_at (b : Fin 4) (s : Fin 4096) (i : Fin 32) : val_main_v43 (F := Ideal) p (ix3 b s i) = ang p b s i.val := by
  pointwise [val_main_v43, val_main_v42, val_main_v41, val_main_v40, val_main_v39, val_main_v38, val_main_v37, val_main_v36, val_main_v35, val_main_v34,
    val_main_v33, val_main_v32, val_main_cst_5, val_main_cst_6, ang]
theorem v75_at (b : Fin 4) (s : Fin 4096) (i : Fin 32) : val_main_v75 (F := Ideal) p (ix3 b s i) = ang p b s i.val :=
  (show val_main_v75 (F := Ideal) p (ix3 b s i) = val_main_v43 (F := Ideal) p (ix3 b s i) from rfl).trans (v43_at p b s i)

/-- The rotated part of the queries. -/
theorem v60_at (b : Fin 4) (s : Fin 4096) (h : Fin 16) (i : Fin 64) :
    val_main_v60 (F := Ideal) x p g wq (ix4 b s h i) = rt (fun i => qcol x g wq b h s ⟨128 + i.val, by omega⟩) (ang p b s) i := by
  simp only [← v14_at]
  unfold val_main_v60 val_main_v54 val_main_v59 val_main_v51 val_main_v53 val_main_v56 val_main_v58 val_main_v48 val_main_v49 val_main_v31
    val_main_v50 val_main_v52 val_main_v55 val_main_v57 val_main_v45 val_main_v47 val_main_v44 val_main_v46
  generalize val_main_v14 (F := Ideal) x g wq = z
  have e := v43_at p b s
  generalize val_main_v43 (F := Ideal) p = a at e ⊢
  pointwise [rt]
  by_cases hi : i.val < 32
  · rw [dif_pos (show _ by omega), dif_pos hi, ← e ⟨i.val, hi⟩]
    have q : 32 + i.val = i.val + 32 := by omega
    simp only [q]
  · rw [dif_neg (show ¬_ by omega), dif_neg hi, ← e ⟨i.val - 32, by omega⟩]
    have q : 32 + (i.val - 32) = i.val := by omega
    simp only [q]
/-- The rotated key. -/
theorem v88_at (b : Fin 4) (s : Fin 4096) (i : Fin 64) :
    val_main_v88 (F := Ideal) y p (ix4 b s 0 i) = rt (fun i => y (ix3 b s i)) (ang p b s) i := by
  unfold val_main_v88 val_main_v84 val_main_v87 val_main_v82 val_main_v83 val_main_v85 val_main_v86 val_main_v80 val_main_v81 val_main_v63
    val_main_v77 val_main_v79 val_main_v76 val_main_v78
  have e := v75_at p b s
  generalize val_main_v75 (F := Ideal) p = a at e ⊢
  pointwise [rt]
  by_cases hi : i.val < 32
  · rw [dif_pos (show _ by omega), dif_pos hi, ← e ⟨i.val, hi⟩]
    have q : 32 + i.val = i.val + 32 := by omega
    simp only [q]
  · rw [dif_neg (show ¬_ by omega), dif_neg hi, ← e ⟨i.val - 32, by omega⟩]
    have q : 32 + (i.val - 32) = i.val := by omega
    simp only [q]

theorem ref100_at (b : Fin 4) (h : Fin 16) (s : Fin 4096) (l : Fin 256) :
    val_main_v100 (F := Ideal) x p g wq (ix4 b h s l) = Qf x p g wq b h s l := by
  unfold Qf
  simp only [← v60_at]
  simp only [← v14_at]
  unfold val_main_v100 val_main_v99 val_main_v94 val_main_v92 val_main_v90 val_main_v30
  generalize val_main_v60 (F := Ideal) x p g wq = u
  generalize val_main_v14 (F := Ideal) x g wq = z
  pointwise [val_main_v91, val_main_cst_9, val_main_v97, val_main_cst_10, sc]
  by_cases h0 : l.val < 128
  · rw [dif_pos (show l.val < 192 by omega), dif_pos h0, dif_pos h0]
  by_cases h1 : l.val < 192
  · rw [dif_pos h1, dif_neg h0, dif_neg h0, dif_pos h1]
  · rw [dif_neg h1, dif_neg h0, dif_neg h1]
theorem ref102_at (b : Fin 4) (h : Fin 16) (s : Fin 4096) (l : Fin 256) :
    val_main_v102 (F := Ideal) x y p g wk (ix4 b h s l) = Kf x y p g wk b h s l := by
  unfold Kf
  simp only [← v29_at, ← v88_at]
  unfold val_main_v102 val_main_v101 val_main_v95 val_main_v93 val_main_v89 val_main_v61
  generalize val_main_v88 (F := Ideal) y p = u
  generalize val_main_v29 (F := Ideal) x g wk = z
  pointwise [val_main_v97, val_main_cst_10]
  by_cases h0 : l.val < 128
  · rw [dif_pos (show l.val < 192 by omega), dif_pos h0, dif_pos h0]
  by_cases h1 : l.val < 192
  · rw [dif_pos h1, dif_neg h0, dif_neg h0, dif_pos h1]
  · rw [dif_neg h1, dif_neg h0, dif_neg h1]
theorem ref104_at (b : Fin 4) (h : Fin 16) (s : Fin 4096) (l : Fin 256) :
    val_main_v104 (F := Ideal) x g wk (ix4 b h s l) = Vf x g wk b h s l := by
  unfold Vf
  simp only [← v29_at]
  unfold val_main_v104 val_main_v103 val_main_v96 val_main_v62
  generalize val_main_v29 (F := Ideal) x g wk = z
  pointwise [val_main_v98, val_main_cst_11]

end Cert.Kernel7Ideal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Run
public import proofs.«01_k».proof.Proof.Value
public import proofs.«01_k».proof.Proof.Same
public import proofs.«01_k».proof.Proof.InProj
public import proofs.«01_k».proof.Proof.Merge
public import proofs.«01_k».proof.Proof.ProjLn
public import proofs.«01_k».proof.Proof.InSmall
public import proofs.«01_k».proof.Proof.MemKv
public import proofs.«01_k».proof.Proof.PrepRun
public import proofs.«01_k».proof.Proof.PrepRef
public import Idealize.ShloMosaic.Adequacy
public import Idealize.ShloMosaic.Init

@[expose] public section

noncomputable section

namespace Cert.Proof

open Idealize.ShloMosaic Idealize.SL.Sem Cert.Kernel

/-- The kernel's runs, at its own float words: the run is proved over any float values, for the same text. -/
theorem frame_kernel : Cert.quiescent_Kernel := by
  intro m ρ _
  rw [Cert.Kernel.Hand.defs_eq, Cert.Kernel.Hand.main_eq]
  exact Cert.KernelIdeal.Hand.quiescent (F := Bits) m ρ

theorem frame_ideal : Cert.quiescent_KernelIdeal := fun m ρ _ => Cert.KernelIdeal.Hand.quiescent (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal_pre_finite := by
  intro m g m' g' hpre hm
  refine ⟨fun c => Cert.ReferenceIdeal.Read.val_main_v27 (F := Ideal) (Cert.KernelIdeal.Hand.argQ m c) (Cert.KernelIdeal.Hand.argK m c) (Cert.KernelIdeal.Hand.argV m c), ?_, ?_⟩
  · refine (θ_run Cert.KernelIdeal.defs _ _).mono (fun r h c => ⟨?_, ?_, ?_, ?_⟩) (Cert.KernelIdeal.Hand.run_main (F := Ideal) m g)
    · obtain ⟨hq, hk⟩ := Cert.ReferenceIdeal.Hand.fin_of _ _ _ (hpre c)
      exact ((h.1 c).1 3).trans (Cert.KernelIdeal.Hand.arr_of m c _ fun t R l => Cert.KernelIdeal.Hand.block_eq m c hq hk t R l)
    · exact ((h.1 c).2 Cert.KernelIdeal.main_arg0 (Pipeline.mem_restRefs_of Cert.KernelIdeal.main_arg0 (by decide) (by decide))).trans (Cert.KernelIdeal.Gen.V_main_arg0 m c)
    · exact ((h.1 c).2 Cert.KernelIdeal.main_arg1 (Pipeline.mem_restRefs_of Cert.KernelIdeal.main_arg1 (by decide) (by decide))).trans (Cert.KernelIdeal.Gen.V_main_arg1 m c)
    · exact ((h.1 c).2 Cert.KernelIdeal.main_arg2 (Pipeline.mem_restRefs_of Cert.KernelIdeal.main_arg2 (by decide) (by decide))).trans (Cert.KernelIdeal.Gen.V_main_arg2 m c)
  · refine (θ_run Cert.ReferenceIdeal.defs _ _).mono (fun r h c => ⟨(h c).1.trans ?_, (h c).2⟩) (Cert.ReferenceIdeal.Value.run (F := Ideal) m' g')
    rw [Cert.ReferenceIdeal.Read.val_main_v27_eq, (hm c).1, (hm c).2.1, (hm c).2.2]

/-! The main part of the input projection. -/

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal := by
  intro m g m' g' _ hm
  refine ⟨fun c => Cert.Reference2Ideal.Read.val_main_v13 (F := Ideal) (Cert.Kernel2Ideal.Hand.argX m c) (Cert.Kernel2Ideal.Hand.argW m c), ?_, ?_⟩
  · refine (θ_run Cert.Kernel2Ideal.defs _ _).mono (fun r h c => ⟨?_, ?_, ?_⟩) (Cert.Kernel2Ideal.Gen.run_main (F := Ideal) m g)
    · exact ((h c).1 2).trans (Cert.Kernel2Ideal.Hand.arr_of m c _ fun R l => Cert.Kernel2Ideal.Hand.ref_at _ _ R l)
    · exact ((h c).2 Cert.Kernel2Ideal.main_arg0 (Pipeline.mem_restRefs_of Cert.Kernel2Ideal.main_arg0 (by decide) (by decide))).trans (Cert.Kernel2Ideal.Gen.V_main_arg0 m c)
    · exact ((h c).2 Cert.Kernel2Ideal.main_arg1 (Pipeline.mem_restRefs_of Cert.Kernel2Ideal.main_arg1 (by decide) (by decide))).trans (Cert.Kernel2Ideal.Gen.V_main_arg1 m c)
  · refine (θ_run Cert.Reference2Ideal.defs _ _).mono (fun r h c => ⟨(h c).1.trans ?_, (h c).2⟩) (Cert.Reference2Ideal.Value.run (F := Ideal) m' g')
    rw [Cert.Reference2Ideal.Read.val_main_v13_eq, (hm c).1, (hm c).2]

/-! The merge of the two mixers' outputs. -/

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : Cert.algebraic_Kernel3Ideal_Reference3Ideal := by
  intro m g m' g' _ hm
  refine ⟨fun c => Cert.Reference3Ideal.Read.val_main_v18 (F := Ideal) (Cert.Kernel3Ideal.Hand.argA m c) (Cert.Kernel3Ideal.Hand.argB m c)
    (Cert.Kernel3Ideal.Hand.argGa m c) (Cert.Kernel3Ideal.Hand.argGb m c) (Cert.Kernel3Ideal.Hand.argWa m c) (Cert.Kernel3Ideal.Hand.argWb m c), ?_, ?_⟩
  · refine (θ_run Cert.Kernel3Ideal.defs _ _).mono (fun r h c => ⟨?_, (h c).2⟩) (Cert.Kernel3Ideal.Value.run_blocks (F := Ideal) m g)
    exact (h c).1.trans (Cert.Kernel3Ideal.Hand.arr_of m c _ fun R l => Cert.Kernel3Ideal.Hand.ref_at _ _ _ _ _ _ R l)
  · refine (θ_run Cert.Reference3Ideal.defs _ _).mono (fun r h c => ⟨(h c).1.trans ?_, (h c).2⟩) (Cert.Reference3Ideal.Value.run (F := Ideal) m' g')
    rw [Cert.Reference3Ideal.Read.val_main_v18_eq, (hm c).1, (hm c).2.1, (hm c).2.2.1, (hm c).2.2.2.1, (hm c).2.2.2.2.1, (hm c).2.2.2.2.2]

/-! The output projection with its residual and layer norm. -/

theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic4 : Cert.algebraic_Kernel4Ideal_Reference4Ideal := by
  intro m g m' g' _ hm
  refine ⟨fun c => Cert.Reference4Ideal.Read.val_main_v28 (F := Ideal) (Cert.Kernel4Ideal.Hand.argA m c) (Cert.Kernel4Ideal.Hand.argW m c)
      (Cert.Kernel4Ideal.Hand.argX m c) (Cert.Kernel4Ideal.Hand.argG m c) (Cert.Kernel4Ideal.Hand.argB m c),
    fun c => Cert.Reference4Ideal.Read.val_main_v29 (F := Ideal) (Cert.Kernel4Ideal.Hand.argA m c) (Cert.Kernel4Ideal.Hand.argW m c)
      (Cert.Kernel4Ideal.Hand.argX m c) (Cert.Kernel4Ideal.Hand.argG m c) (Cert.Kernel4Ideal.Hand.argB m c), ?_, ?_⟩
  · refine (θ_run Cert.Kernel4Ideal.defs _ _).mono (fun r h c => ⟨?_, ?_, (h c).2.2⟩) (Cert.Kernel4Ideal.Value.run_blocks (F := Ideal) m g)
    · exact (h c).1.trans (Cert.Kernel4Ideal.Hand.arr_of5 m c _ fun R l => Cert.Kernel4Ideal.Hand.ref_at _ _ _ _ _ R l)
    · exact (h c).2.1.trans (Cert.Kernel4Ideal.Hand.arr_of6 m c _ fun R l => Cert.Kernel4Ideal.Hand.ref2_at _ _ _ _ _ R l)
  · refine (θ_run Cert.Reference4Ideal.defs _ _).mono (fun r h c => ⟨(h c).1.trans ?_, (h c).2.1.trans ?_, (h c).2.2⟩) (Cert.Reference4Ideal.Value.run (F := Ideal) m' g')
    · rw [Cert.Reference4Ideal.Read.val_main_v28_eq, (hm c).1, (hm c).2.1, (hm c).2.2.1, (hm c).2.2.2.1, (hm c).2.2.2.2]
    · rw [Cert.Reference4Ideal.Read.val_main_v29_eq, (hm c).1, (hm c).2.1, (hm c).2.2.1, (hm c).2.2.2.1, (hm c).2.2.2.2]

/-! The small part of the input projection. -/

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic5 : Cert.algebraic_Kernel5Ideal_Reference5Ideal := by
  intro m g m' g' _ hm
  refine ⟨fun c => Cert.Reference5Ideal.Read.val_main_v16 (F := Ideal) (Cert.Kernel5Ideal.Hand.argX m c) (Cert.Kernel5Ideal.Hand.argW m c), ?_, ?_⟩
  · refine (θ_run Cert.Kernel5Ideal.defs _ _).mono (fun r h c => ⟨?_, (h c).2⟩) (Cert.Kernel5Ideal.Value.run_blocks (F := Ideal) m g)
    exact (h c).1.trans (Cert.Kernel5Ideal.Hand.arr_of m c _ fun R l => Cert.Kernel5Ideal.Hand.ref_at _ _ R l)
  · refine (θ_run Cert.Reference5Ideal.defs _ _).mono (fun r h c => ⟨(h c).1.trans ?_, (h c).2⟩) (Cert.Reference5Ideal.Value.run (F := Ideal) m' g')
    rw [Cert.Reference5Ideal.Read.val_main_v16_eq, (hm c).1, (hm c).2]

/-! The memory's keys and values. -/

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic6 : Cert.algebraic_Kernel6Ideal_Reference6Ideal := by
  intro m g m' g' _ hm
  refine ⟨fun c => Cert.Reference6Ideal.Read.val_main_v2 (F := Ideal) (Cert.Kernel6Ideal.Hand.argX m c) (Cert.Kernel6Ideal.Hand.argW m c), ?_, ?_⟩
  · refine (θ_run Cert.Kernel6Ideal.defs _ _).mono (fun r h c => ⟨?_, (h c).2⟩) (Cert.Kernel6Ideal.Value.run_blocks (F := Ideal) m g)
    exact (h c).1.trans (Cert.Kernel6Ideal.Hand.arr_of m c _ fun R l => Cert.Kernel6Ideal.Hand.ref_at _ _ R l)
  · refine (θ_run Cert.Reference6Ideal.defs _ _).mono (fun r h c => ⟨(h c).1.trans ?_, (h c).2⟩) (Cert.Reference6Ideal.Value.run (F := Ideal) m' g')
    rw [Cert.Reference6Ideal.Read.val_main_v2_eq, (hm c).1, (hm c).2]

/-! The latent attention's preparation. -/

theorem frame_reference7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

theorem algebraic7 : Cert.algebraic_Kernel7Ideal_Reference7Ideal := by
  intro m g m' g' _ hm
  refine ⟨fun c => Cert.Reference7Ideal.Read.val_main_v100 (F := Ideal) (Cert.Kernel7Ideal.Hand.argCq m c) (Cert.Kernel7Ideal.Hand.argPos m c)
      (Cert.Kernel7Ideal.Hand.argQn m c) (Cert.Kernel7Ideal.Hand.argWq m c),
    fun c => Cert.Reference7Ideal.Read.val_main_v102 (F := Ideal) (Cert.Kernel7Ideal.Hand.argCkv m c) (Cert.Kernel7Ideal.Hand.argKr m c)
      (Cert.Kernel7Ideal.Hand.argPos m c) (Cert.Kernel7Ideal.Hand.argKn m c) (Cert.Kernel7Ideal.Hand.argWkv m c),
    fun c => Cert.Reference7Ideal.Read.val_main_v104 (F := Ideal) (Cert.Kernel7Ideal.Hand.argCkv m c) (Cert.Kernel7Ideal.Hand.argKn m c)
      (Cert.Kernel7Ideal.Hand.argWkv m c), ?_, ?_⟩
  · refine (θ_run Cert.Kernel7Ideal.defs _ _).mono (fun r h c => ⟨?_, ?_, ?_, (h c).2.2.2⟩) (Cert.Kernel7Ideal.Value.run_blocks (F := Ideal) m g)
    · exact (h c).1.trans (Cert.Kernel7Ideal.Hand.arr_of8 m c _ fun b h s l => Cert.Kernel7Ideal.Hand.ref100_at _ _ _ _ b h s l)
    · exact (h c).2.1.trans (Cert.Kernel7Ideal.Hand.arr_of9 m c _ fun b h s l => Cert.Kernel7Ideal.Hand.ref102_at _ _ _ _ _ b h s l)
    · exact (h c).2.2.1.trans (Cert.Kernel7Ideal.Hand.arr_of10 m c _ fun b h s l => Cert.Kernel7Ideal.Hand.ref104_at _ _ _ b h s l)
  · refine (θ_run Cert.Reference7Ideal.defs _ _).mono (fun r h c => ⟨(h c).1.trans ?_, (h c).2.1.trans ?_, (h c).2.2.1.trans ?_, (h c).2.2.2⟩)
      (Cert.Reference7Ideal.Value.run (F := Ideal) m' g')
    · rw [Cert.Reference7Ideal.Read.val_main_v100_eq, (hm c).1, (hm c).2.2.2.1, (hm c).2.2.2.2.1, (hm c).2.2.2.2.2.2.1]
    · rw [Cert.Reference7Ideal.Read.val_main_v102_eq, (hm c).2.1, (hm c).2.2.1, (hm c).2.2.2.1, (hm c).2.2.2.2.2.1, (hm c).2.2.2.2.2.2.2]
    · rw [Cert.Reference7Ideal.Read.val_main_v104_eq, (hm c).2.1, (hm c).2.2.2.2.2.1, (hm c).2.2.2.2.2.2.2]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.Gen.facts,
  frame_kernel, frame_ideal, fun m ρ _ => frame_ideal m ρ trivial, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  trivial, algebraic, trivial, algebraic2, trivial, algebraic3, trivial, algebraic4, trivial, algebraic5, trivial, algebraic6, trivial, algebraic7⟩

end Cert.Proof

end
